-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_u [hPre_finite_u : Cert.Pre_finite_u.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_u.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_u [hPre_finite_u : Cert.Pre_finite_u.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_u.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_rows [hPre_finite_rows : Cert.Pre_finite_rows.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_rows.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_rows [hPre_finite_rows : Cert.Pre_finite_rows.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_rows.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_finite_u [hKernel5Ideal : Cert.Kernel5Ideal.Facts] [hPre_finite_u : Cert.Pre_finite_u.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_u m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_finite_u [hReference5Ideal : Cert.Reference5Ideal.Facts] [hPre_finite_u : Cert.Pre_finite_u.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_u m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Kernel6Ideal_pre_finite_rows [hKernel6Ideal : Cert.Kernel6Ideal.Facts] [hPre_finite_rows : Cert.Pre_finite_rows.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_rows m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Reference6Ideal_pre_finite_rows [hReference6Ideal : Cert.Reference6Ideal.Facts] [hPre_finite_rows : Cert.Pre_finite_rows.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_rows m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  IdealRules.named_const.Statement Cert.KernelIdeal.κ "dead" .f32 0x42D00000#32 ⊤

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)) (v2 : (c : Dev Cert.Kernel2Ideal.nD) → Buf (Elt Ideal) ((c.tc : Thread Cert.Kernel2Ideal.nD Cert.Kernel2Ideal.τ).loc Cert.Kernel2Ideal.main_v6_2)) (v3 : (c : Dev Cert.Kernel2Ideal.nD) → Buf (Elt Ideal) ((c.tc : Thread Cert.Kernel2Ideal.nD Cert.Kernel2Ideal.τ).loc Cert.Kernel2Ideal.main_v6_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_v6_2) = v2 c
          ∧ r.2.mem ((c.tc : Thread Cert.Kernel2Ideal.nD Cert.Kernel2Ideal.τ).loc Cert.Kernel2Ideal.main_v6_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_v24) = v2 c
          ∧ r.2.mem ((c.tc : Thread Cert.Reference2Ideal.nD Cert.Reference2Ideal.τ).loc Cert.Reference2Ideal.main_v25) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_v24) = v2 c
          ∧ r.2.mem ((c.tc : Thread Cert.Reference3Ideal.nD Cert.Reference3Ideal.τ).loc Cert.Reference3Ideal.main_v25) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite_u [hKernel5Ideal : Cert.Kernel5Ideal.Facts] [hReference5Ideal : Cert.Reference5Ideal.Facts] [hPre_finite_u : Cert.Pre_finite_u.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_u m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v18)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v108) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal_pre_finite_rows [hKernel6Ideal : Cert.Kernel6Ideal.Facts] [hReference6Ideal : Cert.Reference6Ideal.Facts] [hPre_finite_rows : Cert.Pre_finite_rows.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_rows m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v17)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v107) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_qk : Cert.Pre_finite_qk.Facts) (hPre_finite_u : Cert.Pre_finite_u.Facts) (hPre_finite_rows : Cert.Pre_finite_rows.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_u (hKernel5Ideal := hKernel5Ideal) (hPre_finite_u := hPre_finite_u)
    ∧ quiescent_Reference5Ideal (hReference5Ideal := hReference5Ideal)
    ∧ quiescent_Reference5Ideal_pre_finite_u (hReference5Ideal := hReference5Ideal) (hPre_finite_u := hPre_finite_u)
    ∧ quiescent_Kernel6 (hKernel6 := hKernel6)
    ∧ quiescent_Kernel6Ideal (hKernel6Ideal := hKernel6Ideal)
    ∧ quiescent_Kernel6Ideal_pre_finite_rows (hKernel6Ideal := hKernel6Ideal) (hPre_finite_rows := hPre_finite_rows)
    ∧ quiescent_Reference6Ideal (hReference6Ideal := hReference6Ideal)
    ∧ quiescent_Reference6Ideal_pre_finite_rows (hReference6Ideal := hReference6Ideal) (hPre_finite_rows := hPre_finite_rows)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_u (hKernel5Ideal := hKernel5Ideal) (hReference5Ideal := hReference5Ideal) (hPre_finite_u := hPre_finite_u)
    ∧ preserves_Kernel6_Kernel6Ideal
    ∧ algebraic_Kernel6Ideal_Reference6Ideal_pre_finite_rows (hKernel6Ideal := hKernel6Ideal) (hReference6Ideal := hReference6Ideal) (hPre_finite_rows := hPre_finite_rows)
-- ==== Pre_finite_qk.lean ====
abbrev S2x8192x1536 : Shape := ⟨3, ![2, 8192, 1536]⟩
abbrev S2x8192x1024 : Shape := ⟨3, ![2, 8192, 1024]⟩
abbrev S_ : Shape := ⟨0, ![]⟩

class Facts : Prop where
  slices_S2x8192x1536_S2x8192x1024_0_0_0 : S2x8192x1536.Slices ![0, 0, 0] S2x8192x1024
  bitsLt_bf16_f32 : FTy.bits .bf16 < FTy.bits .f32
  bcast_S_S2x8192x1024 : S_.BroadcastsInDim S2x8192x1024 (![] : Fin 0 → Fin S2x8192x1024.rank)

variable [Facts]

def fn {F : FTy → Type} [FloatOps F] (main_arg0 : FVec F S2x8192x1536 .bf16) : IVec S2x8192x1024 1 :=
  let main_v0 : FVec F S2x8192x1024 .bf16 := (extractStridedSlice S2x8192x1024 ![0, 0, 0] · slices_S2x8192x1536_S2x8192x1024_0_0_0) main_arg0
  let main_v1 : FVec F S2x8192x1024 .f32 := (extf .f32 · bitsLt_bf16_f32) main_v0
  let main_v2 : FVec F S2x8192x1024 .f32 := Host.absf main_v1
  let main_cst : FVec F S_ .f32 := constant S_ .f32 0x7F800000#32
  let main_v3 : FVec F S2x8192x1024 .f32 := broadcastInDim S2x8192x1024 ![] bcast_S_S2x8192x1024 main_cst
  let main_v4 : IVec S2x8192x1024 1 := cmpf .olt main_v2 main_v3
  main_v4
-- ==== Pre_finite_rows.lean ====
abbrev S16x64x1024 : Shape := ⟨3, ![16, 64, 1024]⟩
abbrev S16x64x512 : Shape := ⟨3, ![16, 64, 512]⟩
abbrev S16x64x1536 : Shape := ⟨3, ![16, 64, 1536]⟩
abbrev S16x15x256 : Shape := ⟨3, ![16, 15, 256]⟩
abbrev S16x256x256 : Shape := ⟨3, ![16, 256, 256]⟩
abbrev S4x64x64 : Shape := ⟨3, ![4, 64, 64]⟩
abbrev S256 : Shape := ⟨1, ![256]⟩
abbrev S1024x1024 : Shape := ⟨2, ![1024, 1024]⟩
abbrev S1024 : Shape := ⟨1, ![1024]⟩
abbrev S16x64x256 : Shape := ⟨3, ![16, 64, 256]⟩
abbrev S16x79x256 : Shape := ⟨3, ![16, 79, 256]⟩
abbrev S_ : Shape := ⟨0, ![]⟩

class Facts : Prop where
  slices_S16x64x1536_S16x64x256_0_0_512 : S16x64x1536.Slices ![0, 0, 512] S16x64x256
  concatenates_S16x15x256_S16x64x256_S16x79x256_d1 : Shape.Concatenates [S16x15x256, S16x64x256] S16x79x256 1
  bcast_S_S16x79x256 : S_.BroadcastsInDim S16x79x256 (![] : Fin 0 → Fin S16x79x256.rank)

variable [Facts]

def fn {F : FTy → Type} [FloatOps F] (main_arg0 : FVec F S16x64x1024 .f32) (main_arg1 : FVec F S16x64x512 .f32) (main_arg2 : FVec F S16x64x1536 .f32) (main_arg3 : FVec F S16x15x256 .f32) (main_arg4 : FVec F S16x256x256 .f32) (main_arg5 : FVec F S16x256x256 .f32) (main_arg6 : FVec F S4x64x64 .f32) (main_arg7 : FVec F S256 .f32) (main_arg8 : FVec F S1024x1024 .f32) (main_arg9 : FVec F S1024 .f32) : IVec S16x79x256 1 :=
  let main_v0 : FVec F S16x64x256 .f32 := (extractStridedSlice S16x64x256 ![0, 0, 512] · slices_S16x64x1536_S16x64x256_0_0_512) main_arg2
  let main_v1 : FVec F S16x79x256 .f32 := (fun a b => concatenate S16x79x256 1 [⟨S16x15x256, a⟩, ⟨S16x64x256, b⟩] concatenates_S16x15x256_S16x64x256_S16x79x256_d1) main_arg3 main_v0
  let main_v2 : FVec F S16x79x256 .f32 := Host.absf main_v1
  let main_cst : FVec F S_ .f32 := constant S_ .f32 0x7F800000#32
  let main_v3 : FVec F S16x79x256 .f32 := broadcastInDim S16x79x256 ![] bcast_S_S16x79x256 main_cst
  let main_v4 : IVec S16x79x256 1 := cmpf .olt main_v2 main_v3
  main_v4
-- ==== Pre_finite_u.lean ====
abbrev S2x8192x1024 : Shape := ⟨3, ![2, 8192, 1024]⟩
abbrev S2x8192x512 : Shape := ⟨3, ![2, 8192, 512]⟩
abbrev S2x8192x1536 : Shape := ⟨3, ![2, 8192, 1536]⟩
abbrev S2x256x256 : Shape := ⟨3, ![2, 256, 256]⟩
abbrev S4x64x64 : Shape := ⟨3, ![4, 64, 64]⟩
abbrev S256 : Shape := ⟨1, ![256]⟩
abbrev S1024x1024 : Shape := ⟨2, ![1024, 1024]⟩
abbrev S1024 : Shape := ⟨1, ![1024]⟩
abbrev S2x8192x256 : Shape := ⟨3, ![2, 8192, 256]⟩
abbrev S_ : Shape := ⟨0, ![]⟩

class Facts : Prop where
  slices_S2x8192x1536_S2x8192x256_0_0_512 : S2x8192x1536.Slices ![0, 0, 512] S2x8192x256
  bcast_S_S2x8192x256 : S_.BroadcastsInDim S2x8192x256 (![] : Fin 0 → Fin S2x8192x256.rank)

variable [Facts]

def fn {F : FTy → Type} [FloatOps F] (main_arg0 : FVec F S2x8192x1024 .f32) (main_arg1 : FVec F S2x8192x512 .f32) (main_arg2 : FVec F S2x8192x1536 .f32) (main_arg3 : FVec F S2x256x256 .f32) (main_arg4 : FVec F S2x256x256 .f32) (main_arg5 : FVec F S4x64x64 .f32) (main_arg6 : FVec F S256 .f32) (main_arg7 : FVec F S1024x1024 .f32) (main_arg8 : FVec F S1024 .f32) : IVec S2x8192x256 1 :=
  let main_v0 : FVec F S2x8192x256 .f32 := (extractStridedSlice S2x8192x256 ![0, 0, 512] · slices_S2x8192x1536_S2x8192x256_0_0_512) main_arg2
  let main_v1 : FVec F S2x8192x256 .f32 := Host.absf main_v0
  let main_cst : FVec F S_ .f32 := constant S_ .f32 0x7F800000#32
  let main_v2 : FVec F S2x8192x256 .f32 := broadcastInDim S2x8192x256 ![] bcast_S_S2x8192x256 main_cst
  let main_v3 : IVec S2x8192x256 1 := cmpf .olt main_v1 main_v2
  main_v3
-- ==== Kernel.lean ====
abbrev S2x8192x1536 : Shape := ⟨3, ![2, 8192, 1536]⟩
abbrev S2x8192x512 : Shape := ⟨3, ![2, 8192, 512]⟩
abbrev S1x256x256 : Shape := ⟨3, ![1, 256, 256]⟩
abbrev S1x8192x256 : Shape := ⟨3, ![1, 8192, 256]⟩
abbrev S4x256x128 : Shape := ⟨3, ![4, 256, 128]⟩
abbrev S256x128 : Shape := ⟨2, ![256, 128]⟩
abbrev S1x256x128 : Shape := ⟨3, ![1, 256, 128]⟩
abbrev S256x256 : Shape := ⟨2, ![256, 256]⟩
abbrev S256x1 : Shape := ⟨2, ![256, 1]⟩
abbrev S512x128 : Shape := ⟨2, ![512, 128]⟩
abbrev S1x512x128 : Shape := ⟨3, ![1, 512, 128]⟩
abbrev S512x512 : Shape := ⟨2, ![512, 512]⟩
abbrev S256x512 : Shape := ⟨2, ![256, 512]⟩
abbrev S2048x256 : Shape := ⟨2, ![2048, 256]⟩
abbrev S2048x512 : Shape := ⟨2, ![2048, 512]⟩
abbrev S512x256 : Shape := ⟨2, ![512, 256]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 2
  | .vmem => 9
  | .smem => 0
  | _ => 0

abbrev bufTy : (tb : Table) → Fin (tcTables nBuf tb) → BufTy
  | .hbm, ⟨0, _⟩ => ⟨S2x8192x1536, .bf16⟩
  | .hbm, ⟨1, _⟩ => ⟨S2x8192x512, .f32⟩
  | .local _ .vmem, ⟨0, _⟩ => ⟨S1x256x256, .bf16⟩
  | .local _ .vmem, ⟨1, _⟩ => ⟨S1x256x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x256, .bf16⟩
  | .local _ .vmem, ⟨5, _⟩ => ⟨S1x8192x256, .bf16⟩
  | .local _ .vmem, ⟨6, _⟩ => ⟨S1x256x256, .f32⟩
  | .local _ .vmem, ⟨7, _⟩ => ⟨S1x256x256, .f32⟩
  | .local _ .vmem, ⟨8, _⟩ => ⟨S4x256x128, .f32⟩
  | _, _ => ⟨S2x8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 32], ![false, false, false]⟩

def k0_cond1 (i : grid0.Coords) : BitVec 1 :=
  let arg2 : BitVec 32 := BitVec.ofNat 32 (i 2).val
  let c0_i32 : BitVec 32 := 0#32
  let v23 : BitVec 1 := Scalar.cmpi .sgt arg2 c0_i32
  let v24 : BitVec 32 := Scalar.extui v23
  let c0_i32_7 : BitVec 32 := 0#32
  let v25 : BitVec 1 := Scalar.cmpi .ne v24 c0_i32_7
  v25

def k0_mult1 (i : grid0.Coords) : BitVec 32 :=
  let arg2 : BitVec 32 := BitVec.ofNat 32 (i 2).val
  let c1_i32_26 : BitVec 32 := 1#32
  let v54 : BitVec 32 := Scalar.subi arg2 c1_i32_26
  let c256_i32 : BitVec 32 := 256#32
  let v55 : BitVec 32 := Scalar.muli v54 c256_i32
  v55
def k0_off1 (i : grid0.Coords) : Fin 3 → Nat :=
  let c0_27 : Index := 0#32
  let arg2 : BitVec 32 := BitVec.ofNat 32 (i 2).val
  let c1_i32_26 : BitVec 32 := 1#32
  let v54 : BitVec 32 := Scalar.subi arg2 c1_i32_26
  let c256_i32 : BitVec 32 := 256#32
  let v55 : BitVec 32 := Scalar.muli v54 c256_i32
  let v56 : BitVec 32 := v55
  let v58 : Index := Scalar.indexCast v56
  let c0_28 : Index := 0#32
  ![0, v58.toNat, 0]
def k0_off2 (i : grid0.Coords) : Fin 3 → Nat :=
  let c0_30 : Index := 0#32
  let arg2 : BitVec 32 := BitVec.ofNat 32 (i 2).val
  let c1_i32_26 : BitVec 32 := 1#32
  let v54 : BitVec 32 := Scalar.subi arg2 c1_i32_26
  let c256_i32 : BitVec 32 := 256#32
  let v55 : BitVec 32 := Scalar.muli v54 c256_i32
  let v56 : BitVec 32 := v55
  let v65 : Index := Scalar.indexCast v56
  let c128_31 : Index := 128#32
  ![0, v65.toNat, 128]
def k0_mult2 (i : grid0.Coords) (arg8 : BitVec 32) : BitVec 32 :=
  let arg2 : BitVec 32 := BitVec.ofNat 32 (i 2).val
  let c1_i32 : BitVec 32 := 1#32
  let v27 : BitVec 32 := Scalar.subi arg2 c1_i32
  let c1_i32_26 : BitVec 32 := 1#32
  let v54 : BitVec 32 := Scalar.subi v27 c1_i32_26
  let v55 : BitVec 32 := Scalar.subi v54 arg8
  let c256_i32 : BitVec 32 := 256#32
  let v56 : BitVec 32 := Scalar.muli v55 c256_i32
  v56

def k0_off3 (i : grid0.Coords) (arg8 : BitVec 32) : Fin 3 → Nat :=
  let c0_27 : Index := 0#32
  let arg2 : BitVec 32 := BitVec.ofNat 32 (i 2).val
  let c1_i32 : BitVec 32 := 1#32
  let v27 : BitVec 32 := Scalar.subi arg2 c1_i32
  let c1_i32_26 : BitVec 32 := 1#32
  let v54 : BitVec 32 := Scalar.subi v27 c1_i32_26
  let v55 : BitVec 32 := Scalar.subi v54 arg8
  let c256_i32 : BitVec 32 := 256#32
  let v56 : BitVec 32 := Scalar.muli v55 c256_i32
  let v57 : BitVec 32 := v56
  let v58 : Index := Scalar.indexCast v57
  let c0_28 : Index := 0#32
  ![0, v58.toNat, 0]
def k0_off4 (i : grid0.Coords) (arg8 : BitVec 32) : Fin 3 → Nat :=
  let c0_61 : Index := 0#32
  let arg2 : BitVec 32 := BitVec.ofNat 32 (i 2).val
  let c1_i32 : BitVec 32 := 1#32
  let v27 : BitVec 32 := Scalar.subi arg2 c1_i32
  let c1_i32_26 : BitVec 32 := 1#32
  let v54 : BitVec 32 := Scalar.subi v27 c1_i32_26
  let v55 : BitVec 32 := Scalar.subi v54 arg8
  let c256_i32 : BitVec 32 := 256#32
  let v56 : BitVec 32 := Scalar.muli v55 c256_i32
  let v57 : BitVec 32 := v56
  let v138 : Index := Scalar.indexCast v57
  let c128_62 : Index := 128#32
  ![0, v138.toNat, 128]

def k0_chk1 (i : grid0.Coords) (arg8 : BitVec 32) : Prop :=
  (256 ∣ (k0_mult2 i arg8).toNat) ∧
  (∀ a, (k0_off3 i arg8) a + S1x256x128.size a ≤ S1x8192x256.size a) ∧
  (∀ a, (k0_off4 i arg8) a + S1x256x128.size a ≤ S1x8192x256.size a)
theorem k0_mult2_dvd : ∀ (i : grid0.Coords) (arg8 : BitVec 32) (k0_hw1 : k0_chk1 i arg8), 256 ∣ (k0_mult2 i arg8).toNat := fun i arg8 k0_hw1 => k0_hw1.1
theorem k0_off3_inb : ∀ (i : grid0.Coords) (arg8 : BitVec 32) (k0_hw1 : k0_chk1 i arg8), ∀ a, (k0_off3 i arg8) a + S1x256x128.size a ≤ S1x8192x256.size a := fun i arg8 k0_hw1 => k0_hw1.2.1
theorem k0_off4_inb : ∀ (i : grid0.Coords) (arg8 : BitVec 32) (k0_hw1 : k0_chk1 i arg8), ∀ a, (k0_off4 i arg8) a + S1x256x128.size a ≤ S1x8192x256.size a := fun i arg8 k0_hw1 => k0_hw1.2.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "dead" => some ⊤
  | _ => none
-- ==== ReferenceIdeal.lean ====
abbrev S2x8192x1536 : Shape := ⟨3, ![2, 8192, 1536]⟩
abbrev S2x8192x512 : Shape := ⟨3, ![2, 8192, 512]⟩
abbrev S2x8192x8x64 : Shape := ⟨4, ![2, 8192, 8, 64]⟩
abbrev S8192 : Shape := ⟨1, ![8192]⟩
abbrev S2x8x8192x8192 : Shape := ⟨4, ![2, 8, 8192, 8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x8x64x8192 : Shape := ⟨4, ![2, 8, 64, 8192]⟩

abbrev nBuf : Space → Nat
  | .hbm => 67
  | .vmem => 0
  | .smem => 0
  | _ => 0

abbrev bufTy : (tb : Table) → Fin (tcTables nBuf tb) → BufTy
  | .hbm, ⟨0, _⟩ => ⟨S2x8192x1536, .bf16⟩
  | .hbm, ⟨1, _⟩ => ⟨S2x8192x1536, .f32⟩
  | .hbm, ⟨2, _⟩ => ⟨S2x8192x512, .f32⟩
  | .hbm, ⟨3, _⟩ => ⟨S2x8192x512, .f32⟩
  | .hbm, ⟨4, _⟩ => ⟨S2x8192x512, .f32⟩
  | .hbm, ⟨5, _⟩ => ⟨S2x8192x8x64, .f32⟩
  | .hbm, ⟨6, _⟩ => ⟨S2x8192x8x64, .f32⟩
  | .hbm, ⟨7, _⟩ => ⟨S2x8192x8x64, .f32⟩
  | .hbm, ⟨8, _⟩ => ⟨S8192, .i32⟩
  | .hbm, ⟨9, _⟩ => ⟨S2x8x8192x8192, .f32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S2x8x8192x8192, .f32⟩
  | .hbm, ⟨16, _⟩ => ⟨S_, .f32⟩
  | .hbm, ⟨17, _⟩ => ⟨S2x8x8192x8192, .f32⟩
  | .hbm, ⟨18, _⟩ => ⟨S2x8x8192x8192, .f32⟩
  | .hbm, ⟨19, _⟩ => ⟨S2x8x8192x8192, .f32⟩
  | .hbm, ⟨20, _⟩ => ⟨S2x8x8192x8192, .f32⟩
  | .hbm, ⟨21, _⟩ => ⟨S2x8x8192x8192, .i1⟩
  | .hbm, ⟨22, _⟩ => ⟨S2x8x8192x8192, .f32⟩
  | .hbm, ⟨23, _⟩ => ⟨S2x8x8192x8192, .f32⟩
  | .hbm, ⟨24, _⟩ => ⟨S2x8x8192x8192, .f32⟩
  | .hbm, ⟨25, _⟩ => ⟨S2x8x8192x8192, .f32⟩
  | .hbm, ⟨26, _⟩ => ⟨S2x8x8192x8192, .f32⟩
  | .hbm, ⟨27, _⟩ => ⟨S2x8x8192x8192, .f32⟩
  | .hbm, ⟨28, _⟩ => ⟨S2x8x8192x8192, .f32⟩
  | .hbm, ⟨29, _⟩ => ⟨S2x8x8192x8192, .f32⟩
  | .hbm, ⟨30, _⟩ => ⟨S2x8x8192x8192, .f32⟩
  | .hbm, ⟨31, _⟩ => ⟨S2x8x8192x8192, .f32⟩
  | .hbm, ⟨32, _⟩ => ⟨S2x8x8192x8192, .f32⟩
  | .hbm, ⟨33, _⟩ => ⟨S_, .f32⟩
  | .hbm, ⟨34, _⟩ => ⟨S2x8x8192x8192, .f32⟩
  | .hbm, ⟨35, _⟩ => ⟨S2x8x8192x8192, .f32⟩
  | .hbm, ⟨36, _⟩ => ⟨S2x8x8192x8192, .f32⟩
  | .hbm, ⟨37, _⟩ => ⟨S2x8x8192x8192, .f32⟩
  | .hbm, ⟨38, _⟩ => ⟨S2x8x8192x8192, .i1⟩
  | .hbm, ⟨39, _⟩ => ⟨S2x8x8192x8192, .f32⟩
  | .hbm, ⟨40, _⟩ => ⟨S2x8x8192x8192, .f32⟩
  | .hbm, ⟨41, _⟩ => ⟨S2x8x8192x8192, .f32⟩
  | .hbm, ⟨42, _⟩ => ⟨S2x8x8192x8192, .f32⟩
  | .hbm, ⟨43, _⟩ => ⟨S2x8x8192x8192, .f32⟩
  | .hbm, ⟨44, _⟩ => ⟨S2x8x8192x8192, .f32⟩
  | .hbm, ⟨45, _⟩ => ⟨S2x8x8192x8192, .f32⟩
  | .hbm, ⟨46, _⟩ => ⟨S2x8x8192x8192, .f32⟩
  | .hbm, ⟨47, _⟩ => ⟨S2x8x8192x8192, .f32⟩
  | .hbm, ⟨48, _⟩ => ⟨S_, .f32⟩
  | .hbm, ⟨49, _⟩ => ⟨S_, .f32⟩
  | .hbm, ⟨50, _⟩ => ⟨S2x8x8192x8192, .i1⟩
  | .hbm, ⟨51, _⟩ => ⟨S2x8x8192x8192, .f32⟩
  | .hbm, ⟨52, _⟩ => ⟨S2x8x8192x8192, .f32⟩
  | .hbm, ⟨53, _⟩ => ⟨S_, .f32⟩
  | .hbm, ⟨54, _⟩ => ⟨S_, .f32⟩
  | .hbm, ⟨55, _⟩ => ⟨S2x8x8192x8192, .f32⟩
  | .hbm, ⟨56, _⟩ => ⟨S2x8x8192x8192, .f32⟩
  | .hbm, ⟨57, _⟩ => ⟨S2x8x8192x8192, .f32⟩
  | .hbm, ⟨58, _⟩ => ⟨S2x8x8192x8192, .f32⟩
  | .hbm, ⟨59, _⟩ => ⟨S_, .f32⟩
  | .hbm, ⟨60, _⟩ => ⟨S_, .f32⟩
  | .hbm, ⟨61, _⟩ => ⟨S2x8x8192x8192, .i1⟩
  | .hbm, ⟨62, _⟩ => ⟨S2x8x8192x8192, .f32⟩
  | .hbm, ⟨63, _⟩ => ⟨S2x8x8192x8192, .f32⟩
  | .hbm, ⟨64, _⟩ => ⟨S2x8x64x8192, .f32⟩
  | .hbm, ⟨65, _⟩ => ⟨S2x8192x8x64, .f32⟩
  | .hbm, ⟨66, _⟩ => ⟨S2x8192x512, .f32⟩
  | _, _ => ⟨S2x8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_call1_v0 : Ref sig .tc := ⟨.hbm, 32, rfl⟩
abbrev main_call1_call0_cst : Ref sig .tc := ⟨.hbm, 33, rfl⟩
abbrev main_call1_call0_v0 : Ref sig .tc := ⟨.hbm, 34, rfl⟩
abbrev main_call1_call0_v1 : Ref sig .tc := ⟨.hbm, 35, rfl⟩
abbrev main_call1_call0_v2 : Ref sig .tc := ⟨.hbm, 36, rfl⟩
abbrev main_call1_call0_v3 : Ref sig .tc := ⟨.hbm, 37, rfl⟩
abbrev main_call1_call0_v4 : Ref sig .tc := ⟨.hbm, 38, rfl⟩
abbrev main_call1_call0_v5 : Ref sig .tc := ⟨.hbm, 39, rfl⟩
abbrev main_call1_call0_v6 : Ref sig .tc := ⟨.hbm, 40, rfl⟩
abbrev main_call1_call0_v7 : Ref sig .tc := ⟨.hbm, 41, rfl⟩
abbrev main_call1_call0_v8 : Ref sig .tc := ⟨.hbm, 42, rfl⟩
abbrev main_call1_call0_v9 : Ref sig .tc := ⟨.hbm, 43, rfl⟩
abbrev main_call1_call0_v10 : Ref sig .tc := ⟨.hbm, 44, rfl⟩
abbrev main_call1_call0_v11 : Ref sig .tc := ⟨.hbm, 45, rfl⟩
abbrev main_call1_v1 : Ref sig .tc := ⟨.hbm, 46, rfl⟩
abbrev main_v16 : Ref sig .tc := ⟨.hbm, 47, rfl⟩
abbrev main_cst : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v17 : Ref sig .tc := ⟨.hbm, 52, rfl⟩
abbrev main_call3_cst : Ref sig .tc := ⟨.hbm, 53, rfl⟩
abbrev main_call3_v0 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_cst_0 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024 : Shape := ⟨1, ![1024]⟩
abbrev S1024x3072 : Shape := ⟨2, ![1024, 3072]⟩
abbrev S1024x1024 : Shape := ⟨2, ![1024, 1024]⟩
abbrev S16384x1024 : Shape := ⟨2, ![16384, 1024]⟩
abbrev S1x1024 : Shape := ⟨2, ![1, 1024]⟩
abbrev S2x512x8192 : Shape := ⟨3, ![2, 512, 8192]⟩
abbrev S16384x1536 : Shape := ⟨2, ![16384, 1536]⟩
abbrev S512x1024 : Shape := ⟨2, ![512, 1024]⟩
abbrev S1x512x512 : Shape := ⟨3, ![1, 512, 512]⟩
abbrev S512x1536 : Shape := ⟨2, ![512, 1536]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x1536 : Shape := ⟨2, ![1024, 1536]⟩

abbrev nBuf : Space → Nat
  | .hbm => 13
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3072, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S16384x1024, .f32⟩
  | .hbm, ⟨7, _⟩ => ⟨S1x1024, .f32⟩
  | .hbm, ⟨8, _⟩ => ⟨S1024x3072, .bf16⟩
  | .hbm, ⟨9, _⟩ => ⟨S2x512x8192, .f32⟩
  | .hbm, ⟨10, _⟩ => ⟨S2x512x8192, .f32⟩
  | .hbm, ⟨11, _⟩ => ⟨S16384x1536, .bf16⟩
  | .hbm, ⟨12, _⟩ => ⟨S16384x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x1024, .bf16⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S512x1536, .bf16⟩
  | .local _ .vmem, ⟨10, _⟩ => ⟨S512x1536, .bf16⟩
  | .local _ .vmem, ⟨11, _⟩ => ⟨S512x1536, .f32⟩
  | .local _ .vmem, ⟨12, _⟩ => ⟨S512x1536, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v6_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S2x8192x1024 : Shape := ⟨3, ![2, 8192, 1024]⟩
abbrev S1024 : Shape := ⟨1, ![1024]⟩
abbrev S1024x3072 : Shape := ⟨2, ![1024, 3072]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3072 : Shape := ⟨3, ![2, 8192, 3072]⟩
abbrev S2x8192x512 : Shape := ⟨3, ![2, 8192, 512]⟩
abbrev S2x8192x1536 : Shape := ⟨3, ![2, 8192, 1536]⟩
abbrev S2x512x8192 : Shape := ⟨3, ![2, 512, 8192]⟩
abbrev S16384x1536 : Shape := ⟨2, ![16384, 1536]⟩

abbrev nBuf : Space → Nat
  | .hbm => 33
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3072, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x3072, .f32⟩
  | .hbm, ⟨20, _⟩ => ⟨S2x8192x512, .f32⟩
  | .hbm, ⟨21, _⟩ => ⟨S2x8192x512, .f32⟩
  | .hbm, ⟨22, _⟩ => ⟨S2x8192x512, .f32⟩
  | .hbm, ⟨23, _⟩ => ⟨S2x8192x1536, .f32⟩
  | .hbm, ⟨24, _⟩ => ⟨S_, .f32⟩
  | .hbm, ⟨25, _⟩ => ⟨S2x8192x512, .f32⟩
  | .hbm, ⟨26, _⟩ => ⟨S2x8192x512, .f32⟩
  | .hbm, ⟨27, _⟩ => ⟨S2x8192x1536, .f32⟩
  | .hbm, ⟨28, _⟩ => ⟨S2x8192x1536, .bf16⟩
  | .hbm, ⟨29, _⟩ => ⟨S2x512x8192, .f32⟩
  | .hbm, ⟨30, _⟩ => ⟨S2x512x8192, .f32⟩
  | .hbm, ⟨31, _⟩ => ⟨S16384x1536, .bf16⟩
  | .hbm, ⟨32, _⟩ => ⟨S16384x1536, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel3.lean ====
abbrev S16x64x1024 : Shape := ⟨3, ![16, 64, 1024]⟩
abbrev S1024 : Shape := ⟨1, ![1024]⟩
abbrev S1024x3072 : Shape := ⟨2, ![1024, 3072]⟩
abbrev S1024x1024 : Shape := ⟨2, ![1024, 1024]⟩
abbrev S1x1024 : Shape := ⟨2, ![1, 1024]⟩
abbrev S1024x512 : Shape := ⟨2, ![1024, 512]⟩
abbrev S1024x1536 : Shape := ⟨2, ![1024, 1536]⟩
abbrev S512x1024 : Shape := ⟨2, ![512, 1024]⟩
abbrev S512x512 : Shape := ⟨2, ![512, 512]⟩
abbrev S512x1536 : Shape := ⟨2, ![512, 1536]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S16x64x1024, .f32⟩
  | .hbm, ⟨1, _⟩ => ⟨S1024, .f32⟩
  | .hbm, ⟨2, _⟩ => ⟨S1024x3072, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x1024, .f32⟩
  | .hbm, ⟨7, _⟩ => ⟨S1x1024, .f32⟩
  | .hbm, ⟨8, _⟩ => ⟨S1024x3072, .bf16⟩
  | .hbm, ⟨9, _⟩ => ⟨S1024x512, .f32⟩
  | .hbm, ⟨10, _⟩ => ⟨S1024x512, .f32⟩
  | .hbm, ⟨11, _⟩ => ⟨S1024x1536, .bf16⟩
  | .hbm, ⟨12, _⟩ => ⟨S1024x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x1024, .bf16⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x1536, .bf16⟩
  | .local _ .vmem, ⟨10, _⟩ => ⟨S512x1536, .bf16⟩
  | .local _ .vmem, ⟨11, _⟩ => ⟨S512x1536, .f32⟩
  | .local _ .vmem, ⟨12, _⟩ => ⟨S512x1536, .f32⟩
  | _, _ => ⟨S16x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v6_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16x64x1024 : Shape := ⟨3, ![16, 64, 1024]⟩
abbrev S1024 : Shape := ⟨1, ![1024]⟩
abbrev S1024x3072 : Shape := ⟨2, ![1024, 3072]⟩
abbrev S_ : Shape := ⟨0, ![]⟩
abbrev S16x64 : Shape := ⟨2, ![16, 64]⟩
abbrev S16x64x1 : Shape := ⟨3, ![16, 64, 1]⟩
abbrev S1x1x1024 : Shape := ⟨3, ![1, 1, 1024]⟩
abbrev S16x64x3072 : Shape := ⟨3, ![16, 64, 3072]⟩
abbrev S16x64x512 : Shape := ⟨3, ![16, 64, 512]⟩
abbrev S16x64x1536 : Shape := ⟨3, ![16, 64, 1536]⟩
abbrev S1024x512 : Shape := ⟨2, ![1024, 512]⟩
abbrev S1024x1536 : Shape := ⟨2, ![1024, 1536]⟩

abbrev nBuf : Space → Nat
  | .hbm => 33
  | .vmem => 0
  | .smem => 0
  | _ => 0

abbrev bufTy : (tb : Table) → Fin (tcTables nBuf tb) → BufTy
  | .hbm, ⟨0, _⟩ => ⟨S16x64x1024, .f32⟩
  | .hbm, ⟨1, _⟩ => ⟨S1024, .f32⟩
  | .hbm, ⟨2, _⟩ => ⟨S1024x3072, .f32⟩
  | .hbm, ⟨3, _⟩ => ⟨S16x64x1024, .f32⟩
  | .hbm, ⟨4, _⟩ => ⟨S_, .f32⟩
  | .hbm, ⟨5, _⟩ => ⟨S16x64, .f32⟩
  | .hbm, ⟨6, _⟩ => ⟨S16x64x1, .f32⟩
  | .hbm, ⟨7, _⟩ => ⟨S_, .f32⟩
  | .hbm, ⟨8, _⟩ => ⟨S16x64x1, .f32⟩
  | .hbm, ⟨9, _⟩ => ⟨S16x64x1, .f32⟩
  | .hbm, ⟨10, _⟩ => ⟨S_, .f32⟩
  | .hbm, ⟨11, _⟩ => ⟨S16x64x1, .f32⟩
  | .hbm, ⟨12, _⟩ => ⟨S16x64x1, .f32⟩
  | .hbm, ⟨13, _⟩ => ⟨S16x64x1, .f32⟩
  | .hbm, ⟨14, _⟩ => ⟨S16x64x1024, .f32⟩
  | .hbm, ⟨15, _⟩ => ⟨S16x64x1024, .f32⟩
  | .hbm, ⟨16, _⟩ => ⟨S1x1x1024, .f32⟩
  | .hbm, ⟨17, _⟩ => ⟨S16x64x1024, .f32⟩
  | .hbm, ⟨18, _⟩ => ⟨S16x64x1024, .f32⟩
  | .hbm, ⟨19, _⟩ => ⟨S16x64x3072, .f32⟩
  | .hbm, ⟨20, _⟩ => ⟨S16x64x512, .f32⟩
  | .hbm, ⟨21, _⟩ => ⟨S16x64x512, .f32⟩
  | .hbm, ⟨22, _⟩ => ⟨S16x64x512, .f32⟩
  | .hbm, ⟨23, _⟩ => ⟨S16x64x1536, .f32⟩
  | .hbm, ⟨24, _⟩ => ⟨S_, .f32⟩
  | .hbm, ⟨25, _⟩ => ⟨S16x64x512, .f32⟩
  | .hbm, ⟨26, _⟩ => ⟨S16x64x512, .f32⟩
  | .hbm, ⟨27, _⟩ => ⟨S16x64x1536, .f32⟩
  | .hbm, ⟨28, _⟩ => ⟨S16x64x1536, .bf16⟩
  | .hbm, ⟨29, _⟩ => ⟨S1024x512, .f32⟩
  | .hbm, ⟨30, _⟩ => ⟨S1024x512, .f32⟩
  | .hbm, ⟨31, _⟩ => ⟨S1024x1536, .bf16⟩
  | .hbm, ⟨32, _⟩ => ⟨S1024x1536, .f32⟩
  | _, _ => ⟨S16x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel4.lean ====
abbrev S2x256x1024 : Shape := ⟨3, ![2, 256, 1024]⟩
abbrev S1024 : Shape := ⟨1, ![1024]⟩
abbrev S1024x512 : Shape := ⟨2, ![1024, 512]⟩
abbrev S512x1024 : Shape := ⟨2, ![512, 1024]⟩
abbrev S1x1024 : Shape := ⟨2, ![1, 1024]⟩
abbrev S512x256 : Shape := ⟨2, ![512, 256]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S256x512 : Shape := ⟨2, ![256, 512]⟩

abbrev nBuf : Space → Nat
  | .hbm => 8
  | .vmem => 8
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x512, .f32⟩
  | .hbm, ⟨3, _⟩ => ⟨S512x1024, .f32⟩
  | .hbm, ⟨4, _⟩ => ⟨S1x1024, .f32⟩
  | .hbm, ⟨5, _⟩ => ⟨S1024x512, .bf16⟩
  | .hbm, ⟨6, _⟩ => ⟨S512x256, .f32⟩
  | .hbm, ⟨7, _⟩ => ⟨S512x256, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x512, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S2x256x1024 : Shape := ⟨3, ![2, 256, 1024]⟩
abbrev S1024 : Shape := ⟨1, ![1024]⟩
abbrev S1024x512 : Shape := ⟨2, ![1024, 512]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x512 : Shape := ⟨3, ![2, 256, 512]⟩
abbrev S2x256x256 : Shape := ⟨3, ![2, 256, 256]⟩
abbrev S512x256 : Shape := ⟨2, ![512, 256]⟩

abbrev nBuf : Space → Nat
  | .hbm => 24
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x512, .f32⟩
  | .hbm, ⟨3, _⟩ => ⟨S2x256x1024, .f32⟩
  | .hbm, ⟨4, _⟩ => ⟨S_, .f32⟩
  | .hbm, ⟨5, _⟩ => ⟨S2x256, .f32⟩
  | .hbm, ⟨6, _⟩ => ⟨S2x256x1, .f32⟩
  | .hbm, ⟨7, _⟩ => ⟨S_, .f32⟩
  | .hbm, ⟨8, _⟩ => ⟨S2x256x1, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S2x256x1, .f32⟩
  | .hbm, ⟨14, _⟩ => ⟨S2x256x1024, .f32⟩
  | .hbm, ⟨15, _⟩ => ⟨S2x256x1024, .f32⟩
  | .hbm, ⟨16, _⟩ => ⟨S1x1x1024, .f32⟩
  | .hbm, ⟨17, _⟩ => ⟨S2x256x1024, .f32⟩
  | .hbm, ⟨18, _⟩ => ⟨S2x256x1024, .f32⟩
  | .hbm, ⟨19, _⟩ => ⟨S2x256x512, .f32⟩
  | .hbm, ⟨20, _⟩ => ⟨S2x256x256, .f32⟩
  | .hbm, ⟨21, _⟩ => ⟨S2x256x256, .f32⟩
  | .hbm, ⟨22, _⟩ => ⟨S512x256, .f32⟩
  | .hbm, ⟨23, _⟩ => ⟨S512x256, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel5.lean ====
abbrev S2x8192x1024 : Shape := ⟨3, ![2, 8192, 1024]⟩
abbrev S2x8192x512 : Shape := ⟨3, ![2, 8192, 512]⟩
abbrev S2x8192x1536 : Shape := ⟨3, ![2, 8192, 1536]⟩
abbrev S2x256x256 : Shape := ⟨3, ![2, 256, 256]⟩
abbrev S4x64x64 : Shape := ⟨3, ![4, 64, 64]⟩
abbrev S256 : Shape := ⟨1, ![256]⟩
abbrev S1024x1024 : Shape := ⟨2, ![1024, 1024]⟩
abbrev S1024 : Shape := ⟨1, ![1024]⟩
abbrev S_ : Shape := ⟨0, ![]⟩
abbrev S2x15x256 : Shape := ⟨3, ![2, 15, 256]⟩
abbrev S2x16x256 : Shape := ⟨3, ![2, 16, 256]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S1x256 : Shape := ⟨2, ![1, 256]⟩
abbrev S1x1024 : Shape := ⟨2, ![1, 1024]⟩
abbrev S1x1024x1024 : Shape := ⟨3, ![1, 1024, 1024]⟩
abbrev S1x1024x512 : Shape := ⟨3, ![1, 1024, 512]⟩
abbrev S1x1024x1536 : Shape := ⟨3, ![1, 1024, 1536]⟩
abbrev S1x16x256 : Shape := ⟨3, ![1, 16, 256]⟩
abbrev S1x256x256 : Shape := ⟨3, ![1, 256, 256]⟩
abbrev S1024x512 : Shape := ⟨2, ![1024, 512]⟩
abbrev S1x1024x256 : Shape := ⟨3, ![1, 1024, 256]⟩
abbrev S1024x256 : Shape := ⟨2, ![1024, 256]⟩
abbrev S16x256 : Shape := ⟨2, ![16, 256]⟩
abbrev S1040x256 : Shape := ⟨2, ![1040, 256]⟩
abbrev S4096x256 : Shape := ⟨2, ![4096, 256]⟩
abbrev S4096 : Shape := ⟨1, ![4096]⟩
abbrev S4096x1 : Shape := ⟨2, ![4096, 1]⟩
abbrev S512x1024 : Shape := ⟨2, ![512, 1024]⟩
abbrev S256x1024 : Shape := ⟨2, ![256, 1024]⟩
abbrev S1024x1 : Shape := ⟨2, ![1024, 1]⟩

abbrev nBuf : Space → Nat
  | .hbm => 32
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x1536, .f32⟩
  | .hbm, ⟨3, _⟩ => ⟨S2x256x256, .f32⟩
  | .hbm, ⟨4, _⟩ => ⟨S2x256x256, .f32⟩
  | .hbm, ⟨5, _⟩ => ⟨S4x64x64, .f32⟩
  | .hbm, ⟨6, _⟩ => ⟨S256, .f32⟩
  | .hbm, ⟨7, _⟩ => ⟨S1024x1024, .f32⟩
  | .hbm, ⟨8, _⟩ => ⟨S1024, .f32⟩
  | .hbm, ⟨9, _⟩ => ⟨S_, .f32⟩
  | .hbm, ⟨10, _⟩ => ⟨S2x15x256, .f32⟩
  | .hbm, ⟨11, _⟩ => ⟨S_, .i32⟩
  | .hbm, ⟨12, _⟩ => ⟨S_, .f32⟩
  | .hbm, ⟨13, _⟩ => ⟨S2x16x256, .f32⟩
  | .hbm, ⟨14, _⟩ => ⟨S4x4, .i32⟩
  | .hbm, ⟨15, _⟩ => ⟨S4x4, .i32⟩
  | .hbm, ⟨16, _⟩ => ⟨S_, .i32⟩
  | .hbm, ⟨17, _⟩ => ⟨S4x4, .i32⟩
  | .hbm, ⟨18, _⟩ => ⟨S4x4, .i32⟩
  | .hbm, ⟨19, _⟩ => ⟨S4x4, .i1⟩
  | .hbm, ⟨20, _⟩ => ⟨S4x4, .f32⟩
  | .hbm, ⟨21, _⟩ => ⟨S4x1x4x1, .f32⟩
  | .hbm, ⟨22, _⟩ => ⟨S4x64x1x64, .f32⟩
  | .hbm, ⟨23, _⟩ => ⟨S4x64x4x64, .f32⟩
  | .hbm, ⟨24, _⟩ => ⟨S4x64x4x64, .f32⟩
  | .hbm, ⟨25, _⟩ => ⟨S4x64x4x64, .f32⟩
  | .hbm, ⟨26, _⟩ => ⟨S256x256, .f32⟩
  | .hbm, ⟨27, _⟩ => ⟨S256x256, .bf16⟩
  | .hbm, ⟨28, _⟩ => ⟨S1x256, .f32⟩
  | .hbm, ⟨29, _⟩ => ⟨S1024x1024, .bf16⟩
  | .hbm, ⟨30, _⟩ => ⟨S1x1024, .f32⟩
  | .hbm, ⟨31, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x1536, .f32⟩
  | .local _ .vmem, ⟨5, _⟩ => ⟨S1x1024x1536, .f32⟩
  | .local _ .vmem, ⟨6, _⟩ => ⟨S1x16x256, .f32⟩
  | .local _ .vmem, ⟨7, _⟩ => ⟨S1x16x256, .f32⟩
  | .local _ .vmem, ⟨8, _⟩ => ⟨S1x16x256, .f32⟩
  | .local _ .vmem, ⟨9, _⟩ => ⟨S1x16x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S256x256, .bf16⟩
  | .local _ .vmem, ⟨15, _⟩ => ⟨S1x256, .f32⟩
  | .local _ .vmem, ⟨16, _⟩ => ⟨S1024x1024, .bf16⟩
  | .local _ .vmem, ⟨17, _⟩ => ⟨S1x1024, .f32⟩
  | .local _ .vmem, ⟨18, _⟩ => ⟨S1x1024x1024, .f32⟩
  | .local _ .vmem, ⟨19, _⟩ => ⟨S1x1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference5Ideal.lean ====
abbrev S2x8192x1024 : Shape := ⟨3, ![2, 8192, 1024]⟩
abbrev S2x8192x512 : Shape := ⟨3, ![2, 8192, 512]⟩
abbrev S2x8192x1536 : Shape := ⟨3, ![2, 8192, 1536]⟩
abbrev S2x256x256 : Shape := ⟨3, ![2, 256, 256]⟩
abbrev S4x64x64 : Shape := ⟨3, ![4, 64, 64]⟩
abbrev S256 : Shape := ⟨1, ![256]⟩
abbrev S1024x1024 : Shape := ⟨2, ![1024, 1024]⟩
abbrev S1024 : Shape := ⟨1, ![1024]⟩
abbrev S2x8192x256 : Shape := ⟨3, ![2, 8192, 256]⟩
abbrev S_ : Shape := ⟨0, ![]⟩
abbrev S2x15x256 : Shape := ⟨3, ![2, 15, 256]⟩
abbrev S2x8207x256 : Shape := ⟨3, ![2, 8207, 256]⟩
abbrev S2x1x256 : Shape := ⟨3, ![2, 1, 256]⟩
abbrev S2x8208x256 : Shape := ⟨3, ![2, 8208, 256]⟩
abbrev S8192 : Shape := ⟨1, ![8192]⟩
abbrev S2x8192x64 : Shape := ⟨3, ![2, 8192, 64]⟩
abbrev S1x8192x1 : Shape := ⟨3, ![1, 8192, 1]⟩
abbrev S2x8192x4x64 : Shape := ⟨4, ![2, 8192, 4, 64]⟩
abbrev S4x64x2x8192 : Shape := ⟨4, ![4, 64, 2, 8192]⟩
abbrev S1x1x256 : Shape := ⟨3, ![1, 1, 256]⟩
abbrev S2x256x4x64 : Shape := ⟨4, ![2, 256, 4, 64]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x64x8192 : Shape := ⟨4, ![2, 4, 64, 8192]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 162
  | .vmem => 0
  | .smem => 0
  | _ => 0

abbrev hbmTy0_0 (i : Nat) : BufTy := match i % 128 with
  | 0 => ⟨S2x8192x1024, .f32⟩
  | 1 => ⟨S2x8192x512, .f32⟩
  | 2 => ⟨S2x8192x1536, .f32⟩
  | 3 => ⟨S2x256x256, .f32⟩
  | 4 => ⟨S2x256x256, .f32⟩
  | 5 => ⟨S4x64x64, .f32⟩
  | 6 => ⟨S256, .f32⟩
  | 7 => ⟨S1024x1024, .f32⟩
  | 8 => ⟨S1024, .f32⟩
  | 9 => ⟨S2x8192x512, .f32⟩
  | 10 => ⟨S2x8192x256, .f32⟩
  | 11 => ⟨S2x8192x256, .f32⟩
  | 12 => ⟨S2x8192x256, .f32⟩
  | 13 => ⟨S2x8192x256, .f32⟩
  | 14 => ⟨S_, .f32⟩
  | 15 => ⟨S2x15x256, .f32⟩
  | 16 => ⟨S2x8207x256, .f32⟩
  | 17 => ⟨S_, .f32⟩
  | 18 => ⟨S2x1x256, .f32⟩
  | 19 => ⟨S_, .f32⟩
  | 20 => ⟨S_, .f32⟩
  | 21 => ⟨S2x8207x256, .f32⟩
  | 22 => ⟨S2x8208x256, .f32⟩
  | 23 => ⟨S8192, .i32⟩
  | 24 => ⟨S_, .i32⟩
  | 25 => ⟨S8192, .i32⟩
  | 26 => ⟨S8192, .i32⟩
  | 27 => ⟨S2x8192x256, .f32⟩
  | 28 => ⟨S2x8192x64, .f32⟩
  | 29 => ⟨S_, .i32⟩
  | 30 => ⟨S8192, .i32⟩
  | 31 => ⟨S8192, .i32⟩
  | 32 => ⟨S_, .i32⟩
  | 33 => ⟨S8192, .i32⟩
  | 34 => ⟨S8192, .i32⟩
  | 35 => ⟨S8192, .f32⟩
  | 36 => ⟨S2x8192x64, .f32⟩
  | 37 => ⟨S2x8192x64, .f32⟩
  | 38 => ⟨S1x8192x1, .f32⟩
  | 39 => ⟨S2x8192x64, .f32⟩
  | 40 => ⟨S2x8192x64, .f32⟩
  | 41 => ⟨S2x8192x64, .f32⟩
  | 42 => ⟨S_, .i32⟩
  | 43 => ⟨S8192, .i32⟩
  | 44 => ⟨S8192, .i32⟩
  | 45 => ⟨S_, .i32⟩
  | 46 => ⟨S8192, .i32⟩
  | 47 => ⟨S8192, .i32⟩
  | 48 => ⟨S8192, .f32⟩
  | 49 => ⟨S2x8192x64, .f32⟩
  | 50 => ⟨S2x8192x64, .f32⟩
  | 51 => ⟨S1x8192x1, .f32⟩
  | 52 => ⟨S2x8192x64, .f32⟩
  | 53 => ⟨S2x8192x64, .f32⟩
  | 54 => ⟨S2x8192x64, .f32⟩
  | 55 => ⟨S_, .i32⟩
  | 56 => ⟨S8192, .i32⟩
  | 57 => ⟨S8192, .i32⟩
  | 58 => ⟨S_, .i32⟩
  | 59 => ⟨S8192, .i32⟩
  | 60 => ⟨S8192, .i32⟩
  | 61 => ⟨S8192, .f32⟩
  | 62 => ⟨S2x8192x64, .f32⟩
  | 63 => ⟨S2x8192x64, .f32⟩
  | 64 => ⟨S1x8192x1, .f32⟩
  | 65 => ⟨S2x8192x64, .f32⟩
  | 66 => ⟨S2x8192x64, .f32⟩
  | 67 => ⟨S2x8192x64, .f32⟩
  | 68 => ⟨S_, .i32⟩
  | 69 => ⟨S8192, .i32⟩
  | 70 => ⟨S8192, .i32⟩
  | 71 => ⟨S_, .i32⟩
  | 72 => ⟨S8192, .i32⟩
  | 73 => ⟨S8192, .i32⟩
  | 74 => ⟨S8192, .f32⟩
  | 75 => ⟨S2x8192x64, .f32⟩
  | 76 => ⟨S2x8192x64, .f32⟩
  | 77 => ⟨S1x8192x1, .f32⟩
  | 78 => ⟨S2x8192x64, .f32⟩
  | 79 => ⟨S2x8192x64, .f32⟩
  | 80 => ⟨S2x8192x256, .f32⟩
  | 81 => ⟨S2x8192x256, .f32⟩
  | 82 => ⟨S2x8192x4x64, .f32⟩
  | 83 => ⟨S4x64x2x8192, .f32⟩
  | 84 => ⟨S2x8192x4x64, .f32⟩
  | 85 => ⟨S2x8192x256, .f32⟩
  | 86 => ⟨S1x1x256, .f32⟩
  | 87 => ⟨S2x8192x256, .f32⟩
  | 88 => ⟨S2x8192x256, .f32⟩
  | 89 => ⟨S2x8192x4x64, .f32⟩
  | 90 => ⟨S2x256x4x64, .f32⟩
  | 91 => ⟨S2x256x4x64, .f32⟩
  | 92 => ⟨S2x4x8192x256, .f32⟩
  | 93 => ⟨S_, .f32⟩
  | 94 => ⟨S2x4x8192x256, .f32⟩
  | 95 => ⟨S2x4x8192x256, .f32⟩
  | 96 => ⟨S_, .f32⟩
  | 97 => ⟨S2x4x8192, .f32⟩
  | 98 => ⟨S_, .f32⟩
  | 99 => ⟨S2x4x8192, .f32⟩
  | 100 => ⟨S2x4x8192, .f32⟩
  | 101 => ⟨S2x4x8192x1, .f32⟩
  | 102 => ⟨S2x4x8192x256, .f32⟩
  | 103 => ⟨S2x4x8192x256, .f32⟩
  | 104 => ⟨S2x4x8192x256, .f32⟩
  | 105 => ⟨S_, .f32⟩
  | 106 => ⟨S2x4x8192, .f32⟩
  | 107 => ⟨S2x4x8192x1, .f32⟩
  | 108 => ⟨S2x4x8192x256, .f32⟩
  | 109 => ⟨S2x4x8192x256, .f32⟩
  | 110 => ⟨S2x4x64x8192, .f32⟩
  | 111 => ⟨S2x8192x4x64, .f32⟩
  | 112 => ⟨S2x8192x256, .f32⟩
  | 113 => ⟨S2x8192x512, .f32⟩
  | 114 => ⟨S2x8192x512, .f32⟩
  | 115 => ⟨S_, .f32⟩
  | 116 => ⟨S2x8192x512, .f32⟩
  | 117 => ⟨S2x8192x512, .f32⟩
  | 118 => ⟨S_, .f32⟩
  | 119 => ⟨S2x8192x512, .f32⟩
  | 120 => ⟨S2x8192x512, .f32⟩
  | 121 => ⟨S2x8192x512, .f32⟩
  | 122 => ⟨S2x8192x512, .f32⟩
  | 123 => ⟨S2x8192x256, .f32⟩
  | 124 => ⟨S2x8192x256, .f32⟩
  | 125 => ⟨S_, .f32⟩
  | 126 => ⟨S2x8192x256, .f32⟩
  | 127 => ⟨S2x8192x256, .f32⟩
  | _ => ⟨S2x8192x1024, .f32⟩

abbrev hbmTy0_1 (i : Nat) : BufTy := match i % 128 with
  | 0 => ⟨S_, .f32⟩
  | 1 => ⟨S2x8192x256, .f32⟩
  | 2 => ⟨S2x8192x256, .f32⟩
  | 3 => ⟨S2x8192x256, .f32⟩
  | 4 => ⟨S2x8192x256, .f32⟩
  | 5 => ⟨S2x8192x256, .f32⟩
  | 6 => ⟨S2x8192x256, .f32⟩
  | 7 => ⟨S_, .f32⟩
  | 8 => ⟨S2x8192x256, .f32⟩
  | 9 => ⟨S2x8192x256, .f32⟩
  | 10 => ⟨S_, .f32⟩
  | 11 => ⟨S2x8192x256, .f32⟩
  | 12 => ⟨S2x8192x256, .f32⟩
  | 13 => ⟨S2x8192x256, .f32⟩
  | 14 => ⟨S2x8192x256, .f32⟩
  | 15 => ⟨S2x8192x1024, .f32⟩
  | 16 => ⟨S2x8192x1024, .f32⟩
  | 17 => ⟨S2x8192x1024, .f32⟩
  | 18 => ⟨S2x8192x1024, .f32⟩
  | 19 => ⟨S_, .f32⟩
  | 20 => ⟨S2x8192, .f32⟩
  | 21 => ⟨S2x8192x1, .f32⟩
  | 22 => ⟨S_, .f32⟩
  | 23 => ⟨S2x8192x1, .f32⟩
  | 24 => ⟨S2x8192x1, .f32⟩
  | 25 => ⟨S_, .f32⟩
  | 26 => ⟨S2x8192x1, .f32⟩
  | 27 => ⟨S2x8192x1, .f32⟩
  | 28 => ⟨S2x8192x1, .f32⟩
  | 29 => ⟨S2x8192x1024, .f32⟩
  | 30 => ⟨S2x8192x1024, .f32⟩
  | 31 => ⟨S1x1x1024, .f32⟩
  | 32 => ⟨S2x8192x1024, .f32⟩
  | 33 => ⟨S2x8192x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_call0_call0_cst : Ref sig .tc := ⟨.hbm, 19, rfl⟩
abbrev main_call0_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_3 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_5 : Ref sig .tc := ⟨.hbm, 55, rfl⟩
abbrev main_v37 : Ref sig .tc := ⟨.hbm, 56, rfl⟩
abbrev main_v38 : Ref sig .tc := ⟨.hbm, 57, rfl⟩
abbrev main_c_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_7 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_9 : Ref sig .tc := ⟨.hbm, 93, rfl⟩
abbrev main_v71 : Ref sig .tc := ⟨.hbm, 94, rfl⟩
abbrev main_v72 : Ref sig .tc := ⟨.hbm, 95, rfl⟩
abbrev main_cst_10 : Ref sig .tc := ⟨.hbm, 96, rfl⟩
abbrev main_v73 : Ref sig .tc := ⟨.hbm, 97, rfl⟩
abbrev main_cst_11 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_12 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_call1_v0 : Ref sig .tc := ⟨.hbm, 113, rfl⟩
abbrev main_call1_v1 : Ref sig .tc := ⟨.hbm, 114, rfl⟩
abbrev main_call1_cst : Ref sig .tc := ⟨.hbm, 115, rfl⟩
abbrev main_call1_v2 : Ref sig .tc := ⟨.hbm, 116, rfl⟩
abbrev main_call1_v3 : Ref sig .tc := ⟨.hbm, 117, rfl⟩
abbrev main_call1_cst_0 : Ref sig .tc := ⟨.hbm, 118, rfl⟩
abbrev main_call1_v4 : Ref sig .tc := ⟨.hbm, 119, rfl⟩
abbrev main_call1_v5 : Ref sig .tc := ⟨.hbm, 120, rfl⟩
abbrev main_v87 : Ref sig .tc := ⟨.hbm, 121, rfl⟩
abbrev main_v88 : Ref sig .tc := ⟨.hbm, 122, rfl⟩
abbrev main_call2_v0 : Ref sig .tc := ⟨.hbm, 123, rfl⟩
abbrev main_call2_v1 : Ref sig .tc := ⟨.hbm, 124, rfl⟩
abbrev main_call2_cst : Ref sig .tc := ⟨.hbm, 125, rfl⟩
abbrev main_call2_v2 : Ref sig .tc := ⟨.hbm, 126, rfl⟩
abbrev main_call2_v3 : Ref sig .tc := ⟨.hbm, 127, rfl⟩
abbrev main_call2_cst_0 : Ref sig .tc := ⟨.hbm, 128, rfl⟩
abbrev main_call2_v4 : Ref sig .tc := ⟨.hbm, 129, rfl⟩
abbrev main_call2_v5 : Ref sig .tc := ⟨.hbm, 130, rfl⟩
abbrev main_v89 : Ref sig .tc := ⟨.hbm, 131, rfl⟩
abbrev main_v90 : Ref sig .tc := ⟨.hbm, 132, rfl⟩
abbrev main_call3_v0 : Ref sig .tc := ⟨.hbm, 133, rfl⟩
abbrev main_call3_v1 : Ref sig .tc := ⟨.hbm, 134, rfl⟩
abbrev main_call3_cst : Ref sig .tc := ⟨.hbm, 135, rfl⟩
abbrev main_call3_v2 : Ref sig .tc := ⟨.hbm, 136, rfl⟩
abbrev main_call3_v3 : Ref sig .tc := ⟨.hbm, 137, rfl⟩
abbrev main_call3_cst_0 : Ref sig .tc := ⟨.hbm, 138, rfl⟩
abbrev main_call3_v4 : Ref sig .tc := ⟨.hbm, 139, rfl⟩
abbrev main_call3_v5 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_cst_13 : Ref sig .tc := ⟨.hbm, 147, rfl⟩
abbrev main_v97 : Ref sig .tc := ⟨.hbm, 148, rfl⟩
abbrev main_v98 : Ref sig .tc := ⟨.hbm, 149, rfl⟩
abbrev main_cst_14 : Ref sig .tc := ⟨.hbm, 150, rfl⟩
abbrev main_v99 : Ref sig .tc := ⟨.hbm, 151, rfl⟩
abbrev main_v100 : Ref sig .tc := ⟨.hbm, 152, rfl⟩
abbrev main_cst_15 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩

abbrev nD : Nat := 1
abbrev τ : Topo := Topo.v7x

variable {F : FTy → Type} [FloatOps F]
-- ==== Kernel6.lean ====
abbrev S16x64x1024 : Shape := ⟨3, ![16, 64, 1024]⟩
abbrev S16x64x512 : Shape := ⟨3, ![16, 64, 512]⟩
abbrev S16x64x1536 : Shape := ⟨3, ![16, 64, 1536]⟩
abbrev S16x15x256 : Shape := ⟨3, ![16, 15, 256]⟩
abbrev S16x256x256 : Shape := ⟨3, ![16, 256, 256]⟩
abbrev S4x64x64 : Shape := ⟨3, ![4, 64, 64]⟩
abbrev S256 : Shape := ⟨1, ![256]⟩
abbrev S1024x1024 : Shape := ⟨2, ![1024, 1024]⟩
abbrev S1024 : Shape := ⟨1, ![1024]⟩
abbrev S_ : Shape := ⟨0, ![]⟩
abbrev S16x16x256 : Shape := ⟨3, ![16, 16, 256]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S1x256 : Shape := ⟨2, ![1, 256]⟩
abbrev S1x1024 : Shape := ⟨2, ![1, 1024]⟩
abbrev S4x64x1024 : Shape := ⟨3, ![4, 64, 1024]⟩
abbrev S4x64x512 : Shape := ⟨3, ![4, 64, 512]⟩
abbrev S4x64x1536 : Shape := ⟨3, ![4, 64, 1536]⟩
abbrev S4x16x256 : Shape := ⟨3, ![4, 16, 256]⟩
abbrev S4x256x256 : Shape := ⟨3, ![4, 256, 256]⟩
abbrev S1x64x512 : Shape := ⟨3, ![1, 64, 512]⟩
abbrev S64x512 : Shape := ⟨2, ![64, 512]⟩
abbrev S1x64x256 : Shape := ⟨3, ![1, 64, 256]⟩
abbrev S64x256 : Shape := ⟨2, ![64, 256]⟩
abbrev S1x16x256 : Shape := ⟨3, ![1, 16, 256]⟩
abbrev S16x256 : Shape := ⟨2, ![16, 256]⟩
abbrev S80x256 : Shape := ⟨2, ![80, 256]⟩
abbrev S1x256x256 : Shape := ⟨3, ![1, 256, 256]⟩
abbrev S256x1 : Shape := ⟨2, ![256, 1]⟩
abbrev S256x512 : Shape := ⟨2, ![256, 512]⟩
abbrev S512x1024 : Shape := ⟨2, ![512, 1024]⟩
abbrev S256x1024 : Shape := ⟨2, ![256, 1024]⟩
abbrev S1x64x1024 : Shape := ⟨3, ![1, 64, 1024]⟩
abbrev S64x1024 : Shape := ⟨2, ![64, 1024]⟩
abbrev S64 : Shape := ⟨1, ![64]⟩
abbrev S64x1 : Shape := ⟨2, ![64, 1]⟩

abbrev nBuf : Space → Nat
  | .hbm => 31
  | .vmem => 20
  | .smem => 0
  | _ => 0

abbrev bufTy : (tb : Table) → Fin (tcTables nBuf tb) → BufTy
  | .hbm, ⟨0, _⟩ => ⟨S16x64x1024, .f32⟩
  | .hbm, ⟨1, _⟩ => ⟨S16x64x512, .f32⟩
  | .hbm, ⟨2, _⟩ => ⟨S16x64x1536, .f32⟩
  | .hbm, ⟨3, _⟩ => ⟨S16x15x256, .f32⟩
  | .hbm, ⟨4, _⟩ => ⟨S16x256x256, .f32⟩
  | .hbm, ⟨5, _⟩ => ⟨S16x256x256, .f32⟩
  | .hbm, ⟨6, _⟩ => ⟨S4x64x64, .f32⟩
  | .hbm, ⟨7, _⟩ => ⟨S256, .f32⟩
  | .hbm, ⟨8, _⟩ => ⟨S1024x1024, .f32⟩
  | .hbm, ⟨9, _⟩ => ⟨S1024, .f32⟩
  | .hbm, ⟨10, _⟩ => ⟨S_, .i32⟩
  | .hbm, ⟨11, _⟩ => ⟨S_, .f32⟩
  | .hbm, ⟨12, _⟩ => ⟨S16x16x256, .f32⟩
  | .hbm, ⟨13, _⟩ => ⟨S4x4, .i32⟩
  | .hbm, ⟨14, _⟩ => ⟨S4x4, .i32⟩
  | .hbm, ⟨15, _⟩ => ⟨S_, .i32⟩
  | .hbm, ⟨16, _⟩ => ⟨S4x4, .i32⟩
  | .hbm, ⟨17, _⟩ => ⟨S4x4, .i32⟩
  | .hbm, ⟨18, _⟩ => ⟨S4x4, .i1⟩
  | .hbm, ⟨19, _⟩ => ⟨S4x4, .f32⟩
  | .hbm, ⟨20, _⟩ => ⟨S4x1x4x1, .f32⟩
  | .hbm, ⟨21, _⟩ => ⟨S4x64x1x64, .f32⟩
  | .hbm, ⟨22, _⟩ => ⟨S4x64x4x64, .f32⟩
  | .hbm, ⟨23, _⟩ => ⟨S4x64x4x64, .f32⟩
  | .hbm, ⟨24, _⟩ => ⟨S4x64x4x64, .f32⟩
  | .hbm, ⟨25, _⟩ => ⟨S256x256, .f32⟩
  | .hbm, ⟨26, _⟩ => ⟨S256x256, .bf16⟩
  | .hbm, ⟨27, _⟩ => ⟨S1x256, .f32⟩
  | .hbm, ⟨28, _⟩ => ⟨S1024x1024, .bf16⟩
  | .hbm, ⟨29, _⟩ => ⟨S1x1024, .f32⟩
  | .hbm, ⟨30, _⟩ => ⟨S16x64x1024, .f32⟩
  | .local _ .vmem, ⟨0, _⟩ => ⟨S4x64x1024, .f32⟩
  | .local _ .vmem, ⟨1, _⟩ => ⟨S4x64x1024, .f32⟩
  | .local _ .vmem, ⟨2, _⟩ => ⟨S4x64x512, .f32⟩
  | .local _ .vmem, ⟨3, _⟩ => ⟨S4x64x512, .f32⟩
  | .local _ .vmem, ⟨4, _⟩ => ⟨S4x64x1536, .f32⟩
  | .local _ .vmem, ⟨5, _⟩ => ⟨S4x64x1536, .f32⟩
  | .local _ .vmem, ⟨6, _⟩ => ⟨S4x16x256, .f32⟩
  | .local _ .vmem, ⟨7, _⟩ => ⟨S4x16x256, .f32⟩
  | .local _ .vmem, ⟨8, _⟩ => ⟨S4x16x256, .f32⟩
  | .local _ .vmem, ⟨9, _⟩ => ⟨S4x16x256, .f32⟩
  | .local _ .vmem, ⟨10, _⟩ => ⟨S4x256x256, .f32⟩
  | .local _ .vmem, ⟨11, _⟩ => ⟨S4x256x256, .f32⟩
  | .local _ .vmem, ⟨12, _⟩ => ⟨S4x256x256, .f32⟩
  | .local _ .vmem, ⟨13, _⟩ => ⟨S4x256x256, .f32⟩
  | .local _ .vmem, ⟨14, _⟩ => ⟨S256x256, .bf16⟩
  | .local _ .vmem, ⟨15, _⟩ => ⟨S1x256, .f32⟩
  | .local _ .vmem, ⟨16, _⟩ => ⟨S1024x1024, .bf16⟩
  | .local _ .vmem, ⟨17, _⟩ => ⟨S1x1024, .f32⟩
  | .local _ .vmem, ⟨18, _⟩ => ⟨S4x64x1024, .f32⟩
  | .local _ .vmem, ⟨19, _⟩ => ⟨S4x64x1024, .f32⟩
  | _, _ => ⟨S16x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x64x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S4x64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference6Ideal.lean ====
abbrev S16x64x1024 : Shape := ⟨3, ![16, 64, 1024]⟩
abbrev S16x64x512 : Shape := ⟨3, ![16, 64, 512]⟩
abbrev S16x64x1536 : Shape := ⟨3, ![16, 64, 1536]⟩
abbrev S16x15x256 : Shape := ⟨3, ![16, 15, 256]⟩
abbrev S16x256x256 : Shape := ⟨3, ![16, 256, 256]⟩
abbrev S4x64x64 : Shape := ⟨3, ![4, 64, 64]⟩
abbrev S256 : Shape := ⟨1, ![256]⟩
abbrev S1024x1024 : Shape := ⟨2, ![1024, 1024]⟩
abbrev S1024 : Shape := ⟨1, ![1024]⟩
abbrev S16x64x256 : Shape := ⟨3, ![16, 64, 256]⟩
abbrev S16x79x256 : Shape := ⟨3, ![16, 79, 256]⟩
abbrev S_ : Shape := ⟨0, ![]⟩
abbrev S16x1x256 : Shape := ⟨3, ![16, 1, 256]⟩
abbrev S16x80x256 : Shape := ⟨3, ![16, 80, 256]⟩
abbrev S64 : Shape := ⟨1, ![64]⟩
abbrev S16x64x64 : Shape := ⟨3, ![16, 64, 64]⟩
abbrev S1x64x1 : Shape := ⟨3, ![1, 64, 1]⟩
abbrev S16x64x4x64 : Shape := ⟨4, ![16, 64, 4, 64]⟩
abbrev S4x64x16x64 : Shape := ⟨4, ![4, 64, 16, 64]⟩
abbrev S1x1x256 : Shape := ⟨3, ![1, 1, 256]⟩
abbrev S16x256x4x64 : Shape := ⟨4, ![16, 256, 4, 64]⟩
abbrev S16x4x64x256 : Shape := ⟨4, ![16, 4, 64, 256]⟩
abbrev S16x4x64 : Shape := ⟨3, ![16, 4, 64]⟩
abbrev S16x4x64x1 : Shape := ⟨4, ![16, 4, 64, 1]⟩
abbrev S16x4x64x64 : Shape := ⟨4, ![16, 4, 64, 64]⟩
abbrev S16x64 : Shape := ⟨2, ![16, 64]⟩
abbrev S16x64x1 : Shape := ⟨3, ![16, 64, 1]⟩
abbrev S1x1x1024 : Shape := ⟨3, ![1, 1, 1024]⟩

abbrev nBuf : Space → Nat
  | .hbm => 161
  | .vmem => 0
  | .smem => 0
  | _ => 0

abbrev hbmTy0_0 (i : Nat) : BufTy := match i % 128 with
  | 0 => ⟨S16x64x1024, .f32⟩
  | 1 => ⟨S16x64x512, .f32⟩
  | 2 => ⟨S16x64x1536, .f32⟩
  | 3 => ⟨S16x15x256, .f32⟩
  | 4 => ⟨S16x256x256, .f32⟩
  | 5 => ⟨S16x256x256, .f32⟩
  | 6 => ⟨S4x64x64, .f32⟩
  | 7 => ⟨S256, .f32⟩
  | 8 => ⟨S1024x1024, .f32⟩
  | 9 => ⟨S1024, .f32⟩
  | 10 => ⟨S16x64x512, .f32⟩
  | 11 => ⟨S16x64x256, .f32⟩
  | 12 => ⟨S16x64x256, .f32⟩
  | 13 => ⟨S16x64x256, .f32⟩
  | 14 => ⟨S16x64x256, .f32⟩
  | 15 => ⟨S16x79x256, .f32⟩
  | 16 => ⟨S_, .f32⟩
  | 17 => ⟨S16x1x256, .f32⟩
  | 18 => ⟨S_, .f32⟩
  | 19 => ⟨S_, .f32⟩
  | 20 => ⟨S16x79x256, .f32⟩
  | 21 => ⟨S16x80x256, .f32⟩
  | 22 => ⟨S64, .i32⟩
  | 23 => ⟨S_, .i32⟩
  | 24 => ⟨S64, .i32⟩
  | 25 => ⟨S64, .i32⟩
  | 26 => ⟨S16x64x256, .f32⟩
  | 27 => ⟨S16x64x64, .f32⟩
  | 28 => ⟨S_, .i32⟩
  | 29 => ⟨S64, .i32⟩
  | 30 => ⟨S64, .i32⟩
  | 31 => ⟨S_, .i32⟩
  | 32 => ⟨S64, .i32⟩
  | 33 => ⟨S64, .i32⟩
  | 34 => ⟨S64, .f32⟩
  | 35 => ⟨S16x64x64, .f32⟩
  | 36 => ⟨S16x64x64, .f32⟩
  | 37 => ⟨S1x64x1, .f32⟩
  | 38 => ⟨S16x64x64, .f32⟩
  | 39 => ⟨S16x64x64, .f32⟩
  | 40 => ⟨S16x64x64, .f32⟩
  | 41 => ⟨S_, .i32⟩
  | 42 => ⟨S64, .i32⟩
  | 43 => ⟨S64, .i32⟩
  | 44 => ⟨S_, .i32⟩
  | 45 => ⟨S64, .i32⟩
  | 46 => ⟨S64, .i32⟩
  | 47 => ⟨S64, .f32⟩
  | 48 => ⟨S16x64x64, .f32⟩
  | 49 => ⟨S16x64x64, .f32⟩
  | 50 => ⟨S1x64x1, .f32⟩
  | 51 => ⟨S16x64x64, .f32⟩
  | 52 => ⟨S16x64x64, .f32⟩
  | 53 => ⟨S16x64x64, .f32⟩
  | 54 => ⟨S_, .i32⟩
  | 55 => ⟨S64, .i32⟩
  | 56 => ⟨S64, .i32⟩
  | 57 => ⟨S_, .i32⟩
  | 58 => ⟨S64, .i32⟩
  | 59 => ⟨S64, .i32⟩
  | 60 => ⟨S64, .f32⟩
  | 61 => ⟨S16x64x64, .f32⟩
  | 62 => ⟨S16x64x64, .f32⟩
  | 63 => ⟨S1x64x1, .f32⟩
  | 64 => ⟨S16x64x64, .f32⟩
  | 65 => ⟨S16x64x64, .f32⟩
  | 66 => ⟨S16x64x64, .f32⟩
  | 67 => ⟨S_, .i32⟩
  | 68 => ⟨S64, .i32⟩
  | 69 => ⟨S64, .i32⟩
  | 70 => ⟨S_, .i32⟩
  | 71 => ⟨S64, .i32⟩
  | 72 => ⟨S64, .i32⟩
  | 73 => ⟨S64, .f32⟩
  | 74 => ⟨S16x64x64, .f32⟩
  | 75 => ⟨S16x64x64, .f32⟩
  | 76 => ⟨S1x64x1, .f32⟩
  | 77 => ⟨S16x64x64, .f32⟩
  | 78 => ⟨S16x64x64, .f32⟩
  | 79 => ⟨S16x64x256, .f32⟩
  | 80 => ⟨S16x64x256, .f32⟩
  | 81 => ⟨S16x64x4x64, .f32⟩
  | 82 => ⟨S4x64x16x64, .f32⟩
  | 83 => ⟨S16x64x4x64, .f32⟩
  | 84 => ⟨S16x64x256, .f32⟩
  | 85 => ⟨S1x1x256, .f32⟩
  | 86 => ⟨S16x64x256, .f32⟩
  | 87 => ⟨S16x64x256, .f32⟩
  | 88 => ⟨S16x64x4x64, .f32⟩
  | 89 => ⟨S16x256x4x64, .f32⟩
  | 90 => ⟨S16x256x4x64, .f32⟩
  | 91 => ⟨S16x4x64x256, .f32⟩
  | 92 => ⟨S_, .f32⟩
  | 93 => ⟨S16x4x64x256, .f32⟩
  | 94 => ⟨S16x4x64x256, .f32⟩
  | 95 => ⟨S_, .f32⟩
  | 96 => ⟨S16x4x64, .f32⟩
  | 97 => ⟨S_, .f32⟩
  | 98 => ⟨S16x4x64, .f32⟩
  | 99 => ⟨S16x4x64, .f32⟩
  | 100 => ⟨S16x4x64x1, .f32⟩
  | 101 => ⟨S16x4x64x256, .f32⟩
  | 102 => ⟨S16x4x64x256, .f32⟩
  | 103 => ⟨S16x4x64x256, .f32⟩
  | 104 => ⟨S_, .f32⟩
  | 105 => ⟨S16x4x64, .f32⟩
  | 106 => ⟨S16x4x64x1, .f32⟩
  | 107 => ⟨S16x4x64x256, .f32⟩
  | 108 => ⟨S16x4x64x256, .f32⟩
  | 109 => ⟨S16x4x64x64, .f32⟩
  | 110 => ⟨S16x64x4x64, .f32⟩
  | 111 => ⟨S16x64x256, .f32⟩
  | 112 => ⟨S16x64x512, .f32⟩
  | 113 => ⟨S16x64x512, .f32⟩
  | 114 => ⟨S_, .f32⟩
  | 115 => ⟨S16x64x512, .f32⟩
  | 116 => ⟨S16x64x512, .f32⟩
  | 117 => ⟨S_, .f32⟩
  | 118 => ⟨S16x64x512, .f32⟩
  | 119 => ⟨S16x64x512, .f32⟩
  | 120 => ⟨S16x64x512, .f32⟩
  | 121 => ⟨S16x64x512, .f32⟩
  | 122 => ⟨S16x64x256, .f32⟩
  | 123 => ⟨S16x64x256, .f32⟩
  | 124 => ⟨S_, .f32⟩
  | 125 => ⟨S16x64x256, .f32⟩
  | 126 => ⟨S16x64x256, .f32⟩
  | 127 => ⟨S_, .f32⟩
  | _ => ⟨S16x64x1024, .f32⟩

abbrev hbmTy0_1 (i : Nat) : BufTy := match i % 128 with
  | 0 => ⟨S16x64x256, .f32⟩
  | 1 => ⟨S16x64x256, .f32⟩
  | 2 => ⟨S16x64x256, .f32⟩
  | 3 => ⟨S16x64x256, .f32⟩
  | 4 => ⟨S16x64x256, .f32⟩
  | 5 => ⟨S16x64x256, .f32⟩
  | 6 => ⟨S_, .f32⟩
  | 7 => ⟨S16x64x256, .f32⟩
  | 8 => ⟨S16x64x256, .f32⟩
  | 9 => ⟨S_, .f32⟩
  | 10 => ⟨S16x64x256, .f32⟩
  | 11 => ⟨S16x64x256, .f32⟩
  | 12 => ⟨S16x64x256, .f32⟩
  | 13 => ⟨S16x64x256, .f32⟩
  | 14 => ⟨S16x64x1024, .f32⟩
  | 15 => ⟨S16x64x1024, .f32⟩
  | 16 => ⟨S16x64x1024, .f32⟩
  | 17 => ⟨S16x64x1024, .f32⟩
  | 18 => ⟨S_, .f32⟩
  | 19 => ⟨S16x64, .f32⟩
  | 20 => ⟨S16x64x1, .f32⟩
  | 21 => ⟨S_, .f32⟩
  | 22 => ⟨S16x64x1, .f32⟩
  | 23 => ⟨S16x64x1, .f32⟩
  | 24 => ⟨S_, .f32⟩
  | 25 => ⟨S16x64x1, .f32⟩
  | 26 => ⟨S16x64x1, .f32⟩
  | 27 => ⟨S16x64x1, .f32⟩
  | 28 => ⟨S16x64x1024, .f32⟩
  | 29 => ⟨S16x64x1024, .f32⟩
  | 30 => ⟨S1x1x1024, .f32⟩
  | 31 => ⟨S16x64x1024, .f32⟩
  | 32 => ⟨S16x64x1024, .f32⟩
  | _ => ⟨S16x64x1024, .f32⟩

abbrev hbmTy (i : Nat) : BufTy := match i / 128 with
  | 0 => hbmTy0_0 i
  | 1 => hbmTy0_1 i
  | _ => ⟨S16x64x1024, .f32⟩

abbrev bufTy : (tb : Table) → Fin (tcTables nBuf tb) → BufTy
  | .hbm, ⟨i, _⟩ => hbmTy i
  | _, _ => ⟨S16x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_call0_call0_cst : Ref sig .tc := ⟨.hbm, 18, rfl⟩
abbrev main_call0_call0_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_0 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_2 : Ref sig .tc := ⟨.hbm, 41, rfl⟩
abbrev main_v25 : Ref sig .tc := ⟨.hbm, 42, rfl⟩
abbrev main_v26 : Ref sig .tc := ⟨.hbm, 43, rfl⟩
abbrev main_c_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_4 : Ref sig .tc := ⟨.hbm, 54, rfl⟩
abbrev main_v36 : Ref sig .tc := ⟨.hbm, 55, rfl⟩
abbrev main_v37 : Ref sig .tc := ⟨.hbm, 56, rfl⟩
abbrev main_c_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_6 : Ref sig .tc := ⟨.hbm, 67, rfl⟩
abbrev main_v47 : Ref sig .tc := ⟨.hbm, 68, rfl⟩
abbrev main_v48 : Ref sig .tc := ⟨.hbm, 69, rfl⟩
abbrev main_c_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_8 : Ref sig .tc := ⟨.hbm, 92, rfl⟩
abbrev main_v70 : Ref sig .tc := ⟨.hbm, 93, rfl⟩
abbrev main_v71 : Ref sig .tc := ⟨.hbm, 94, rfl⟩
abbrev main_cst_9 : Ref sig .tc := ⟨.hbm, 95, rfl⟩
abbrev main_v72 : Ref sig .tc := ⟨.hbm, 96, rfl⟩
abbrev main_cst_10 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_11 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_call1_v0 : Ref sig .tc := ⟨.hbm, 112, rfl⟩
abbrev main_call1_v1 : Ref sig .tc := ⟨.hbm, 113, rfl⟩
abbrev main_call1_cst : Ref sig .tc := ⟨.hbm, 114, rfl⟩
abbrev main_call1_v2 : Ref sig .tc := ⟨.hbm, 115, rfl⟩
abbrev main_call1_v3 : Ref sig .tc := ⟨.hbm, 116, rfl⟩
abbrev main_call1_cst_0 : Ref sig .tc := ⟨.hbm, 117, rfl⟩
abbrev main_call1_v4 : Ref sig .tc := ⟨.hbm, 118, rfl⟩
abbrev main_call1_v5 : Ref sig .tc := ⟨.hbm, 119, rfl⟩
abbrev main_v86 : Ref sig .tc := ⟨.hbm, 120, rfl⟩
abbrev main_v87 : Ref sig .tc := ⟨.hbm, 121, rfl⟩
abbrev main_call2_v0 : Ref sig .tc := ⟨.hbm, 122, rfl⟩
abbrev main_call2_v1 : Ref sig .tc := ⟨.hbm, 123, rfl⟩
abbrev main_call2_cst : Ref sig .tc := ⟨.hbm, 124, rfl⟩
abbrev main_call2_v2 : Ref sig .tc := ⟨.hbm, 125, rfl⟩
abbrev main_call2_v3 : Ref sig .tc := ⟨.hbm, 126, rfl⟩
abbrev main_call2_cst_0 : Ref sig .tc := ⟨.hbm, 127, rfl⟩
abbrev main_call2_v4 : Ref sig .tc := ⟨.hbm, 128, rfl⟩
abbrev main_call2_v5 : Ref sig .tc := ⟨.hbm, 129, rfl⟩
abbrev main_v88 : Ref sig .tc := ⟨.hbm, 130, rfl⟩
abbrev main_v89 : Ref sig .tc := ⟨.hbm, 131, rfl⟩
abbrev main_call3_v0 : Ref sig .tc := ⟨.hbm, 132, rfl⟩
abbrev main_call3_v1 : Ref sig .tc := ⟨.hbm, 133, rfl⟩
abbrev main_call3_cst : Ref sig .tc := ⟨.hbm, 134, rfl⟩
abbrev main_call3_v2 : Ref sig .tc := ⟨.hbm, 135, rfl⟩
abbrev main_call3_v3 : Ref sig .tc := ⟨.hbm, 136, rfl⟩
abbrev main_call3_cst_0 : Ref sig .tc := ⟨.hbm, 137, rfl⟩
abbrev main_call3_v4 : Ref sig .tc := ⟨.hbm, 138, rfl⟩
abbrev main_call3_v5 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_cst_12 : Ref sig .tc := ⟨.hbm, 146, rfl⟩
abbrev main_v96 : Ref sig .tc := ⟨.hbm, 147, rfl⟩
abbrev main_v97 : Ref sig .tc := ⟨.hbm, 148, rfl⟩
abbrev main_cst_13 : Ref sig .tc := ⟨.hbm, 149, rfl⟩
abbrev main_v98 : Ref sig .tc := ⟨.hbm, 150, rfl⟩
abbrev main_v99 : Ref sig .tc := ⟨.hbm, 151, rfl⟩
abbrev main_cst_14 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩

abbrev nD : Nat := 1
abbrev τ : Topo := Topo.v7x

variable {F : FTy → Type} [FloatOps F]
-- ==== Proof.PI.Common.lean ====
/-
  What the attention body computes, as functions of the blocks it is handed.

  The scratch buffer is four tiles, one per head of the step's two pairs (`pack`). The body fills them from the newest
  key blocks — the query block's own alone at the first query block (`onlyOut`), else with the one before it in one
  window (`winOut`) — and the while then folds one older key block into each per trip (`trip`, iterated by `walk`).
  The body last writes each pair's two tiles, interleaved by lane, to its half of the result block (`outBlock`).
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Tactic
public import Idealize.ShloMosaic.Lib.WritesUnit
public import Idealize.ShloMosaic.Lib.ValueIdxCore

@[expose] public section

noncomputable section

namespace Cert.Proof.PI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## The blocks -/

/-- A tile of the scratch buffer, the running row sums of a head, a pair's half of the query block, a key or value block. -/
abbrev Tile (F : FTy → Type) : Type := Vec F S1x256x128 .f32
abbrev Sums (F : FTy → Type) : Type := FVec F S256x1 .f32
abbrev Query (F : FTy → Type) : Type := FVec F S256x128 .bf16
abbrev Span (F : FTy → Type) : Type := S1x8192x256.Idx → Elt F .bf16

/-- The four tiles of the scratch buffer. -/
abbrev rA0 : Rect S4x256x128 := Rect.unit (s := S4x256x128) ![0, 0, 0] S1x256x128.size inb_S4x256x128_S1x256x128_0_0_0
abbrev rA1 : Rect S4x256x128 := Rect.unit (s := S4x256x128) ![1, 0, 0] S1x256x128.size inb_S4x256x128_S1x256x128_1_0_0
abbrev rA2 : Rect S4x256x128 := Rect.unit (s := S4x256x128) ![2, 0, 0] S1x256x128.size inb_S4x256x128_S1x256x128_2_0_0
abbrev rA3 : Rect S4x256x128 := Rect.unit (s := S4x256x128) ![3, 0, 0] S1x256x128.size inb_S4x256x128_S1x256x128_3_0_0

/-- The scratch contents whose tile `h` is `A h`. -/
def pack (A : Fin 4 → Tile F) : (cc0_scratch0 : Ref sig .tc).ty.Contents (Elt F) :=
  fun (y : S4x256x128.Idx) => A (y 0) (ValueIdx.ix3 0 (y 1) (y 2) : S1x256x128.Idx)

/-- The two halves of a 256-lane block. -/
abbrev rH0 : Rect S1x256x256 := Rect.unit (s := S1x256x256) ![0, 0, 0] S1x256x128.size inb_S1x256x256_S1x256x128_0_0_0
abbrev rH1 : Rect S1x256x256 := Rect.unit (s := S1x256x256) ![0, 0, 128] S1x256x128.size inb_S1x256x256_S1x256x128_0_0_128

/-- The first key block's two halves, -/
abbrev rF0 : Rect S1x8192x256 := Rect.unit (s := S1x8192x256) ![0, 0, 0] S1x256x128.size inb_S1x8192x256_S1x256x128_0_0_0
abbrev rF1 : Rect S1x8192x256 := Rect.unit (s := S1x8192x256) ![0, 0, 128] S1x256x128.size inb_S1x8192x256_S1x256x128_0_0_128

/-- the two newest key blocks' at query block `i`, -/
abbrev rW0 (i : grid0.Coords) (h : k0_cond1 i = 1#1) : Rect S1x8192x256 :=
  Rect.unit (s := S1x8192x256) (k0_off1 i) S1x512x128.size (k0_off1_inb i h)
abbrev rW1 (i : grid0.Coords) (h : k0_cond1 i = 1#1) : Rect S1x8192x256 :=
  Rect.unit (s := S1x8192x256) (k0_off2 i) S1x512x128.size (k0_off2_inb i h)

/-- and those of the block the while reads at counter `j`. -/
abbrev rJ0 (i : grid0.Coords) (j : BitVec 32) (h : k0_chk1 i j) : Rect S1x8192x256 :=
  Rect.unit (s := S1x8192x256) (k0_off3 i j) S1x256x128.size (k0_off3_inb i j h)
abbrev rJ1 (i : grid0.Coords) (j : BitVec 32) (h : k0_chk1 i j) : Rect S1x8192x256 :=
  Rect.unit (s := S1x8192x256) (k0_off4 i j) S1x256x128.size (k0_off4_inb i j h)

/-! ## The newest blocks -/

section Newest

variable (q0 q1 q2 q3 : Query F)

/-- Both newest blocks as one window: the four tiles and the four heads' row sums, from the pair's keys `ka`, `kb` and
    values `va`, `vb`. -/
def winOut (ka kb va vb : Vec F S1x512x128 .bf16) : (Fin 4 → Tile F) × (Fin 4 → Sums F) :=
  let m := k0_pay67
  let U := k0_pay68 (F := F)
  let v71 := k0_pay10 q0 q1 ka
  let v72 := k0_pay11 q0 q1 ka
  let v73 := k0_pay12 q2 q3 kb
  let v74 := k0_pay13 q2 q3 kb
  let v75 := k0_pay14 q0 q1 ka
  let v76 := k0_pay15 q0 q1 ka
  let v77 := k0_pay16 q2 q3 kb
  let v78 := k0_pay17 q2 q3 kb
  let v88 := k0_pay18 q0 q1 ka
  let v98 := k0_pay19 q0 q1 ka
  let v108 := k0_pay20 v73 (Scalar.ofBits .f32 0x00000000#32)
  let v118 := k0_pay21 v74
  let v130 := k0_pay22 m v75
  let v142 := k0_pay23 m v76
  let v144 := k0_pay24 v77
  let v154 := k0_pay25 m v77 v144
  let v166 := k0_pay26 m v78
  let v174 := k0_pay27 m U v77 v78 v88 v98 v108 v118 v130 v142 v144
  let v191 := k0_pay29 m U v71 v75 v77 v78 v88 v98 v108 v118 v130 v142 v144
  let v211 := k0_pay33 m v72 v76 v98 v142 v174
  let v231 := k0_pay36 m v73 v77 v108 v154 v174
  let v243 := k0_pay39 v74 v118 v166 v174
  let v246 := k0_pay40 v78 v166 v174
  (![k0_pay43 v191 v211 va, k0_pay44 v191 v211 va, k0_pay46 m v231 v243 v246 vb, k0_pay69 (k0_pay47 m v231 v243 v246 vb)],
    ![k0_pay31 (k0_pay28 v130) (k0_pay30 v88), k0_pay34 v98 v142, k0_pay37 v108 v154, k0_pay41 v118 (k0_pay38 v166)])

/-- The first query block's own block alone. -/
def onlyOut (ka kb va vb : Vec F S1x256x128 .bf16) : (Fin 4 → Tile F) × (Fin 4 → Sums F) :=
  let m := k0_pay67
  let U := k0_pay68 (F := F)
  let z := k0_pay48 (F := F)
  (![k0_pay49 q0 m U ka va, k0_pay50 q1 m U z ka va, k0_pay53 q2 m U z (k0_pay51 kb) (k0_pay52 vb),
      k0_pay70 z (k0_pay54 vb) (k0_pay55 q3 kb) (k0_pay56 q3 kb) (k0_pay57 q3 kb)], ![z, z, z, z])

/-- The tiles and sums the while starts from, at a query block against the batch's keys `XK` and values `XV`. -/
def newest (i : grid0.Coords) (XK XV : Span F) : (Fin 4 → Tile F) × (Fin 4 → Sums F) :=
  if h : k0_cond1 i = 1#1 then
    winOut q0 q1 q2 q3 (View.ld XK (rW0 i h)) (View.ld XK (rW1 i h)) (View.ld XV (rW0 i h)) (View.ld XV (rW1 i h))
  else onlyOut q0 q1 q2 q3 (View.ld XK rF0) (View.ld XK rF1) (View.ld XV rF0) (View.ld XV rF1)

/-! ## The older blocks -/

/-- One trip: an older block's keys `ka`, `kb` and values `va`, `vb` folded into the four tiles and sums. -/
def trip (ka kb va vb : Vec F S1x256x128 .bf16) (s : (Fin 4 → Tile F) × (Fin 4 → Sums F)) : (Fin 4 → Tile F) × (Fin 4 → Sums F) :=
  let U := k0_pay68 (F := F)
  (![k0_pay76 (k0_pay75 q0 U (s.2 0) ka va (s.1 0)), k0_pay81 (k0_pay80 U q1 (s.2 1) ka va (s.1 1)),
      k0_pay85 U q2 (s.2 2) kb vb (s.1 2), k0_pay89 U q3 (s.2 3) kb vb (s.1 3)],
    ![k0_pay74 q0 (s.2 0) ka, k0_pay79 q1 (s.2 1) ka, k0_pay84 q2 (s.2 2) kb, k0_pay88 q3 (s.2 3) kb])

/-- The while's flag: whether the least row sum is still at most the bound. -/
def flag (C : Fin 4 → Sums F) : BitVec 32 :=
  Scalar.extui (Scalar.cmpf .ole (k0_pay3 (C 0) (C 1) (C 2) (C 3)) (Named.named κ "dead" 0x42D00000#32))

/-- The while's test at counter `j` and flag `b`. -/
def goes (i : grid0.Coords) (j b : BitVec 32) : BitVec 1 :=
  Scalar.andi (Scalar.cmpi .slt j (Scalar.subi (BitVec.ofNat 32 (i 2).val) 1#32)) (Scalar.cmpi .sgt b 0#32)

/-- The tiles after the while, `k` trips at most to run from counter `j`. -/
def walk (i : grid0.Coords) (XK XV : Span F) : ℕ → ℕ → BitVec 32 → (Fin 4 → Tile F) × (Fin 4 → Sums F) → (Fin 4 → Tile F)
  | 0, _, _, s => s.1
  | k + 1, j, b, s =>
    if goes i (BitVec.ofNat 32 j) b = 1#1 then
      if h : k0_chk1 i (BitVec.ofNat 32 j) then
        let s' := trip q0 q1 q2 q3 (View.ld XK (rJ0 i _ h)) (View.ld XK (rJ1 i _ h)) (View.ld XV (rJ0 i _ h)) (View.ld XV (rJ1 i _ h)) s
        walk i XK XV k (j + 1) (flag s'.2) s'
      else s.1
    else s.1

end Newest

/-- The four heads' queries out of the query block: each pair's half, the other head's lanes zeroed. -/
def qs (X : S1x256x256.Idx → Elt F .bf16) : Fin 4 → Query F :=
  ![k0_pay61 (View.ld X rH0), k0_pay62 (View.ld X rH0), k0_pay65 (View.ld X rH1), k0_pay66 (View.ld X rH1)]

/-- The tiles when the body is done with the key blocks. -/
def tiles (i : grid0.Coords) (XQ : S1x256x256.Idx → Elt F .bf16) (XK XV : Span F) : Fin 4 → Tile F :=
  let s := newest (qs XQ 0) (qs XQ 1) (qs XQ 2) (qs XQ 3) i XK XV
  walk (qs XQ 0) (qs XQ 1) (qs XQ 2) (qs XQ 3) i XK XV ((i 2).val - 1) 0 (flag s.2) s

/-- The result block: each pair's two tiles, interleaved by lane, in its half. -/
def outBlock (i : grid0.Coords) (XQ : S1x256x256.Idx → Elt F .bf16) (XK XV : Span F) : S1x256x256.Idx → Elt F .f32 :=
  let A := tiles i XQ XK XV
  View.canon [⟨rH1, k0_pay2 k0_pay58 (A 2) (A 3)⟩, ⟨rH0, k0_pay1 k0_pay58 (A 0) (A 1)⟩]

/-! ## The counter's arithmetic -/

/-- At every counter below the number of older blocks the block it names lies in the batch. -/
theorem chk_of_lt (i : grid0.Coords) (j : ℕ) (hj : j + 1 < (i 2).val) : k0_chk1 i (BitVec.ofNat 32 j) := by
  have hi : (i 2).val < 32 := (i 2).isLt
  have e : (Scalar.muli (Scalar.subi (Scalar.subi (Scalar.subi (BitVec.ofNat 32 (i 2).val) 1#32) 1#32) (BitVec.ofNat 32 j)) 256#32).toNat
      = ((i 2).val - 2 - j) * 256 := by
    generalize (i 2).val = n at hj hi
    simp only [Scalar.muli, Scalar.subi, IntOp.muli, IntOp.subi]
    bv_omega
  have row : (Scalar.muli (Scalar.subi (Scalar.subi (Scalar.subi (BitVec.ofNat 32 (i 2).val) 1#32) 1#32) (BitVec.ofNat 32 j)) 256#32).toNat + 256
      ≤ 8192 := by rw [e]; omega
  refine ⟨?_, ?_, ?_⟩
  · show 256 ∣ (Scalar.muli _ _).toNat
    rw [e]; exact Dvd.intro_left _ rfl
  · exact Fin.forall_fin_succ.mpr ⟨Nat.le_refl 1, Fin.forall_fin_succ.mpr ⟨row, Fin.forall_fin_one.mpr (by show 0 + 128 ≤ 256; omega)⟩⟩
  · exact Fin.forall_fin_succ.mpr ⟨Nat.le_refl 1, Fin.forall_fin_succ.mpr ⟨row, Fin.forall_fin_one.mpr (by show 128 + 128 ≤ 256; omega)⟩⟩

/-- With no block left the test fails. -/
theorem not_goes (i : grid0.Coords) (b : BitVec 32) : ¬goes i (BitVec.ofNat 32 ((i 2).val - 1)) b = 1#1 := by
  have hi : (i 2).val < 32 := (i 2).isLt
  have h : Scalar.cmpi .slt (BitVec.ofNat 32 ((i 2).val - 1)) (Scalar.subi (BitVec.ofNat 32 (i 2).val) 1#32) = 0#1 := by
    generalize (i 2).val = n at hi
    revert n; decide
  unfold goes; rw [h]
  simp [Scalar.andi, IntOp.andi]

/-- The counter's step. -/
theorem addi_succ (j : ℕ) : Scalar.addi (BitVec.ofNat 32 j) 1#32 = BitVec.ofNat 32 (j + 1) := by
  simp [Scalar.addi, IntOp.addi, BitVec.ofNat_add]

/-! ## The scratch buffer's tiles -/

theorem tile_congr (A : Fin 4 → Tile F) {h h' : Fin 4} {x x' : S1x256x128.Idx} (hh : h' = h) (hx : x' = x) : A h' x' = A h x := by
  rw [hh, hx]

theorem read_tile (h : Fin 4) (off : Fin 3 → ℕ) (inb : ∀ a, off a + S1x256x128.size a ≤ S4x256x128.size a) (ho : off = ![h.val, 0, 0])
    (A : Fin 4 → Tile F) :
    (Memref.whole cc0_scratch0).view.readAt (Elt F) (Rect.unit (s := S4x256x128) off S1x256x128.size inb).toLoadRect (pack A) = A h := by
  subst ho
  funext (x : S1x256x128.Idx)
  have h0 : (x 0).val = 0 := Nat.lt_one_iff.mp (x 0).isLt
  have hz : (0 : ℕ) = (x 0).val := h0.symm
  refine tile_congr A (Fin.ext ?_) (funext ?_)
  · show h.val + 1 * (x 0).val = h.val
    omega
  · refine Fin.forall_fin_succ.mpr ⟨Fin.ext ?_, Fin.forall_fin_succ.mpr ⟨Fin.ext ?_, Fin.forall_fin_one.mpr (Fin.ext ?_)⟩⟩
    · exact hz
    · show 0 + 1 * (x 1).val = (x 1).val
      omega
    · show 0 + 1 * (x 2).val = (x 2).val
      omega

theorem write_tile (h : Fin 4) (off : Fin 3 → ℕ) (inb : ∀ a, off a + S1x256x128.size a ≤ S4x256x128.size a) (ho : off = ![h.val, 0, 0])
    (A : Fin 4 → Tile F) (v : Tile F) :
    ((Memref.whole cc0_scratch0).access (Rect.unit (s := S4x256x128) off S1x256x128.size inb)).write (Elt F) (pack A) v Finset.univ
      = pack (Function.update A h v) := by
  suffices key : ∀ y : S4x256x128.Idx, (Memref.whole cc0_scratch0).view.read (Elt F) ((Memref.whole cc0_scratch0).view.writes (Elt F) (pack A)
      [⟨Rect.unit (s := S4x256x128) off S1x256x128.size inb, v⟩]) y = pack (Function.update A h v) y from by
    simp only [View.writes_singleton, Memref.view_whole, View.read_whole] at key
    exact funext key
  intro y
  by_cases hy : y 0 = h
  · have hx : ∀ a : Fin 3, (y a).val = (![h.val, 0, 0] : Fin 3 → ℕ) a + ((ValueIdx.ix3 0 (y 1) (y 2) : S1x256x128.Idx) a).val := by
      refine Fin.forall_fin_succ.mpr ⟨?_, Fin.forall_fin_succ.mpr ⟨?_, Fin.forall_fin_one.mpr ?_⟩⟩
      · show (y 0).val = h.val + 0
        rw [hy]; rfl
      · show (y 1).val = 0 + (y 1).val
        omega
      · show (y 2).val = 0 + (y 2).val
        omega
    have hm := View.read_writes_cons_unit_of_mem (Val := Elt F) (Memref.whole cc0_scratch0).view (pack A) inb v [] y
      (ValueIdx.ix3 0 (y 1) (y 2) : S1x256x128.Idx) ho hx
    refine Eq.trans hm ?_
    have e : Function.update A h v (y 0) = v := by rw [hy, Function.update_self]
    exact (congrFun e (ValueIdx.ix3 0 (y 1) (y 2) : S1x256x128.Idx)).symm
  · have hx : (y 0).val < (![h.val, 0, 0] : Fin 3 → ℕ) 0 ∨ (![h.val, 0, 0] : Fin 3 → ℕ) 0 + S1x256x128.size 0 ≤ (y 0).val := by
      show (y 0).val < h.val ∨ h.val + 1 ≤ (y 0).val
      have : (y 0).val ≠ h.val := fun e => hy (Fin.ext e)
      omega
    have hm := View.read_writes_cons_unit_of_not_mem (Val := Elt F) (Memref.whole cc0_scratch0).view (pack A) inb v [] y ho 0 hx
    refine Eq.trans hm ?_
    have e : Function.update A h v (y 0) = A (y 0) := Function.update_of_ne hy _ _
    exact (congrFun e (ValueIdx.ix3 0 (y 1) (y 2) : S1x256x128.Idx)).symm

section Tiles

variable (a b c d v : Tile F)

theorem read_pack0 : (Memref.whole cc0_scratch0).view.readAt (Elt F) rA0.toLoadRect (pack ![a, b, c, d]) = a := read_tile 0 _ _ rfl _
theorem read_pack1 : (Memref.whole cc0_scratch0).view.readAt (Elt F) rA1.toLoadRect (pack ![a, b, c, d]) = b := read_tile 1 _ _ rfl _
theorem read_pack2 : (Memref.whole cc0_scratch0).view.readAt (Elt F) rA2.toLoadRect (pack ![a, b, c, d]) = c := read_tile 2 _ _ rfl _
theorem read_pack3 : (Memref.whole cc0_scratch0).view.readAt (Elt F) rA3.toLoadRect (pack ![a, b, c, d]) = d := read_tile 3 _ _ rfl _

theorem write_pack0 : ((Memref.whole cc0_scratch0).access rA0).write (Elt F) (pack ![a, b, c, d]) v Finset.univ = pack ![v, b, c, d] :=
  (write_tile 0 _ _ rfl _ _).trans (congrArg pack (by funext h; fin_cases h <;> rfl))
theorem write_pack1 : ((Memref.whole cc0_scratch0).access rA1).write (Elt F) (pack ![a, b, c, d]) v Finset.univ = pack ![a, v, c, d] :=
  (write_tile 1 _ _ rfl _ _).trans (congrArg pack (by funext h; fin_cases h <;> rfl))
theorem write_pack2 : ((Memref.whole cc0_scratch0).access rA2).write (Elt F) (pack ![a, b, c, d]) v Finset.univ = pack ![a, b, v, d] :=
  (write_tile 2 _ _ rfl _ _).trans (congrArg pack (by funext h; fin_cases h <;> rfl))
theorem write_pack3 : ((Memref.whole cc0_scratch0).access rA3).write (Elt F) (pack ![a, b, c, d]) v Finset.univ = pack ![a, b, c, v] :=
  (write_tile 3 _ _ rfl _ _).trans (congrArg pack (by funext h; fin_cases h <;> rfl))

end Tiles

/-- Any contents of the scratch buffer are four tiles. -/
theorem exists_pack (f : (cc0_scratch0 : Ref sig .tc).ty.Contents (Elt F)) : ∃ a b c d : Tile F, f = pack ![a, b, c, d] := by
  let A : Fin 4 → Tile F := fun h x => f (ValueIdx.ix3 h (x 1) (x 2) : S4x256x128.Idx)
  refine ⟨A 0, A 1, A 2, A 3, funext fun (y : S4x256x128.Idx) => ?_⟩
  have hA : (![A 0, A 1, A 2, A 3] : Fin 4 → Tile F) = A := by funext h; fin_cases h <;> rfl
  rw [hA]
  exact congrArg f (ValueIdx.eq_ix3 y)

end Cert.Proof.PI

end
-- ==== Proof.PI.Loop.lean ====
/-
  The while's label meets its specification: from the tiles and row sums it is called on, `k` trips at most to run, it
  leaves the tiles `walk` gives, the keys and values as they were.
-/
module

public import proofs.«01_k».proof.Proof.PI.Common

@[expose] public section

noncomputable section

namespace Cert.Proof.PI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Variants are trip counts. -/
abbrev 𝒱₀ : Variants := Variants.nat

/-- A memref's part of its buffer, at the buffer's contents. -/
abbrev part (c : Dev nD) {s : Shape} {e : EltTy} (m : Memref sig .tc .vmem s e) (f : Buf (Elt F) (m.view.loc (c : Thread nD τ))) : sProp 𝕄 :=
  iprop(m.view.loc (c : Thread nD τ) ↦[m.view.set]{fullShare} f)

/-- The scratch buffer at four tiles. -/
abbrev scratch (c : Dev nD) (A : Fin 4 → Tile F) : sProp 𝕄 :=
  iprop((Memref.whole cc0_scratch0).view.loc (c : Thread nD τ) ↦{fullShare} (pack A : Buf (Elt F) ((Memref.whole cc0_scratch0).view.loc (c : Thread nD τ))))

/-- A load through a memref reads its contents at the rectangle. -/
theorem readAt_eq {s : Shape} {e : EltTy} (m : Memref sig .tc .vmem s e) (f : m.view.ty.Contents (Elt F)) (r : Rect s) :
    m.view.readAt (Elt F) r.toLoadRect f = View.ld (m.view.read (Elt F) f) r := rfl

section Steps

variable (c : Dev nD) (bd : Option 𝒱₀.V) (E : Set ℕ) {α : Type} (a b d e v : Tile F)

theorem wp_tile0 {Q : α → sProp 𝕄} {hl : (Memref.whole cc0_scratch0).view.LoadsAt rA0.toLoadRect} {k : Tile F → Prog (TpuEff nD τ sig (Elt F) (Λ₀ F) .tc) α} :
    scratch c ![a, b, d, e]
      ⊢ iprop((scratch c ![a, b, d, e] -∗ wp frame (wpE (defs₀ (F := F)) 𝒱₀ (c : Thread nD τ) bd) E (k a) Q)
        -∗ wp frame (wpE (defs₀ (F := F)) 𝒱₀ (c : Thread nD τ) bd) E (.op (.load (Memref.whole cc0_scratch0) rA0.toLoadRect hl) k) Q) := by
  have h := wp_load 𝒱₀ (c : Thread nD τ) bd E (Γ := .empty) (defs := defs₀ (F := F)) (m := Memref.whole cc0_scratch0) (r := rA0.toLoadRect) (hl := hl) (k := k) (Q := Q)
    (q := fullShare) (f := (pack ![a, b, d, e] : Buf (Elt F) ((Memref.whole cc0_scratch0).view.loc (c : Thread nD τ)))) (Finset.subset_univ _)
  rw [read_pack0] at h
  exact h

theorem wp_put0 {Q : α → sProp 𝕄} {hx : ((Memref.whole cc0_scratch0).access rA0).Stores Finset.univ} {hm : Finset.univ = Finset.univ ∨ ∀ a, rA0.stride a = 1}
    {k : PUnit → Prog (TpuEff nD τ sig (Elt F) (Λ₀ F) .tc) α} :
    scratch c ![a, b, d, e]
      ⊢ iprop((scratch c ![v, b, d, e] -∗ wp frame (wpE (defs₀ (F := F)) 𝒱₀ (c : Thread nD τ) bd) E (k ⟨⟩) Q)
        -∗ wp frame (wpE (defs₀ (F := F)) 𝒱₀ (c : Thread nD τ) bd) E (.op (.store (Memref.whole cc0_scratch0) rA0 v Finset.univ hx hm) k) Q) := by
  have h := wp_store 𝒱₀ (c : Thread nD τ) bd E (Γ := .empty) (defs := defs₀ (F := F)) (m := Memref.whole cc0_scratch0) (r := rA0) (w := v) (Mk := Finset.univ) (hx := hx) (hm := hm)
    (k := k) (Q := Q) (f := (pack ![a, b, d, e] : Buf (Elt F) ((Memref.whole cc0_scratch0).view.loc (c : Thread nD τ)))) (Finset.subset_univ _)
  rw [write_pack0] at h
  exact h

theorem wp_tile1 {Q : α → sProp 𝕄} {hl : (Memref.whole cc0_scratch0).view.LoadsAt rA1.toLoadRect} {k : Tile F → Prog (TpuEff nD τ sig (Elt F) (Λ₀ F) .tc) α} :
    scratch c ![a, b, d, e]
      ⊢ iprop((scratch c ![a, b, d, e] -∗ wp frame (wpE (defs₀ (F := F)) 𝒱₀ (c : Thread nD τ) bd) E (k b) Q)
        -∗ wp frame (wpE (defs₀ (F := F)) 𝒱₀ (c : Thread nD τ) bd) E (.op (.load (Memref.whole cc0_scratch0) rA1.toLoadRect hl) k) Q) := by
  have h := wp_load 𝒱₀ (c : Thread nD τ) bd E (Γ := .empty) (defs := defs₀ (F := F)) (m := Memref.whole cc0_scratch0) (r := rA1.toLoadRect) (hl := hl) (k := k) (Q := Q)
    (q := fullShare) (f := (pack ![a, b, d, e] : Buf (Elt F) ((Memref.whole cc0_scratch0).view.loc (c : Thread nD τ)))) (Finset.subset_univ _)
  rw [read_pack1] at h
  exact h

theorem wp_put1 {Q : α → sProp 𝕄} {hx : ((Memref.whole cc0_scratch0).access rA1).Stores Finset.univ} {hm : Finset.univ = Finset.univ ∨ ∀ a, rA1.stride a = 1}
    {k : PUnit → Prog (TpuEff nD τ sig (Elt F) (Λ₀ F) .tc) α} :
    scratch c ![a, b, d, e]
      ⊢ iprop((scratch c ![a, v, d, e] -∗ wp frame (wpE (defs₀ (F := F)) 𝒱₀ (c : Thread nD τ) bd) E (k ⟨⟩) Q)
        -∗ wp frame (wpE (defs₀ (F := F)) 𝒱₀ (c : Thread nD τ) bd) E (.op (.store (Memref.whole cc0_scratch0) rA1 v Finset.univ hx hm) k) Q) := by
  have h := wp_store 𝒱₀ (c : Thread nD τ) bd E (Γ := .empty) (defs := defs₀ (F := F)) (m := Memref.whole cc0_scratch0) (r := rA1) (w := v) (Mk := Finset.univ) (hx := hx) (hm := hm)
    (k := k) (Q := Q) (f := (pack ![a, b, d, e] : Buf (Elt F) ((Memref.whole cc0_scratch0).view.loc (c : Thread nD τ)))) (Finset.subset_univ _)
  rw [write_pack1] at h
  exact h

theorem wp_tile2 {Q : α → sProp 𝕄} {hl : (Memref.whole cc0_scratch0).view.LoadsAt rA2.toLoadRect} {k : Tile F → Prog (TpuEff nD τ sig (Elt F) (Λ₀ F) .tc) α} :
    scratch c ![a, b, d, e]
      ⊢ iprop((scratch c ![a, b, d, e] -∗ wp frame (wpE (defs₀ (F := F)) 𝒱₀ (c : Thread nD τ) bd) E (k d) Q)
        -∗ wp frame (wpE (defs₀ (F := F)) 𝒱₀ (c : Thread nD τ) bd) E (.op (.load (Memref.whole cc0_scratch0) rA2.toLoadRect hl) k) Q) := by
  have h := wp_load 𝒱₀ (c : Thread nD τ) bd E (Γ := .empty) (defs := defs₀ (F := F)) (m := Memref.whole cc0_scratch0) (r := rA2.toLoadRect) (hl := hl) (k := k) (Q := Q)
    (q := fullShare) (f := (pack ![a, b, d, e] : Buf (Elt F) ((Memref.whole cc0_scratch0).view.loc (c : Thread nD τ)))) (Finset.subset_univ _)
  rw [read_pack2] at h
  exact h

theorem wp_put2 {Q : α → sProp 𝕄} {hx : ((Memref.whole cc0_scratch0).access rA2).Stores Finset.univ} {hm : Finset.univ = Finset.univ ∨ ∀ a, rA2.stride a = 1}
    {k : PUnit → Prog (TpuEff nD τ sig (Elt F) (Λ₀ F) .tc) α} :
    scratch c ![a, b, d, e]
      ⊢ iprop((scratch c ![a, b, v, e] -∗ wp frame (wpE (defs₀ (F := F)) 𝒱₀ (c : Thread nD τ) bd) E (k ⟨⟩) Q)
        -∗ wp frame (wpE (defs₀ (F := F)) 𝒱₀ (c : Thread nD τ) bd) E (.op (.store (Memref.whole cc0_scratch0) rA2 v Finset.univ hx hm) k) Q) := by
  have h := wp_store 𝒱₀ (c : Thread nD τ) bd E (Γ := .empty) (defs := defs₀ (F := F)) (m := Memref.whole cc0_scratch0) (r := rA2) (w := v) (Mk := Finset.univ) (hx := hx) (hm := hm)
    (k := k) (Q := Q) (f := (pack ![a, b, d, e] : Buf (Elt F) ((Memref.whole cc0_scratch0).view.loc (c : Thread nD τ)))) (Finset.subset_univ _)
  rw [write_pack2] at h
  exact h

theorem wp_tile3 {Q : α → sProp 𝕄} {hl : (Memref.whole cc0_scratch0).view.LoadsAt rA3.toLoadRect} {k : Tile F → Prog (TpuEff nD τ sig (Elt F) (Λ₀ F) .tc) α} :
    scratch c ![a, b, d, e]
      ⊢ iprop((scratch c ![a, b, d, e] -∗ wp frame (wpE (defs₀ (F := F)) 𝒱₀ (c : Thread nD τ) bd) E (k e) Q)
        -∗ wp frame (wpE (defs₀ (F := F)) 𝒱₀ (c : Thread nD τ) bd) E (.op (.load (Memref.whole cc0_scratch0) rA3.toLoadRect hl) k) Q) := by
  have h := wp_load 𝒱₀ (c : Thread nD τ) bd E (Γ := .empty) (defs := defs₀ (F := F)) (m := Memref.whole cc0_scratch0) (r := rA3.toLoadRect) (hl := hl) (k := k) (Q := Q)
    (q := fullShare) (f := (pack ![a, b, d, e] : Buf (Elt F) ((Memref.whole cc0_scratch0).view.loc (c : Thread nD τ)))) (Finset.subset_univ _)
  rw [read_pack3] at h
  exact h

theorem wp_put3 {Q : α → sProp 𝕄} {hx : ((Memref.whole cc0_scratch0).access rA3).Stores Finset.univ} {hm : Finset.univ = Finset.univ ∨ ∀ a, rA3.stride a = 1}
    {k : PUnit → Prog (TpuEff nD τ sig (Elt F) (Λ₀ F) .tc) α} :
    scratch c ![a, b, d, e]
      ⊢ iprop((scratch c ![a, b, d, v] -∗ wp frame (wpE (defs₀ (F := F)) 𝒱₀ (c : Thread nD τ) bd) E (k ⟨⟩) Q)
        -∗ wp frame (wpE (defs₀ (F := F)) 𝒱₀ (c : Thread nD τ) bd) E (.op (.store (Memref.whole cc0_scratch0) rA3 v Finset.univ hx hm) k) Q) := by
  have h := wp_store 𝒱₀ (c : Thread nD τ) bd E (Γ := .empty) (defs := defs₀ (F := F)) (m := Memref.whole cc0_scratch0) (r := rA3) (w := v) (Mk := Finset.univ) (hx := hx) (hm := hm)
    (k := k) (Q := Q) (f := (pack ![a, b, d, e] : Buf (Elt F) ((Memref.whole cc0_scratch0).view.loc (c : Thread nD τ)))) (Finset.subset_univ _)
  rw [write_pack3] at h
  exact h

theorem wp_read {Q : α → sProp 𝕄} {s : Shape} {t : EltTy} (m : Memref sig .tc .vmem s t) (f : Buf (Elt F) (m.view.loc (c : Thread nD τ))) {r : Rect s}
    {hl : m.view.LoadsAt r.toLoadRect} {k : (r.shape.Idx → Elt F t) → Prog (TpuEff nD τ sig (Elt F) (Λ₀ F) .tc) α} :
    part c m f
      ⊢ iprop((part c m f -∗ wp frame (wpE (defs₀ (F := F)) 𝒱₀ (c : Thread nD τ) bd) E (k (View.ld (m.view.read (Elt F) f) r)) Q)
        -∗ wp frame (wpE (defs₀ (F := F)) 𝒱₀ (c : Thread nD τ) bd) E (.op (.load m r.toLoadRect hl) k) Q) :=
  wp_load 𝒱₀ (c : Thread nD τ) bd E (Γ := .empty) (defs := defs₀ (F := F)) (m := m) (r := r.toLoadRect) (hl := hl) (k := k) (Q := Q)
    (q := fullShare) (f := f) (View.setOn_subset_set _ _)

end Steps

section Label

variable (c : Dev nD) (i : grid0.Coords) (q0 q1 q2 q3 : Query F)
  (arg4 : Memref sig .tc .vmem S1x8192x256 .bf16) (harg4 : arg4.IsWhole) (arg5 : Memref sig .tc .vmem S1x8192x256 .bf16) (harg5 : arg5.IsWhole)
  (fK : Buf (Elt F) (arg4.view.loc (c : Thread nD τ))) (fV : Buf (Elt F) (arg5.view.loc (c : Thread nD τ)))

/-- The buffers the label's function reads and writes: the keys, the values, the scratch at `A`. -/
def held (A : Fin 4 → Tile F) : sProp 𝕄 :=
  iprop(part c arg4 fK ∗ part c arg5 fV ∗ scratch c A)

/-- What the label leaves in the scratch, from counter `j`, flag `b`, tiles and sums `s` with `k` trips at most to run. -/
abbrev left (k j : ℕ) (b : BitVec 32) (s : (Fin 4 → Tile F) × (Fin 4 → Sums F)) : Fin 4 → Tile F :=
  walk q0 q1 q2 q3 i (arg4.view.read (Elt F) fK) (arg5.view.read (Elt F) fV) k j b s

/-- The label's specification: holding the buffers, it returns with the tiles walked; nothing is known of what it returns. -/
def spec (k j : ℕ) (b : BitVec 32) (s : (Fin 4 → Tile F) × (Fin 4 → Sums F)) :
    sWPT 𝕄 (BitVec 32 × BitVec 32 × FVec F S256x1 .f32 × FVec F S256x1 .f32 × FVec F S256x1 .f32 × FVec F S256x1 .f32) := do
  sWPT.consume (held c arg4 arg5 fK fV s.1)
  let r ← sWPT.arbitrary
  sWPT.produce (held c arg4 arg5 fK fV (left c i q0 q1 q2 q3 arg4 arg5 fK fV k j b s))
  pure r

theorem spec_apply (k j : ℕ) (b : BitVec 32) (s : (Fin 4 → Tile F) × (Fin 4 → Sums F))
    (K : BitVec 32 × BitVec 32 × FVec F S256x1 .f32 × FVec F S256x1 .f32 × FVec F S256x1 .f32 × FVec F S256x1 .f32 → sProp 𝕄) :
    spec c i q0 q1 q2 q3 arg4 arg5 fK fV k j b s K
      = iprop(held c arg4 arg5 fK fV s.1 ∗ ∀ r, (held c arg4 arg5 fK fV (left c i q0 q1 q2 q3 arg4 arg5 fK fV k j b s) -∗ K r)) := rfl

set_option maxHeartbeats 1000000 in
theorem spec_le (E : Set ℕ) :
    ∀ k j, j + k = (i 2).val - 1 → ∀ b s K, spec c i q0 q1 q2 q3 arg4 arg5 fK fV k j b s K
      ⊢ wp frame (wpE (defs₀ (F := F)) 𝒱₀ (c : Thread nD τ) (some k)) E
          (defs₀ (F := F) .tc 1 ⟨i, arg4, harg4, arg5, harg5, q0, k0_pay68 (F := F), Memref.whole cc0_scratch0, Memref.isWhole_whole _, q1, q2, q3,
            BitVec.ofNat 32 j, b, s.2 0, s.2 1, s.2 2, s.2 3⟩) K := by
  intro k
  induction k with
  | zero =>
    intro j hj b s K
    rw [spec_apply]
    show _ ⊢ wp frame (wpE (defs₀ (F := F)) 𝒱₀ (c : Thread nD τ) (some 0)) E
      (cc0_while1 i arg4 harg4 arg5 harg5 q0 (k0_pay68 (F := F)) (Memref.whole cc0_scratch0) (Memref.isWhole_whole _) q1 q2 q3
            (BitVec.ofNat 32 j) b (s.2 0) (s.2 1) (s.2 2) (s.2 3)) K
    simp only [cc0_while1_eq_skeleton]; unfold cc0_while1_skel
    have htest : ¬(Scalar.andi (Scalar.cmpi .slt (BitVec.ofNat 32 j) (Scalar.subi (BitVec.ofNat 32 (i 2).val) 1#32)) (Scalar.cmpi .sgt b 0#32) = 1#1) := by
      have e : j = (i 2).val - 1 := by omega
      rw [e]; exact not_goes i b
    simp only [htest, ↓reduceIte, Prog.pure_eq_ret]
    iintro ⟨H, Hk⟩
    rw [wp_ret]; imodintro
    iapply Hk
    simp only [left, walk]
    iexact H
  | succ k ih =>
    intro j hj b s K
    rw [spec_apply]
    show _ ⊢ wp frame (wpE (defs₀ (F := F)) 𝒱₀ (c : Thread nD τ) (some (k + 1))) E
      (cc0_while1 i arg4 harg4 arg5 harg5 q0 (k0_pay68 (F := F)) (Memref.whole cc0_scratch0) (Memref.isWhole_whole _) q1 q2 q3
            (BitVec.ofNat 32 j) b (s.2 0) (s.2 1) (s.2 2) (s.2 3)) K
    by_cases htest : goes i (BitVec.ofNat 32 j) b = 1#1
    · have hchk := chk_of_lt i j (by omega)
      simp only [left]
      rw [walk, if_pos htest, dif_pos hchk]
      unfold goes at htest
      simp only [cc0_while1_eq_skeleton]; unfold cc0_while1_skel
      simp only [htest, ↓reduceIte, k0_part10_eq_skeleton, k0_part11_eq_skeleton, k0_part12_eq_skeleton, k0_part13_eq_skeleton,
        k0_part10_skel, k0_part11_skel, k0_part12_skel, k0_part13_skel,
        Prog.lift, Prog.bind_op, Prog.bind_ret, Prog.pure_eq_ret]
      obtain ⟨A, C⟩ := s
      obtain ⟨a0, a1, a2, a3, rfl⟩ : ∃ a0 a1 a2 a3 : Tile F, A = ![a0, a1, a2, a3] :=
        ⟨A 0, A 1, A 2, A 3, by funext h; fin_cases h <;> rfl⟩
      unfold held
      iintro ⟨⟨HK, HV, HA⟩, Hk⟩
      iapply (wp_assume 𝒱₀ (c : Thread nD τ) (some (k + 1)) E hchk)
      iapply (wp_read c (some (k + 1)) E arg4 fK) $$ HK; iintro HK
      iapply (wp_read c (some (k + 1)) E arg5 fV) $$ HV; iintro HV
      iapply (wp_tile0 c (some (k + 1)) E) $$ HA; iintro HA
      iapply (wp_tile0 c (some (k + 1)) E) $$ HA; iintro HA
      iapply (wp_put0 c (some (k + 1)) E) $$ HA; iintro HA
      iapply (wp_read c (some (k + 1)) E arg4 fK) $$ HK; iintro HK
      iapply (wp_read c (some (k + 1)) E arg5 fV) $$ HV; iintro HV
      iapply (wp_tile1 c (some (k + 1)) E) $$ HA; iintro HA
      iapply (wp_tile1 c (some (k + 1)) E) $$ HA; iintro HA
      iapply (wp_put1 c (some (k + 1)) E) $$ HA; iintro HA
      iapply (wp_read c (some (k + 1)) E arg4 fK) $$ HK; iintro HK
      iapply (wp_read c (some (k + 1)) E arg5 fV) $$ HV; iintro HV
      iapply (wp_tile2 c (some (k + 1)) E) $$ HA; iintro HA
      iapply (wp_tile2 c (some (k + 1)) E) $$ HA; iintro HA
      iapply (wp_put2 c (some (k + 1)) E) $$ HA; iintro HA
      iapply (wp_read c (some (k + 1)) E arg4 fK) $$ HK; iintro HK
      iapply (wp_read c (some (k + 1)) E arg5 fV) $$ HV; iintro HV
      iapply (wp_tile3 c (some (k + 1)) E) $$ HA; iintro HA
      iapply (wp_tile3 c (some (k + 1)) E) $$ HA; iintro HA
      iapply (wp_put3 c (some (k + 1)) E) $$ HA; iintro HA
      rw [addi_succ]
      let s' := trip q0 q1 q2 q3 (View.ld (arg4.view.read (Elt F) fK) (rJ0 i _ hchk)) (View.ld (arg4.view.read (Elt F) fK) (rJ1 i _ hchk))
        (View.ld (arg5.view.read (Elt F) fV) (rJ0 i _ hchk)) (View.ld (arg5.view.read (Elt F) fV) (rJ1 i _ hchk)) (![a0, a1, a2, a3], C)
      iapply (wp_call_spec 𝒱₀ (c : Thread nD τ) (some (k + 1)) E (spec c i q0 q1 q2 q3 arg4 arg5 fK fV k (j + 1) (flag s'.2) s') k
        (fun u hu => by cases hu; exact Nat.lt_succ_self k) (ih (j + 1) (by omega) (flag s'.2) s'))
      rw [spec_apply]; unfold held
      isplitl [HK HV HA]
      · isplitl [HK]; · iexact HK
        isplitl [HV]; · iexact HV
        iexact HA
      iintro %r ⟨HK, HV, HA⟩
      rw [wp_ret]; imodintro
      iapply Hk
      isplitl [HK]; · iexact HK
      isplitl [HV]; · iexact HV
      iexact HA
    · simp only [left]
      rw [walk, if_neg htest]
      unfold goes at htest
      simp only [cc0_while1_eq_skeleton]; unfold cc0_while1_skel
      simp only [htest, ↓reduceIte, Prog.pure_eq_ret]
      iintro ⟨H, Hk⟩
      rw [wp_ret]; imodintro
      iapply Hk
      iexact H

end Label

end Cert.Proof.PI

end
-- ==== Proof.PI.Body.lean ====
/-
  The attention body on one grid point's memrefs leaves the result block `outBlock` of the blocks it was handed.
-/
module

public import proofs.«01_k».proof.Proof.PI.Loop

@[expose] public section

noncomputable section

namespace Cert.Proof.PI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Kernel

variable (c : Dev nD) (i : grid0.Coords) (arg3 : Memref sig .tc .vmem S1x256x256 .bf16) (harg3 : arg3.IsWhole)
  (arg4 : Memref sig .tc .vmem S1x8192x256 .bf16) (harg4 : arg4.IsWhole) (arg5 : Memref sig .tc .vmem S1x8192x256 .bf16) (harg5 : arg5.IsWhole)
  (arg6 : Memref sig .tc .vmem S1x256x256 .f32) (harg6 : arg6.IsWhole)
  (fQ : Buf (Elt F) (arg3.view.loc (c : Thread nD τ))) (fK : Buf (Elt F) (arg4.view.loc (c : Thread nD τ)))
  (fV : Buf (Elt F) (arg5.view.loc (c : Thread nD τ))) (fO : Buf (Elt F) (arg6.view.loc (c : Thread nD τ)))

/-- A rectangle's places are among the memref's. -/
theorem access_sub {s : Shape} {e : EltTy} (m : Memref sig .tc .vmem s e) (r : Rect s) : (m.access r).setOn Finset.univ ⊆ m.view.set :=
  ((m.access r).setOn_subset_set _).trans (View.set_slice_subset _ _)

/-- What the body leaves: the inputs as they were, the result block, some tiles in the scratch. -/
def after : sProp 𝕄 :=
  iprop(part c arg3 fQ ∗ part c arg4 fK ∗ part c arg5 fV
    ∗ (∃ f, ⌜arg6.view.read (Elt F) f = outBlock i (arg3.view.read (Elt F) fQ) (arg4.view.read (Elt F) fK) (arg5.view.read (Elt F) fV)⌝ ∗ part c arg6 f)
    ∗ (∃ A, scratch c A))

/-- The two halves cover the block. -/
theorem halves_cover (p1 p0 : Tile F) (y : S1x256x256.Idx) :
    ∃ p ∈ ([⟨rH1, p1⟩, ⟨rH0, p0⟩] : List (View.Piece (Elt F) S1x256x256 .f32)), y ∈ p.1.set :=
  View.cover_of_tiled (s := S1x256x256) (Val := Elt F) (e := .f32) [⟨rH1, p1⟩, ⟨rH0, p0⟩] S1x256x128.size (by rfl) y

set_option maxHeartbeats 1000000 in
/-- The last stage: each pair's two tiles, interleaved by lane, written to its half of the result block. -/
theorem finish (K : PUnit → sProp 𝕄) :
    iprop(part c arg3 fQ ∗ part c arg4 fK ∗ part c arg5 fV ∗ part c arg6 fO
        ∗ scratch c (tiles i (arg3.view.read (Elt F) fQ) (arg4.view.read (Elt F) fK) (arg5.view.read (Elt F) fV))
        ∗ (after c i arg3 arg4 arg5 arg6 fQ fK fV -∗ K ⟨⟩))
      ⊢ wp frame (wpE (defs₀ (F := F)) 𝒱₀ (c : Thread nD τ) none) Set.univ (do
        let v38 : Vec F S1x256x128 .f32 ← Prog.lift (.load (Memref.whole cc0_scratch0) rA0.toLoadRect (View.loadsAt_vmem h_S1x256x128))
        let v40 : Vec F S1x256x128 .f32 ← Prog.lift (.load (Memref.whole cc0_scratch0) rA1.toLoadRect (View.loadsAt_vmem h_S1x256x128))
        let v43 : Vec F S1x256x128 .f32 ← Prog.lift (.load arg6 rH0.toLoadRect (View.loadsAt_vmem h_S1x256x128))
        Prog.lift (.store arg6 rH0 (k0_pay1 k0_pay58 v38 v40) Finset.univ (View.stores_vmem_bits_univ h_S1x256x128 rfl) (.inl rfl))
        let v46 : Vec F S1x256x128 .f32 ← Prog.lift (.load (Memref.whole cc0_scratch0) rA2.toLoadRect (View.loadsAt_vmem h_S1x256x128))
        let v48 : Vec F S1x256x128 .f32 ← Prog.lift (.load (Memref.whole cc0_scratch0) rA3.toLoadRect (View.loadsAt_vmem h_S1x256x128))
        let v51 : Vec F S1x256x128 .f32 ← Prog.lift (.load arg6 rH1.toLoadRect (View.loadsAt_vmem h_S1x256x128))
        Prog.lift (.store arg6 rH1 (k0_pay2 k0_pay58 v46 v48) Finset.univ (View.stores_vmem_bits_univ h_S1x256x128 rfl) (.inl rfl))
        pure ⟨⟩) K := by
  unfold after outBlock
  generalize tiles i (arg3.view.read (Elt F) fQ) (arg4.view.read (Elt F) fK) (arg5.view.read (Elt F) fV) = A
  obtain ⟨a0, a1, a2, a3, rfl⟩ : ∃ a0 a1 a2 a3 : Tile F, A = ![a0, a1, a2, a3] :=
    ⟨A 0, A 1, A 2, A 3, by funext h; fin_cases h <;> rfl⟩
  simp only [Prog.lift, Prog.bind_op, Prog.bind_ret, Prog.pure_eq_ret]
  iintro ⟨HQ, HK, HV, HO, HA, Hk⟩
  iapply (wp_tile0 c none Set.univ) $$ HA; iintro HA
  iapply (wp_tile1 c none Set.univ) $$ HA; iintro HA
  iapply (wp_read c none Set.univ arg6 _) $$ HO; iintro HO
  iapply (wp_store 𝒱₀ (c : Thread nD τ) none Set.univ (m := arg6) (r := rH0) (Mk := Finset.univ) (access_sub arg6 rH0)) $$ HO; iintro HO
  iapply (wp_tile2 c none Set.univ) $$ HA; iintro HA
  iapply (wp_tile3 c none Set.univ) $$ HA; iintro HA
  iapply (wp_read c none Set.univ arg6 _) $$ HO; iintro HO
  iapply (wp_store 𝒱₀ (c : Thread nD τ) none Set.univ (m := arg6) (r := rH1) (Mk := Finset.univ) (access_sub arg6 rH1)) $$ HO; iintro HO
  rw [wp_ret]; imodintro
  iapply Hk
  isplitl [HQ]; · iexact HQ
  isplitl [HK]; · iexact HK
  isplitl [HV]; · iexact HV
  isplitr [HA]
  · iexists _
    isplitr; swap; · iexact HO
    ipureintro
    exact View.read_writes_eq_canon arg6.view fO _ (halves_cover (k0_pay2 k0_pay58 a2 a3) (k0_pay1 k0_pay58 a0 a1))
  iexists _; iexact HA

set_option maxHeartbeats 4000000 in
/-- The body on its memrefs: holding the query block, the keys, the values, the result's and the scratch at anything, it
    leaves the result block. -/
theorem sound_kernel (A : Fin 4 → Tile F) (K : PUnit → sProp 𝕄) :
    iprop(part c arg3 fQ ∗ part c arg4 fK ∗ part c arg5 fV ∗ part c arg6 fO ∗ scratch c A
        ∗ (after c i arg3 arg4 arg5 arg6 fQ fK fV -∗ K ⟨⟩))
      ⊢ wp frame (wpE (defs₀ (F := F)) 𝒱₀ (c : Thread nD τ) none) Set.univ
          (cc0_stick_breaking_self i arg3 harg3 arg4 harg4 arg5 harg5 arg6 harg6 (Memref.whole cc0_scratch0) (Memref.isWhole_whole _)) K := by
  obtain ⟨a0, a1, a2, a3, rfl⟩ : ∃ a0 a1 a2 a3 : Tile F, A = ![a0, a1, a2, a3] :=
    ⟨A 0, A 1, A 2, A 3, by funext h; fin_cases h <;> rfl⟩
  simp only [cc0_stick_breaking_self_eq_skeleton]; unfold cc0_stick_breaking_self_skel
  simp only [k0_part9_eq_skeleton, k0_part9_skel]
  by_cases h1 : k0_cond1 i = 1#1
  · simp only [dif_pos h1, k0_part5_eq_skeleton, k0_part5_skel, k0_part1_eq_skeleton, k0_part1_skel, k0_part2_eq_skeleton, k0_part2_skel,
      k0_part3_eq_skeleton, k0_part3_skel, k0_part4_eq_skeleton, k0_part4_skel, Prog.lift, Prog.bind_op, Prog.bind_ret, Prog.pure_eq_ret]
    iintro ⟨HQ, HK, HV, HO, HA, Hk⟩
    iapply (wp_read c none Set.univ arg3 fQ) $$ HQ; iintro HQ
    iapply (wp_read c none Set.univ arg3 fQ) $$ HQ; iintro HQ
    iapply (wp_read c none Set.univ arg4 fK) $$ HK; iintro HK
    iapply (wp_read c none Set.univ arg4 fK) $$ HK; iintro HK
    iapply (wp_read c none Set.univ arg5 fV) $$ HV; iintro HV
    iapply (wp_tile0 c none Set.univ) $$ HA; iintro HA
    iapply (wp_put0 c none Set.univ) $$ HA; iintro HA
    iapply (wp_tile1 c none Set.univ) $$ HA; iintro HA
    iapply (wp_put1 c none Set.univ) $$ HA; iintro HA
    iapply (wp_read c none Set.univ arg5 fV) $$ HV; iintro HV
    iapply (wp_tile2 c none Set.univ) $$ HA; iintro HA
    iapply (wp_put2 c none Set.univ) $$ HA; iintro HA
    iapply (wp_tile3 c none Set.univ) $$ HA; iintro HA
    iapply (wp_put3 c none Set.univ) $$ HA; iintro HA
    have hs : newest (qs (arg3.view.read (Elt F) fQ) 0) (qs (arg3.view.read (Elt F) fQ) 1) (qs (arg3.view.read (Elt F) fQ) 2) (qs (arg3.view.read (Elt F) fQ) 3) i (arg4.view.read (Elt F) fK) (arg5.view.read (Elt F) fV)
        = winOut (qs (arg3.view.read (Elt F) fQ) 0) (qs (arg3.view.read (Elt F) fQ) 1) (qs (arg3.view.read (Elt F) fQ) 2) (qs (arg3.view.read (Elt F) fQ) 3) (View.ld (arg4.view.read (Elt F) fK) (rW0 i h1)) (View.ld (arg4.view.read (Elt F) fK) (rW1 i h1)) (View.ld (arg5.view.read (Elt F) fV) (rW0 i h1)) (View.ld (arg5.view.read (Elt F) fV) (rW1 i h1)) := dif_pos h1
    have ht := spec_le c i (qs (arg3.view.read (Elt F) fQ) 0) (qs (arg3.view.read (Elt F) fQ) 1) (qs (arg3.view.read (Elt F) fQ) 2) (qs (arg3.view.read (Elt F) fQ) 3) arg4 harg4 arg5 harg5 fK fV Set.univ ((i 2).val - 1) 0 (Nat.zero_add _)
      (flag (winOut (qs (arg3.view.read (Elt F) fQ) 0) (qs (arg3.view.read (Elt F) fQ) 1) (qs (arg3.view.read (Elt F) fQ) 2) (qs (arg3.view.read (Elt F) fQ) 3) (View.ld (arg4.view.read (Elt F) fK) (rW0 i h1)) (View.ld (arg4.view.read (Elt F) fK) (rW1 i h1)) (View.ld (arg5.view.read (Elt F) fV) (rW0 i h1)) (View.ld (arg5.view.read (Elt F) fV) (rW1 i h1))).2) (winOut (qs (arg3.view.read (Elt F) fQ) 0) (qs (arg3.view.read (Elt F) fQ) 1) (qs (arg3.view.read (Elt F) fQ) 2) (qs (arg3.view.read (Elt F) fQ) 3) (View.ld (arg4.view.read (Elt F) fK) (rW0 i h1)) (View.ld (arg4.view.read (Elt F) fK) (rW1 i h1)) (View.ld (arg5.view.read (Elt F) fV) (rW0 i h1)) (View.ld (arg5.view.read (Elt F) fV) (rW1 i h1)))
    iapply (wp_call_spec 𝒱₀ (c : Thread nD τ) none Set.univ
      (spec c i (qs (arg3.view.read (Elt F) fQ) 0) (qs (arg3.view.read (Elt F) fQ) 1) (qs (arg3.view.read (Elt F) fQ) 2) (qs (arg3.view.read (Elt F) fQ) 3) arg4 arg5 fK fV ((i 2).val - 1) 0
        (flag (winOut (qs (arg3.view.read (Elt F) fQ) 0) (qs (arg3.view.read (Elt F) fQ) 1) (qs (arg3.view.read (Elt F) fQ) 2) (qs (arg3.view.read (Elt F) fQ) 3) (View.ld (arg4.view.read (Elt F) fK) (rW0 i h1)) (View.ld (arg4.view.read (Elt F) fK) (rW1 i h1)) (View.ld (arg5.view.read (Elt F) fV) (rW0 i h1)) (View.ld (arg5.view.read (Elt F) fV) (rW1 i h1))).2) (winOut (qs (arg3.view.read (Elt F) fQ) 0) (qs (arg3.view.read (Elt F) fQ) 1) (qs (arg3.view.read (Elt F) fQ) 2) (qs (arg3.view.read (Elt F) fQ) 3) (View.ld (arg4.view.read (Elt F) fK) (rW0 i h1)) (View.ld (arg4.view.read (Elt F) fK) (rW1 i h1)) (View.ld (arg5.view.read (Elt F) fV) (rW0 i h1)) (View.ld (arg5.view.read (Elt F) fV) (rW1 i h1)))) ((i 2).val - 1)
      (fun u hu => nomatch hu) ht)
    rw [spec_apply]; unfold held
    isplitl [HK HV HA]
    · isplitl [HK]; · iexact HK
      isplitl [HV]; · iexact HV
      iexact HA
    iintro %r ⟨HK, HV, HA⟩
    obtain ⟨r0, r1, r2, r3, r4, r5⟩ := r
    have hw : tiles i (arg3.view.read (Elt F) fQ) (arg4.view.read (Elt F) fK) (arg5.view.read (Elt F) fV)
        = left c i (qs (arg3.view.read (Elt F) fQ) 0) (qs (arg3.view.read (Elt F) fQ) 1) (qs (arg3.view.read (Elt F) fQ) 2) (qs (arg3.view.read (Elt F) fQ) 3) arg4 arg5 fK fV ((i 2).val - 1) 0 (flag (winOut (qs (arg3.view.read (Elt F) fQ) 0) (qs (arg3.view.read (Elt F) fQ) 1) (qs (arg3.view.read (Elt F) fQ) 2) (qs (arg3.view.read (Elt F) fQ) 3) (View.ld (arg4.view.read (Elt F) fK) (rW0 i h1)) (View.ld (arg4.view.read (Elt F) fK) (rW1 i h1)) (View.ld (arg5.view.read (Elt F) fV) (rW0 i h1)) (View.ld (arg5.view.read (Elt F) fV) (rW1 i h1))).2) (winOut (qs (arg3.view.read (Elt F) fQ) 0) (qs (arg3.view.read (Elt F) fQ) 1) (qs (arg3.view.read (Elt F) fQ) 2) (qs (arg3.view.read (Elt F) fQ) 3) (View.ld (arg4.view.read (Elt F) fK) (rW0 i h1)) (View.ld (arg4.view.read (Elt F) fK) (rW1 i h1)) (View.ld (arg5.view.read (Elt F) fV) (rW0 i h1)) (View.ld (arg5.view.read (Elt F) fV) (rW1 i h1))) := by
      unfold tiles; rw [hs]
    rw [← hw]
    iapply (finish c i arg3 arg4 arg5 arg6 fQ fK fV fO K)
    isplitl [HQ]; · iexact HQ
    isplitl [HK]; · iexact HK
    isplitl [HV]; · iexact HV
    isplitl [HO]; · iexact HO
    isplitl [HA]; · iexact HA
    iexact Hk
  · simp only [dif_neg h1, k0_part6_eq_skeleton, k0_part6_skel, k0_part7_eq_skeleton, k0_part7_skel, k0_part8_eq_skeleton, k0_part8_skel,
      Prog.lift, Prog.bind_op, Prog.bind_ret, Prog.pure_eq_ret]
    iintro ⟨HQ, HK, HV, HO, HA, Hk⟩
    iapply (wp_read c none Set.univ arg3 fQ) $$ HQ; iintro HQ
    iapply (wp_read c none Set.univ arg3 fQ) $$ HQ; iintro HQ
    iapply (wp_read c none Set.univ arg4 fK) $$ HK; iintro HK
    iapply (wp_read c none Set.univ arg5 fV) $$ HV; iintro HV
    iapply (wp_tile0 c none Set.univ) $$ HA; iintro HA
    iapply (wp_put0 c none Set.univ) $$ HA; iintro HA
    iapply (wp_read c none Set.univ arg4 fK) $$ HK; iintro HK
    iapply (wp_read c none Set.univ arg5 fV) $$ HV; iintro HV
    iapply (wp_tile1 c none Set.univ) $$ HA; iintro HA
    iapply (wp_put1 c none Set.univ) $$ HA; iintro HA
    iapply (wp_read c none Set.univ arg4 fK) $$ HK; iintro HK
    iapply (wp_read c none Set.univ arg5 fV) $$ HV; iintro HV
    iapply (wp_tile2 c none Set.univ) $$ HA; iintro HA
    iapply (wp_put2 c none Set.univ) $$ HA; iintro HA
    iapply (wp_read c none Set.univ arg4 fK) $$ HK; iintro HK
    iapply (wp_read c none Set.univ arg5 fV) $$ HV; iintro HV
    iapply (wp_tile3 c none Set.univ) $$ HA; iintro HA
    iapply (wp_put3 c none Set.univ) $$ HA; iintro HA
    have hs : newest (qs (arg3.view.read (Elt F) fQ) 0) (qs (arg3.view.read (Elt F) fQ) 1) (qs (arg3.view.read (Elt F) fQ) 2) (qs (arg3.view.read (Elt F) fQ) 3) i (arg4.view.read (Elt F) fK) (arg5.view.read (Elt F) fV)
        = onlyOut (qs (arg3.view.read (Elt F) fQ) 0) (qs (arg3.view.read (Elt F) fQ) 1) (qs (arg3.view.read (Elt F) fQ) 2) (qs (arg3.view.read (Elt F) fQ) 3) (View.ld (arg4.view.read (Elt F) fK) rF0) (View.ld (arg4.view.read (Elt F) fK) rF1) (View.ld (arg5.view.read (Elt F) fV) rF0) (View.ld (arg5.view.read (Elt F) fV) rF1) := dif_neg h1
    have ht := spec_le c i (qs (arg3.view.read (Elt F) fQ) 0) (qs (arg3.view.read (Elt F) fQ) 1) (qs (arg3.view.read (Elt F) fQ) 2) (qs (arg3.view.read (Elt F) fQ) 3) arg4 harg4 arg5 harg5 fK fV Set.univ ((i 2).val - 1) 0 (Nat.zero_add _)
      (flag (onlyOut (qs (arg3.view.read (Elt F) fQ) 0) (qs (arg3.view.read (Elt F) fQ) 1) (qs (arg3.view.read (Elt F) fQ) 2) (qs (arg3.view.read (Elt F) fQ) 3) (View.ld (arg4.view.read (Elt F) fK) rF0) (View.ld (arg4.view.read (Elt F) fK) rF1) (View.ld (arg5.view.read (Elt F) fV) rF0) (View.ld (arg5.view.read (Elt F) fV) rF1)).2) (onlyOut (qs (arg3.view.read (Elt F) fQ) 0) (qs (arg3.view.read (Elt F) fQ) 1) (qs (arg3.view.read (Elt F) fQ) 2) (qs (arg3.view.read (Elt F) fQ) 3) (View.ld (arg4.view.read (Elt F) fK) rF0) (View.ld (arg4.view.read (Elt F) fK) rF1) (View.ld (arg5.view.read (Elt F) fV) rF0) (View.ld (arg5.view.read (Elt F) fV) rF1))
    iapply (wp_call_spec 𝒱₀ (c : Thread nD τ) none Set.univ
      (spec c i (qs (arg3.view.read (Elt F) fQ) 0) (qs (arg3.view.read (Elt F) fQ) 1) (qs (arg3.view.read (Elt F) fQ) 2) (qs (arg3.view.read (Elt F) fQ) 3) arg4 arg5 fK fV ((i 2).val - 1) 0
        (flag (onlyOut (qs (arg3.view.read (Elt F) fQ) 0) (qs (arg3.view.read (Elt F) fQ) 1) (qs (arg3.view.read (Elt F) fQ) 2) (qs (arg3.view.read (Elt F) fQ) 3) (View.ld (arg4.view.read (Elt F) fK) rF0) (View.ld (arg4.view.read (Elt F) fK) rF1) (View.ld (arg5.view.read (Elt F) fV) rF0) (View.ld (arg5.view.read (Elt F) fV) rF1)).2) (onlyOut (qs (arg3.view.read (Elt F) fQ) 0) (qs (arg3.view.read (Elt F) fQ) 1) (qs (arg3.view.read (Elt F) fQ) 2) (qs (arg3.view.read (Elt F) fQ) 3) (View.ld (arg4.view.read (Elt F) fK) rF0) (View.ld (arg4.view.read (Elt F) fK) rF1) (View.ld (arg5.view.read (Elt F) fV) rF0) (View.ld (arg5.view.read (Elt F) fV) rF1))) ((i 2).val - 1)
      (fun u hu => nomatch hu) ht)
    rw [spec_apply]; unfold held
    isplitl [HK HV HA]
    · isplitl [HK]; · iexact HK
      isplitl [HV]; · iexact HV
      iexact HA
    iintro %r ⟨HK, HV, HA⟩
    obtain ⟨r0, r1, r2, r3, r4, r5⟩ := r
    have hw : tiles i (arg3.view.read (Elt F) fQ) (arg4.view.read (Elt F) fK) (arg5.view.read (Elt F) fV)
        = left c i (qs (arg3.view.read (Elt F) fQ) 0) (qs (arg3.view.read (Elt F) fQ) 1) (qs (arg3.view.read (Elt F) fQ) 2) (qs (arg3.view.read (Elt F) fQ) 3) arg4 arg5 fK fV ((i 2).val - 1) 0 (flag (onlyOut (qs (arg3.view.read (Elt F) fQ) 0) (qs (arg3.view.read (Elt F) fQ) 1) (qs (arg3.view.read (Elt F) fQ) 2) (qs (arg3.view.read (Elt F) fQ) 3) (View.ld (arg4.view.read (Elt F) fK) rF0) (View.ld (arg4.view.read (Elt F) fK) rF1) (View.ld (arg5.view.read (Elt F) fV) rF0) (View.ld (arg5.view.read (Elt F) fV) rF1)).2) (onlyOut (qs (arg3.view.read (Elt F) fQ) 0) (qs (arg3.view.read (Elt F) fQ) 1) (qs (arg3.view.read (Elt F) fQ) 2) (qs (arg3.view.read (Elt F) fQ) 3) (View.ld (arg4.view.read (Elt F) fK) rF0) (View.ld (arg4.view.read (Elt F) fK) rF1) (View.ld (arg5.view.read (Elt F) fV) rF0) (View.ld (arg5.view.read (Elt F) fV) rF1)) := by
      unfold tiles; rw [hs]
    rw [← hw]
    iapply (finish c i arg3 arg4 arg5 arg6 fQ fK fV fO K)
    isplitl [HQ]; · iexact HQ
    isplitl [HK]; · iexact HK
    isplitl [HV]; · iexact HV
    isplitl [HO]; · iexact HO
    isplitl [HA]; · iexact HA
    iexact Hk

end Kernel

end Cert.Proof.PI

end
-- ==== Proof.PI.Run.lean ====
/-
  The launch: every execution of the kernel terminates with its argument unchanged and every counter at zero, the result
  array written block by block with what the body computes at each grid point.
-/
module

public import proofs.«01_k».proof.Proof.PI.Body

@[expose] public section

noncomputable section

namespace Cert.Proof.PI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (g : Dev nD → PrngReg)

/-- The arrays as the launch finds them. -/
abbrev entry (c : Dev nD) (b : Ref sig .tc) : Buf (Elt F) ((c : Thread nD τ).loc b) := m ((c : Thread nD τ).loc b)

/-- Window `w`'s block of its array at point `t`. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (entry m c (Pipeline.arrRef spec0 w))

/-- The result block at point `t`: `outBlock` of the query block, the keys and the values. -/
def oblk (c : Dev nD) (t : Fin (cfg0 (F := F)).N) : S1x256x256.Idx → Elt F .f32 :=
  outBlock (grid0.coords t) (iblk m c 0 t) (iblk m c 1 t) (iblk m c 2 t)

/-- The pipeline's proof data: the inputs' buffers at their blocks, the result's at the result block, nothing carried
    between points. -/
def dats (_ : Fin 1) (c : Dev nD) : Dat τ (Elt F) Unit ℕ (UR sig nD τ) ℕ (cfg0 (F := F)) c where
  A w := entry m c (Pipeline.arrRef spec0 w)
  after w t := match w with
    | ⟨0, _⟩ => iblk m c 0 t
    | ⟨1, _⟩ => iblk m c 1 t
    | ⟨2, _⟩ => iblk m c 2 t
    | ⟨3, _⟩ => oblk m c t
  Φ _ := Pipeline.ΦA spec0 c
  q w := Pipeline.shareOf spec0 w
  owed _ := 0

theorem after_0 (c : Dev nD) (t : Fin (cfg0 (F := F)).N) : (dats m 0 c).after 0 t = iblk m c 0 t := by dsimp only [dats]; rfl
theorem after_1 (c : Dev nD) (t : Fin (cfg0 (F := F)).N) : (dats m 0 c).after 1 t = iblk m c 1 t := by dsimp only [dats]; rfl
theorem after_2 (c : Dev nD) (t : Fin (cfg0 (F := F)).N) : (dats m 0 c).after 2 t = iblk m c 2 t := by dsimp only [dats]; rfl
theorem after_3 (c : Dev nD) (t : Fin (cfg0 (F := F)).N) : (dats m 0 c).after 3 t = oblk m c t := by dsimp only [dats]; rfl

theorem before_0 (c : Dev nD) (t : Fin (cfg0 (F := F)).N) (d) : (dats m 0 c).before 0 t d = iblk m c 0 t :=
  Dat.before_in_eq_fetched (dats m 0 c) 0 rfl (fun _ => rfl) (fun _ _ _ => rfl) (fun _ => rfl) t d
theorem before_1 (c : Dev nD) (t : Fin (cfg0 (F := F)).N) (d) : (dats m 0 c).before 1 t d = iblk m c 1 t :=
  Dat.before_in_eq_fetched (dats m 0 c) 1 rfl (fun _ => rfl) (fun _ _ _ => rfl) (fun _ => rfl) t d
theorem before_2 (c : Dev nD) (t : Fin (cfg0 (F := F)).N) (d) : (dats m 0 c).before 2 t d = iblk m c 2 t :=
  Dat.before_in_eq_fetched (dats m 0 c) 2 rfl (fun _ => rfl) (fun _ _ _ => rfl) (fun _ => rfl) t d

/-! ## The body obligation, at a generic point -/

def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl, after_0, after_1, after_2, after_3,
    show (dats m 0 c).Φ t.castSucc = Pipeline.ΦA spec0 c from rfl]
  unfold Pipeline.ΦA
  rw [scopedRest0_eq]
  unfold owns oblk
  iintro ⟨⟨⟨%fA, HA⟩, Hr⟩, Ho, ⟨%d0, %f0, %h0, H0⟩, ⟨%d1, %f1, %h1, H1⟩, ⟨%d2, %f2, %h2, H2⟩, ⟨%d3, %f3, %h3, H3⟩⟩
  obtain ⟨a0, a1, a2, a3, hA⟩ := exists_pack (F := F) fA
  rw [hA]
  iapply (sound_kernel c (grid0.coords t) (st0_0 t) (hstage0_0 (((cfg0 (F := F)).slots t 0).cast nbuf0_0))
    (st0_1 t) (hstage0_1 (((cfg0 (F := F)).slots t 1).cast nbuf0_1)) (st0_2 t) (hstage0_2 (((cfg0 (F := F)).slots t 2).cast nbuf0_2))
    (st0_3 t) (hstage0_3 (((cfg0 (F := F)).slots t 3).cast nbuf0_3)) f0 f1 f2 f3 ![a0, a1, a2, a3])
  isplitl [H0]; · iexact H0
  isplitl [H1]; · iexact H1
  isplitl [H2]; · iexact H2
  isplitl [H3]; · iexact H3
  isplitl [HA]; · iexact HA
  unfold after
  iintro ⟨H0, H1, H2, ⟨%fo, %ho, H3⟩, ⟨%A', HA⟩⟩
  isplitl [HA Hr]
  · isplitl [HA]
    · iexists _; iexact HA
    iexact Hr
  isplitl [Ho]; · iexact Ho
  isplitl [H0]
  · iexists f0; isplitr; · (ipureintro; exact h0)
    iexact H0
  isplitl [H1]
  · iexists f1; isplitr; · (ipureintro; exact h1)
    iexact H1
  isplitl [H2]
  · iexists f2; isplitr; · (ipureintro; exact h2)
    iexact H2
  iexists fo; isplitr; · (ipureintro; exact ho.trans (congr (congr (congrArg (outBlock _) h0) h1) h2))
  iexact H3

/-- The body table's row at point `t`'s slots is the body as `bodyAt0` spells it. -/
theorem defs₀_row (t : Fin (cfg0 (F := F)).N) :
    (defs₀ (F := F)) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact Idealize.ShloMosaic.triple_restated (sound_body m c t) rfl .rfl fun _ => .rfl

/-! ## The run -/

/-- From any memory with zero counters every weakly fair execution of @main terminates, with the windows' arrays as the
    pipeline leaves them, every other array unchanged and the counters at zero. -/
theorem run_main : θ_run (defs (F := F)) (onTc (τ := τ) (main (F := F))) ⟨m, fun _ => 0, g⟩
    (fun r => Pipeline.FramePost (cfgs (F := F)) (dats m) (0 : Fin 1) (fun c b => m ((c : Thread nD τ).loc b)) r ∧ r.2.sem = fun _ => 0) :=
  Pipeline.θ_run_frame_shared (Q' := _) (cfgs (F := F)) (dats m) (0 : Fin 1) launch₀0 (defs₀ (F := F)) 𝒱₀ m g (main (F := F))
    (fun c => (body_obligation m c).loose) (fun _ _ _ => rfl) (fun _ _ => rfl) (fun c b => m ((c : Thread nD τ).loc b))
    (Pipeline.hmain_region (cfgs (F := F)) (0 : Fin 1) (defs₀ (F := F)) 𝒱₀ m (main (F := F)) (fun _ => rfl))
    (fun _ _ => rfl) (fun _ _ => rfl)

/-- The frame: the run ends with the argument unchanged and the counters at zero. -/
theorem run_frame : θ_run (defs (F := F)) (onTc (τ := τ) (main (F := F))) ⟨m, fun _ => 0, g⟩
    (fun r => (∀ c : Dev nD, r.2.mem ((c.tc : Thread nD τ).loc main_arg0) = m ((c.tc : Thread nD τ).loc main_arg0)) ∧ r.2.sem = fun _ => 0) :=
  (run_main m g).mono fun r (h : _ ∧ _) => ⟨fun c => ((h.1 c).1 0).trans ((dats m 0 c).arrAt_in 0 rfl _), h.2⟩

end Cert.Proof.PI

end
-- ==== Proof.Claims.lean ====
/-
  The claims about the programs one at a time: the three frames and the named constant.
-/
module

public import proofs.«01_k».proof.Defs
public import proofs.«01_k».proof.Proof.Gen.ReferenceIdeal.Run
public import proofs.«01_k».proof.Proof.P.Run
public import proofs.«01_k».proof.Proof.PI.Run
public import Idealize.ShloMosaic.Adequacy
public import Idealize.ShloMosaic.Init

@[expose] public section

noncomputable section

namespace Cert.Proof

open Idealize.ShloMosaic Idealize.SL.Sem

theorem frame_p : Cert.quiescent_Kernel := fun m g _ => P.run_frame m g
theorem frame_pi : Cert.quiescent_KernelIdeal := fun m g _ => PI.run_frame m g

theorem run_ri (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

theorem frame_ri : Cert.quiescent_ReferenceIdeal := fun m g _ => run_ri m g

/-- The table gives `"dead"` the value `⊤`, and the kernel's two uses of the literal denote it. -/
theorem preserves : Cert.preserves_Kernel_KernelIdeal :=
  IdealRules.named_const.statement Cert.KernelIdeal.κ "dead" .f32 0x42D00000#32 ⊤ rfl

end Cert.Proof

end
-- ==== Proof.V.Real.lean ====
/-
  The mathematics of stick-breaking weights, over the reals.

  A query at position `t` gives the key at position `s < t` the weight `wt z t s`: the exponential of the key's
  log-weight less the softplus of every score between them. A block of keys adds its own part to the running sum, given
  the softplus sum of all keys newer than it (`old_part`), and the query's own block adds the part of the keys before
  the query (`own_part`).
-/
module

public import Idealize.ShloMosaic.PureOps.Ideal
public import Idealize.ShloMosaic.Lib.Pointwise
public import Mathlib.Algebra.BigOperators.Intervals
public import Mathlib.Analysis.SpecialFunctions.Log.Basic

@[expose] public section

noncomputable section

namespace Cert.Proof.V

open Idealize.ShloMosaic

/-- The softplus of a real score, as the kernel computes it. -/
def spr (z : ℝ) : ℝ := max z 0 + Real.log (1 + Real.exp (-|z|))

theorem spr_neg (z : ℝ) : spr (-z) = spr z - z := by
  unfold spr
  rw [abs_neg]
  rcases le_total z 0 with h | h
  · rw [max_eq_left (by linarith : (0 : ℝ) ≤ -z), max_eq_right h]; ring
  · rw [max_eq_right (by linarith : -z ≤ (0 : ℝ)), max_eq_left h]; ring

/-- The softplus of an extended real. -/
def spE (z : EReal) : EReal := max z 0 + Ideal.log (1 + Ideal.exp (0 - FloatOps.absf (F := Ideal) (φ := .f32) z))

theorem max_coe (x y : ℝ) : max (x : EReal) (y : EReal) = ((max x y : ℝ) : EReal) :=
  ((EReal.coe_strictMono.monotone).map_max (a := x) (b := y)).symm

theorem absf_coe (z : ℝ) : FloatOps.absf (F := Ideal) (φ := .f32) (z : EReal) = ((|z| : ℝ) : EReal) := by
  show max (z : EReal) (-(z : EReal)) = _
  rw [← EReal.coe_neg, max_coe]; rfl

theorem spE_coe (z : ℝ) : spE (z : EReal) = ((spr z : ℝ) : EReal) := by
  unfold spE spr
  have hp : (0 : ℝ) < 1 + Real.exp (-|z|) := by positivity
  rw [absf_coe, ← EReal.coe_zero, max_coe, ← EReal.coe_sub, Ideal.exp_coe, zero_sub, ← EReal.coe_one, ← EReal.coe_add, Ideal.log_coe,
    if_neg (not_le.mpr hp), ← EReal.coe_add]

/-- A finite sum of reals, cast. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A sum over the positions of a block that lie in a range is the sum over that range. -/
theorem sum_block {M : Type} [AddCommMonoid M] (N o a b : ℕ) (hb : b ≤ N) (f : ℕ → M) :
    (∑ k : Fin N, if a ≤ k.val ∧ k.val < b then f (o + k.val) else 0) = ∑ u ∈ Finset.Ico (o + a) (o + b), f u := by
  rw [Fin.sum_univ_eq_sum_range (fun k => if a ≤ k ∧ k < b then f (o + k) else 0) N, ← Finset.sum_filter,
    Nat.add_comm o a, Nat.add_comm o b, ← Finset.sum_Ico_add' f a b o]
  refine (Finset.sum_congr (Finset.ext fun k => ?_) fun k _ => congrArg f (Nat.add_comm o k))
  simp only [Finset.mem_filter, Finset.mem_range, Finset.mem_Ico]
  omega

/-- The weight of the key at `s` for the query at `t`, from the query's scores `z`. -/
def wt (z : ℕ → ℝ) (t s : ℕ) : ℝ := Real.exp (z s - spr (z s) - ∑ u ∈ Finset.Ico (s + 1) t, spr (z u))

/-- The running sum over the keys from `n` on, before the query. -/
def part (z : ℕ → ℝ) (v : ℕ → EReal) (t n : ℕ) : EReal := ∑ s ∈ Finset.Ico n t, (wt z t s : EReal) * v s

/-- The softplus sum over the keys from `n` on, before the query. -/
def carry (z : ℕ → ℝ) (t n : ℕ) : ℝ := ∑ s ∈ Finset.Ico n t, spr (z s)

/-- A block wholly before the query: its keys' part, from the softplus sum of the newer keys. -/
theorem old_part (z : ℕ → ℝ) (v : ℕ → EReal) (t n : ℕ) (h : n + 256 ≤ t) :
    (∑ x : Fin 256, (Real.exp (z (n + x.val) - spr (z (n + x.val))
        - (∑ y : Fin 256, if x.val < y.val then spr (z (n + y.val)) else 0) - carry z t (n + 256)) : EReal) * v (n + x.val))
      + part z v t (n + 256) = part z v t n := by
  have e := Finset.sum_Ico_consecutive (fun s => (wt z t s : EReal) * v s) (Nat.le_add_right n 256) h
  unfold part
  rw [← e]
  congr 1
  have hs := sum_block 256 n 0 256 le_rfl (fun s => (wt z t s : EReal) * v s)
  rw [Nat.add_zero] at hs
  rw [← hs]
  refine Finset.sum_congr rfl fun x _ => ?_
  rw [if_pos ⟨Nat.zero_le _, x.isLt⟩]
  congr 2
  unfold wt
  congr 1
  have hl : (∑ y : Fin 256, if x.val < y.val then spr (z (n + y.val)) else 0) = ∑ u ∈ Finset.Ico (n + x.val + 1) (n + 256), spr (z u) := by
    rw [Nat.add_assoc, ← sum_block 256 n (x.val + 1) 256 le_rfl (fun u => spr (z u))]
    exact Finset.sum_congr rfl fun y _ => if_congr (by have := y.isLt; omega) rfl rfl
  have hx := x.isLt
  have hc := Finset.sum_Ico_consecutive (fun u => spr (z u)) (show n + x.val + 1 ≤ n + 256 by omega) h
  rw [hl, ← hc]
  unfold carry
  ring

theorem old_carry (z : ℕ → ℝ) (t n : ℕ) (h : n + 256 ≤ t) :
    carry z t (n + 256) + ∑ x : Fin 256, spr (z (n + x.val)) = carry z t n := by
  have hs := sum_block 256 n 0 256 le_rfl (fun u => spr (z u))
  rw [Nat.add_zero] at hs
  have e : (∑ x : Fin 256, spr (z (n + x.val))) = ∑ u ∈ Finset.Ico n (n + 256), spr (z u) := by
    rw [← hs]
    exact Finset.sum_congr rfl fun x _ => (if_pos ⟨Nat.zero_le _, x.isLt⟩).symm
  unfold carry
  rw [e, add_comm, Finset.sum_Ico_consecutive _ (Nat.le_add_right n 256) h]

/-- The query's own block: the part of the keys before the query. -/
theorem own_part (z : ℕ → ℝ) (v : ℕ → EReal) (n r : ℕ) (hr : r < 256) :
    (∑ x : Fin 256, if x.val < r then (Real.exp (z (n + x.val) - spr (z (n + x.val))
        - ∑ y : Fin 256, if x.val < y.val ∧ y.val < r then spr (z (n + y.val)) else 0) : EReal) * v (n + x.val) else 0)
      = part z v (n + r) n := by
  unfold part
  have hs := sum_block 256 n 0 r hr.le (fun s => (wt z (n + r) s : EReal) * v s)
  rw [Nat.add_zero] at hs
  rw [← hs]
  refine Finset.sum_congr rfl fun x _ => ?_
  by_cases hx : x.val < r
  · rw [if_pos hx, if_pos ⟨Nat.zero_le _, hx⟩]
    congr 2
    unfold wt
    congr 2
    rw [Nat.add_assoc, ← sum_block 256 n (x.val + 1) r hr.le (fun u => spr (z u))]
    exact Finset.sum_congr rfl fun y _ => if_congr (by omega) rfl rfl
  · rw [if_neg hx, if_neg fun h => hx h.2]

theorem own_carry (z : ℕ → ℝ) (n r : ℕ) (hr : r < 256) :
    (∑ x : Fin 256, if x.val < r then spr (z (n + x.val)) else 0) = carry z (n + r) n := by
  unfold carry
  have hs := sum_block 256 n 0 r hr.le (fun u => spr (z u))
  rw [Nat.add_zero] at hs
  rw [← hs]
  exact Finset.sum_congr rfl fun x _ => if_congr (by omega) rfl rfl

end Cert.Proof.V

end
-- ==== Proof.V.Blocks.lean ====
/-
  What the body's steps do to one row of one head, read off at the extended reals.

  Each step's tile and row sum are read at an index: the scores are contractions over the lanes (`sc`, `scw`), the
  softplus is `spE`, and the product with the triangle is the sum of the softplus over the later keys of the block
  (`laterE`, whose second sum is that of the rounding remainders, here differences of equal terms).
-/
module

public import proofs.«01_k».proof.Proof.PI.Common
public import proofs.«01_k».proof.Proof.V.Real

@[expose] public section

noncomputable section

namespace Cert.Proof.V

open Cert.KernelIdeal Cert.KernelIdeal.Gen Cert.Proof.PI
open Idealize.ShloMosaic

/-! ## Scores and masks -/

/-- The score of row `r` against key `k` of a block, -/
def sc (q : Query Ideal) (ka : Vec Ideal S1x256x128 .bf16) (r k : Fin 256) : EReal :=
  ∑ x : Fin 128, (q (ix2 r x) * ka (ix3 0 k x) : EReal)

/-- and of the two-block window, `o` keys on. -/
def scw (o : ℕ) (ho : o + 256 ≤ 512) (q : Query Ideal) (ka : Vec Ideal S1x512x128 .bf16) (r k : Fin 256) : EReal :=
  ∑ x : Fin 128, (q (ix2 r x) * ka (ix3 0 ⟨o + k.val, by have := k.isLt; omega⟩ x) : EReal)

/-- The sum over the later keys of a block, with its remainders. -/
def laterE (sp : Fin 256 → EReal) (c : Fin 256) : EReal :=
  (∑ x : Fin 256, if c.val < x.val then sp x else 0) + ∑ x : Fin 256, if c.val < x.val then sp x - sp x else 0

theorem toInt_small (a : ℕ) (h : a < 8192) : (BitVec.ofNat 32 a).toInt = (a : ℤ) := by
  have e : (BitVec.ofNat 32 a).toNat = a := by rw [BitVec.toNat_ofNat]; omega
  rw [BitVec.toInt_eq_toNat_of_lt (by rw [e]; omega), e]

theorem slt_iff (a b : ℕ) (ha : a < 8192) (hb : b < 8192) :
    IntOp.cmpi .slt (BitVec.ofNat 32 a) (BitVec.ofNat 32 b) = 1#1 ↔ a < b := by
  simp only [IntOp.cmpi, BitVec.slt]
  rw [toInt_small a ha, toInt_small b hb]
  by_cases h : a < b <;> simp [h]

theorem select_later {M : Type} (x c : Fin 256) (a b : M) :
    Scalar.select (IntOp.cmpi .sgt (BitVec.ofNat 32 x.val) (BitVec.ofNat 32 c.val)) a b = if c.val < x.val then a else b :=
  if_congr (slt_iff c.val x.val (c.isLt.trans (by decide)) (x.isLt.trans (by decide))) rfl rfl

theorem select_mask {M : Type} (r x : Fin 256) (a b : M) :
    Scalar.select (k0_pay67 (ix2 r x)) a b = if x.val < r.val then a else b := by
  refine Eq.trans ?_ (if_congr (slt_iff x.val r.val (x.isLt.trans (by decide)) (r.isLt.trans (by decide))) rfl rfl)
  pointwise [k0_pay67]
  rfl

/-! ## An older block folded in -/

theorem fold_apply (q : Query Ideal) (C : Sums Ideal) (ka va : Vec Ideal S1x256x128 .bf16) (A : Tile Ideal) (r : Fin 256) (l : Fin 128) :
    k0_pay76 (F := Ideal) (k0_pay75 q k0_pay68 C ka va A) (ix3 0 r l)
      = A (ix3 0 r l) + ∑ x : Fin 256, Ideal.exp (sc q ka r x - spE (sc q ka r x) - laterE (fun y => spE (sc q ka r y)) x - C (ix2 r 0)) * va (ix3 0 x l) := by
  pointwise [k0_pay76, k0_pay75, k0_pay68, k0_pay73, k0_pay72]
  simp only [select_later]
  rfl

theorem carry_apply (q : Query Ideal) (C : Sums Ideal) (ka : Vec Ideal S1x256x128 .bf16) (r : Fin 256) :
    k0_pay74 (F := Ideal) q C ka (ix2 r 0) = C (ix2 r 0) + ∑ x : Fin 256, spE (sc q ka r x) := by
  pointwise [k0_pay74, k0_pay73, k0_pay72]
  rfl

/-! ## The first query block's own block -/

theorem only_apply (q : Query Ideal) (ka va : Vec Ideal S1x256x128 .bf16) (r : Fin 256) (l : Fin 128) :
    k0_pay49 (F := Ideal) q k0_pay67 k0_pay68 ka va (ix3 0 r l)
      = ∑ x : Fin 256, if x.val < r.val then
          Ideal.exp (sc q ka r x - (if x.val < r.val then spE (sc q ka r x) else 0)
            - laterE (fun y => if y.val < r.val then spE (sc q ka r y) else 0) x) * va (ix3 0 x l) else 0 := by
  pointwise [k0_pay49, k0_pay68, k0_pay48]
  simp only [select_later, select_mask]
  rfl

/-! ## The window of two blocks -/

section Window

variable (q0 q1 : Query Ideal) (ka : Vec Ideal S1x512x128 .bf16)

theorem z10 (r k : Fin 256) : k0_pay10 (F := Ideal) q0 q1 ka (ix2 r k) = scw 0 (by omega) q0 ka r k := by
  pointwise [k0_pay10, k0_pay5, k0_pay4]
  unfold scw
  simp only [Nat.zero_add]

theorem z11 (r k : Fin 256) : k0_pay11 (F := Ideal) q0 q1 ka (ix2 r k) = scw 0 (by omega) q1 ka r k := by
  pointwise [k0_pay11, k0_pay6, k0_pay4]
  unfold scw
  simp only [Nat.zero_add]

theorem z14 (r k : Fin 256) : k0_pay14 (F := Ideal) q0 q1 ka (ix2 r k) = scw 256 (by omega) q0 ka r k := by
  pointwise [k0_pay14, k0_pay5, k0_pay4]
  rfl

theorem z15 (r k : Fin 256) : k0_pay15 (F := Ideal) q0 q1 ka (ix2 r k) = scw 256 (by omega) q1 ka r k := by
  pointwise [k0_pay15, k0_pay6, k0_pay4]
  rfl

theorem z12 (r k : Fin 256) : k0_pay12 (F := Ideal) q0 q1 ka (ix2 r k) = scw 0 (by omega) q0 ka r k := z10 q0 q1 ka r k
theorem z13 (r k : Fin 256) : k0_pay13 (F := Ideal) q0 q1 ka (ix2 r k) = scw 0 (by omega) q1 ka r k := z11 q0 q1 ka r k
theorem z16 (r k : Fin 256) : k0_pay16 (F := Ideal) q0 q1 ka (ix2 r k) = scw 256 (by omega) q0 ka r k := z14 q0 q1 ka r k
theorem z17 (r k : Fin 256) : k0_pay17 (F := Ideal) q0 q1 ka (ix2 r k) = scw 256 (by omega) q1 ka r k := z15 q0 q1 ka r k

theorem s18 (r k : Fin 256) : k0_pay18 (F := Ideal) q0 q1 ka (ix2 r k) = spE (scw 0 (by omega) q0 ka r k) := by
  rw [← z10 q0 q1]; pointwise [k0_pay18]; rfl

theorem s19 (r k : Fin 256) : k0_pay19 (F := Ideal) q0 q1 ka (ix2 r k) = spE (scw 0 (by omega) q1 ka r k) := by
  rw [← z11 q0 q1]; pointwise [k0_pay19]; rfl

theorem s20 (r k : Fin 256) :
    k0_pay20 (F := Ideal) (k0_pay12 q0 q1 ka) (Scalar.ofBits .f32 0x00000000#32) (ix2 r k) = spE (scw 0 (by omega) q0 ka r k) := s18 q0 q1 ka r k

theorem s21 (r k : Fin 256) : k0_pay21 (F := Ideal) (k0_pay13 q0 q1 ka) (ix2 r k) = spE (scw 0 (by omega) q1 ka r k) := s19 q0 q1 ka r k

theorem s22 (r k : Fin 256) : k0_pay22 (F := Ideal) k0_pay67 (k0_pay14 q0 q1 ka) (ix2 r k)
    = if k.val < r.val then spE (scw 256 (by omega) q0 ka r k) else 0 := by
  rw [← z14 q0 q1, ← select_mask]; pointwise [k0_pay22]; rfl

theorem s23 (r k : Fin 256) : k0_pay23 (F := Ideal) k0_pay67 (k0_pay15 q0 q1 ka) (ix2 r k)
    = if k.val < r.val then spE (scw 256 (by omega) q1 ka r k) else 0 := by
  rw [← z15 q0 q1, ← select_mask]; pointwise [k0_pay23]; rfl

theorem s25 (r k : Fin 256) : k0_pay25 (F := Ideal) k0_pay67 (k0_pay16 q0 q1 ka) (k0_pay24 (k0_pay16 q0 q1 ka)) (ix2 r k)
    = if k.val < r.val then spE (scw 256 (by omega) q0 ka r k) else 0 := s22 q0 q1 ka r k

theorem s26 (r k : Fin 256) : k0_pay26 (F := Ideal) k0_pay67 (k0_pay17 q0 q1 ka) (ix2 r k)
    = if k.val < r.val then spE (scw 256 (by omega) q1 ka r k) else 0 := s23 q0 q1 ka r k

end Window

section Stack

variable (m : IVec S256x256 1) (v77 v78 v88 v98 v108 v118 v130 v142 v144 : FVec Ideal S256x256 .f32)

/-- The stack of the eight blocks of softplus, times the triangle. -/
abbrev stack : FVec Ideal S2048x256 .f32 := k0_pay27 (F := Ideal) m k0_pay68 v77 v78 v88 v98 v108 v118 v130 v142 v144

theorem later0 (r c : Fin 256) (h : 0 + r.val < 2048) :
    stack m v77 v78 v88 v98 v108 v118 v130 v142 v144 (ix2 ⟨0 + r.val, h⟩ c) = laterE (fun y => v88 (ix2 r y)) c := by
  pointwise [k0_pay27, k0_pay68]
  simp only [select_later]
  rfl

theorem later1 (r c : Fin 256) (h : 256 + r.val < 2048) :
    stack m v77 v78 v88 v98 v108 v118 v130 v142 v144 (ix2 ⟨256 + r.val, h⟩ c) = laterE (fun y => v98 (ix2 r y)) c := by
  pointwise [k0_pay27, k0_pay68]
  have hr := r.isLt
  simp only [select_later, show ¬(256 + r.val < 256) by omega,
    r.isLt,
    show 256 + r.val - 256 = r.val by omega, ↓reduceDIte, Fin.eta]
  rfl

theorem later2 (r c : Fin 256) (h : 512 + r.val < 2048) :
    stack m v77 v78 v88 v98 v108 v118 v130 v142 v144 (ix2 ⟨512 + r.val, h⟩ c) = laterE (fun y => v108 (ix2 r y)) c := by
  pointwise [k0_pay27, k0_pay68]
  have hr := r.isLt
  simp only [select_later, show ¬(512 + r.val < 256) by omega,
    show ¬(512 + r.val - 256 < 256) by omega,
    r.isLt,
    show 512 + r.val - 256 - 256 = r.val by omega, ↓reduceDIte, Fin.eta]
  rfl

theorem later3 (r c : Fin 256) (h : 768 + r.val < 2048) :
    stack m v77 v78 v88 v98 v108 v118 v130 v142 v144 (ix2 ⟨768 + r.val, h⟩ c) = laterE (fun y => v118 (ix2 r y)) c := by
  pointwise [k0_pay27, k0_pay68]
  have hr := r.isLt
  simp only [select_later, show ¬(768 + r.val < 256) by omega,
    show ¬(768 + r.val - 256 < 256) by omega,
    show ¬(768 + r.val - 256 - 256 < 256) by omega,
    r.isLt,
    show 768 + r.val - 256 - 256 - 256 = r.val by omega, ↓reduceDIte, Fin.eta]
  rfl

theorem later4 (r c : Fin 256) (h : 1024 + r.val < 2048) :
    stack m v77 v78 v88 v98 v108 v118 v130 v142 v144 (ix2 ⟨1024 + r.val, h⟩ c) = laterE (fun y => v130 (ix2 r y)) c := by
  pointwise [k0_pay27, k0_pay68]
  have hr := r.isLt
  simp only [select_later, show ¬(1024 + r.val < 256) by omega,
    show ¬(1024 + r.val - 256 < 256) by omega,
    show ¬(1024 + r.val - 256 - 256 < 256) by omega,
    show ¬(1024 + r.val - 256 - 256 - 256 < 256) by omega,
    r.isLt,
    show 1024 + r.val - 256 - 256 - 256 - 256 = r.val by omega, ↓reduceDIte, Fin.eta]
  rfl

theorem later5 (r c : Fin 256) (h : 1280 + r.val < 2048) :
    stack m v77 v78 v88 v98 v108 v118 v130 v142 v144 (ix2 ⟨1280 + r.val, h⟩ c) = laterE (fun y => v142 (ix2 r y)) c := by
  pointwise [k0_pay27, k0_pay68]
  have hr := r.isLt
  simp only [select_later, show ¬(1280 + r.val < 256) by omega,
    show ¬(1280 + r.val - 256 < 256) by omega,
    show ¬(1280 + r.val - 256 - 256 < 256) by omega,
    show ¬(1280 + r.val - 256 - 256 - 256 < 256) by omega,
    show ¬(1280 + r.val - 256 - 256 - 256 - 256 < 256) by omega,
    r.isLt,
    show 1280 + r.val - 256 - 256 - 256 - 256 - 256 = r.val by omega, ↓reduceDIte, Fin.eta]
  rfl

theorem later6 (r c : Fin 256) (h : 1536 + r.val < 2048) :
    stack m v77 v78 v88 v98 v108 v118 v130 v142 v144 (ix2 ⟨1536 + r.val, h⟩ c) = laterE (fun y => k0_pay25 m v77 v144 (ix2 r y)) c := by
  pointwise [k0_pay27, k0_pay68]
  have hr := r.isLt
  simp only [select_later, show ¬(1536 + r.val < 256) by omega,
    show ¬(1536 + r.val - 256 < 256) by omega,
    show ¬(1536 + r.val - 256 - 256 < 256) by omega,
    show ¬(1536 + r.val - 256 - 256 - 256 < 256) by omega,
    show ¬(1536 + r.val - 256 - 256 - 256 - 256 < 256) by omega,
    show ¬(1536 + r.val - 256 - 256 - 256 - 256 - 256 < 256) by omega,
    r.isLt,
    show 1536 + r.val - 256 - 256 - 256 - 256 - 256 - 256 = r.val by omega, ↓reduceDIte, Fin.eta]
  rfl

theorem later7 (r c : Fin 256) (h : 1792 + r.val < 2048) :
    stack m v77 v78 v88 v98 v108 v118 v130 v142 v144 (ix2 ⟨1792 + r.val, h⟩ c) = laterE (fun y => k0_pay26 m v78 (ix2 r y)) c := by
  pointwise [k0_pay27, k0_pay68]
  have hr := r.isLt
  simp only [select_later, show ¬(1792 + r.val < 256) by omega,
    show ¬(1792 + r.val - 256 < 256) by omega,
    show ¬(1792 + r.val - 256 - 256 < 256) by omega,
    show ¬(1792 + r.val - 256 - 256 - 256 < 256) by omega,
    show ¬(1792 + r.val - 256 - 256 - 256 - 256 < 256) by omega,
    show ¬(1792 + r.val - 256 - 256 - 256 - 256 - 256 < 256) by omega,
    show ¬(1792 + r.val - 256 - 256 - 256 - 256 - 256 - 256 < 256) by omega,
    show 1792 + r.val - 256 - 256 - 256 - 256 - 256 - 256 - 256 = r.val by omega, ↓reduceDIte, Fin.eta]
  rfl

end Stack

end Cert.Proof.V

end
-- ==== Proof.V.Window.lean ====
/-
  The two newest blocks taken as one window, read off at a row of each head.
-/
module

public import proofs.«01_k».proof.Proof.V.Blocks

@[expose] public section

noncomputable section

namespace Cert.Proof.V

open Cert.KernelIdeal Cert.KernelIdeal.Gen Cert.Proof.PI
open Idealize.ShloMosaic

/-- The query's own block's softplus, zero from the query on. -/
def ownE (zd : Fin 256 → EReal) (r y : Fin 256) : EReal := if y.val < r.val then spE (zd y) else 0

/-- A row's value from the window: the older block's scores `zp` and values `vp`, the own block's `zd` and `vd`. -/
def winRow (zp zd vp vd : Fin 256 → EReal) (r : Fin 256) : EReal :=
  (∑ x : Fin 256, Ideal.exp (zp x - spE (zp x) - laterE (fun y => spE (zp y)) x - ∑ y : Fin 256, ownE zd r y) * vp x)
    + ∑ x : Fin 256, if x.val < r.val then Ideal.exp (zd x - ownE zd r x - laterE (ownE zd r) x) * vd x else 0

/-- And its softplus sum. -/
def winSum (zp zd : Fin 256 → EReal) (r : Fin 256) : EReal := (∑ y : Fin 256, ownE zd r y) + ∑ x : Fin 256, spE (zp x)

variable (q0 q1 q2 q3 : Query Ideal) (ka kb va vb : Vec Ideal S1x512x128 .bf16) (r : Fin 256) (l : Fin 128)

/-- The window's values at a lane, `o` keys on. -/
def vw (o : ℕ) (ho : o + 256 ≤ 512) (va : Vec Ideal S1x512x128 .bf16) (l : Fin 128) (k : Fin 256) : EReal :=
  va (ix3 0 ⟨o + k.val, by have := k.isLt; omega⟩ l)

theorem s20' (k : Fin 256) : k0_pay20 (F := Ideal) (k0_pay12 q0 q1 ka) (0 : EReal) (ix2 r k) = spE (scw 0 (by omega) q0 ka r k) := by
  refine Eq.trans ?_ (s20 q0 q1 ka r k)
  pointwise [k0_pay20]

theorem later0' (m : IVec S256x256 1) (v77 v78 v88 v98 v108 v118 v130 v142 v144 : FVec Ideal S256x256 .f32) (c : Fin 256) (h : r.val < 2048) :
    stack m v77 v78 v88 v98 v108 v118 v130 v142 v144 (ix2 ⟨r.val, h⟩ c) = laterE (fun y => v88 (ix2 r y)) c := by
  have e := later0 m v77 v78 v88 v98 v108 v118 v130 v142 v144 r c (by omega)
  simp only [Nat.zero_add] at e
  exact e

theorem win0 : (winOut q0 q1 q2 q3 ka kb va vb).1 0 (ix3 0 r l)
    = winRow (scw 0 (by omega) q0 ka r) (scw 256 (by omega) q0 ka r) (vw 0 (by omega) va l) (vw 256 (by omega) va l) r := by
  show k0_pay43 (F := Ideal) _ _ va (ix3 0 r l) = _
  pointwise [k0_pay43, k0_pay42, k0_pay29, k0_pay28]
  simp only [select_mask, z10, z14, s18, s22, later0', later4]
  unfold winRow ownE vw
  simp only [Nat.zero_add]

theorem win1 : (winOut q0 q1 q2 q3 ka kb va vb).1 1 (ix3 0 r l)
    = winRow (scw 0 (by omega) q1 ka r) (scw 256 (by omega) q1 ka r) (vw 0 (by omega) va l) (vw 256 (by omega) va l) r := by
  show k0_pay44 (F := Ideal) _ _ va (ix3 0 r l) = _
  pointwise [k0_pay44, k0_pay42, k0_pay33, k0_pay32]
  simp only [select_mask, z11, z15, s19, s23, later1, later5]
  unfold winRow ownE vw
  simp only [Nat.zero_add]

theorem win2 : (winOut q0 q1 q2 q3 ka kb va vb).1 2 (ix3 0 r l)
    = winRow (scw 0 (by omega) q2 kb r) (scw 256 (by omega) q2 kb r) (vw 0 (by omega) vb l) (vw 256 (by omega) vb l) r := by
  show k0_pay46 (F := Ideal) _ _ _ _ vb (ix3 0 r l) = _
  pointwise [k0_pay46, k0_pay45, k0_pay36, k0_pay35]
  simp only [select_mask, z12, z16, s20', s25, later2, later6]
  unfold winRow ownE vw
  simp only [Nat.zero_add]

theorem win3 : (winOut q0 q1 q2 q3 ka kb va vb).1 3 (ix3 0 r l)
    = winRow (scw 0 (by omega) q3 kb r) (scw 256 (by omega) q3 kb r) (vw 0 (by omega) vb l) (vw 256 (by omega) vb l) r := by
  show k0_pay69 (F := Ideal) (k0_pay47 _ _ _ _ vb) (ix3 0 r l) = _
  pointwise [k0_pay69, k0_pay47, k0_pay45, k0_pay39, k0_pay40, k0_pay38]
  simp only [select_mask, z13, z17, s21, s26, later3, later7]
  unfold winRow ownE vw
  simp only [Nat.zero_add]

theorem sum0 : (winOut q0 q1 q2 q3 ka kb va vb).2 0 (ix2 r 0) = winSum (scw 0 (by omega) q0 ka r) (scw 256 (by omega) q0 ka r) r := by
  show k0_pay31 (F := Ideal) _ _ (ix2 r 0) = _
  pointwise [k0_pay31, k0_pay28, k0_pay30]
  simp only [s18, s22]
  rfl

theorem sum1 : (winOut q0 q1 q2 q3 ka kb va vb).2 1 (ix2 r 0) = winSum (scw 0 (by omega) q1 ka r) (scw 256 (by omega) q1 ka r) r := by
  show k0_pay34 (F := Ideal) _ _ (ix2 r 0) = _
  pointwise [k0_pay34, k0_pay32]
  simp only [s19, s23]
  rfl

theorem sum2 : (winOut q0 q1 q2 q3 ka kb va vb).2 2 (ix2 r 0) = winSum (scw 0 (by omega) q2 kb r) (scw 256 (by omega) q2 kb r) r := by
  show k0_pay37 (F := Ideal) _ _ (ix2 r 0) = _
  pointwise [k0_pay37, k0_pay35]
  simp only [s20', s25]
  rfl

theorem sum3 : (winOut q0 q1 q2 q3 ka kb va vb).2 3 (ix2 r 0) = winSum (scw 0 (by omega) q3 kb r) (scw 256 (by omega) q3 kb r) r := by
  show k0_pay41 (F := Ideal) _ _ (ix2 r 0) = _
  pointwise [k0_pay41, k0_pay38]
  simp only [s21, s26]
  rfl

end Cert.Proof.V

end
-- ==== Proof.V.Rows.lean ====
/-
  The steps on one row of one head whose scores are real: each carries the running sum and the softplus sum one block
  of keys down.
-/
module

public import proofs.«01_k».proof.Proof.V.Window

@[expose] public section

noncomputable section

namespace Cert.Proof.V

open Cert.KernelIdeal Cert.KernelIdeal.Gen Cert.Proof.PI
open Idealize.ShloMosaic

theorem coe_ite (p : Prop) [Decidable p] (a : ℝ) : (if p then (a : EReal) else 0) = ((if p then a else 0 : ℝ) : EReal) := by
  split <;> rfl

theorem laterE_coe (f : Fin 256 → ℝ) (c : Fin 256) :
    laterE (fun y => (f y : EReal)) c = ((∑ y : Fin 256, if c.val < y.val then f y else 0 : ℝ) : EReal) := by
  unfold laterE
  have h0 : (∑ x : Fin 256, if c.val < x.val then (f x : EReal) - (f x : EReal) else 0) = 0 := by
    refine Finset.sum_eq_zero fun x _ => ?_
    rw [← EReal.coe_sub, sub_self]
    split <;> rfl
  rw [h0, add_zero, coe_sum]
  exact Finset.sum_congr rfl fun y _ => coe_ite _ _

section Row

variable (z : ℕ → ℝ) (v : ℕ → EReal) (t n : ℕ)

theorem fold_row (q : Query Ideal) (C : Sums Ideal) (ka va : Vec Ideal S1x256x128 .bf16) (A : Tile Ideal) (r : Fin 256) (l : Fin 128)
    (ht : n + 256 ≤ t) (hs : ∀ k : Fin 256, sc q ka r k = (z (n + k.val) : EReal)) (hv : ∀ k : Fin 256, va (ix3 0 k l) = v (n + k.val))
    (hC : C (ix2 r 0) = (carry z t (n + 256) : EReal)) (hA : A (ix3 0 r l) = part z v t (n + 256)) :
    k0_pay76 (F := Ideal) (k0_pay75 q k0_pay68 C ka va A) (ix3 0 r l) = part z v t n := by
  rw [fold_apply, hA, hC, add_comm, ← old_part z v t n ht]
  congr 1
  refine Finset.sum_congr rfl fun x _ => ?_
  rw [hv]
  simp only [hs, spE_coe]
  rw [laterE_coe, ← EReal.coe_sub, ← EReal.coe_sub, ← EReal.coe_sub, Ideal.exp_coe]

theorem carry_row (q : Query Ideal) (C : Sums Ideal) (ka : Vec Ideal S1x256x128 .bf16) (r : Fin 256)
    (ht : n + 256 ≤ t) (hs : ∀ k : Fin 256, sc q ka r k = (z (n + k.val) : EReal)) (hC : C (ix2 r 0) = (carry z t (n + 256) : EReal)) :
    k0_pay74 (F := Ideal) q C ka (ix2 r 0) = (carry z t n : EReal) := by
  rw [carry_apply, hC, ← old_carry z t n ht, EReal.coe_add, coe_sum]
  congr 1
  refine Finset.sum_congr rfl fun x _ => ?_
  rw [hs, spE_coe]

theorem ownE_coe (zd : Fin 256 → EReal) (r : Fin 256) (hd : ∀ k : Fin 256, zd k = (z (n + k.val) : EReal)) :
    ownE zd r = fun y => ((if y.val < r.val then spr (z (n + y.val)) else 0 : ℝ) : EReal) := by
  funext y
  unfold ownE
  rw [hd, spE_coe, coe_ite]

/-- The own block's part, from its masked terms. -/
theorem own_row (zd vd : Fin 256 → EReal) (r : Fin 256) (hd : ∀ k : Fin 256, zd k = (z (n + k.val) : EReal))
    (hv : ∀ k : Fin 256, vd k = v (n + k.val)) :
    (∑ x : Fin 256, if x.val < r.val then Ideal.exp (zd x - ownE zd r x - laterE (ownE zd r) x) * vd x else 0)
      = part z v (n + r.val) n := by
  rw [← own_part z v n r.val r.isLt, ownE_coe z n zd r hd]
  refine Finset.sum_congr rfl fun x _ => ?_
  by_cases hx : x.val < r.val
  · rw [if_pos hx, if_pos hx, laterE_coe, hd, hv]
    beta_reduce
    rw [if_pos hx, ← EReal.coe_sub, ← EReal.coe_sub, Ideal.exp_coe]
    congr 4
    refine Finset.sum_congr rfl fun y _ => ?_
    by_cases h1 : x.val < y.val <;> by_cases h2 : y.val < r.val <;> simp [h1, h2]
  · rw [if_neg hx, if_neg hx]

theorem own_sum (zd : Fin 256 → EReal) (r : Fin 256) (hd : ∀ k : Fin 256, zd k = (z (n + k.val) : EReal)) :
    (∑ y : Fin 256, ownE zd r y) = (carry z (n + r.val) n : EReal) := by
  rw [ownE_coe z n zd r hd, ← coe_sum, own_carry z n r.val r.isLt]

theorem win_row (zp zd vp vd : Fin 256 → EReal) (r : Fin 256) (hp : ∀ k : Fin 256, zp k = (z (n + k.val) : EReal))
    (hd : ∀ k : Fin 256, zd k = (z (n + 256 + k.val) : EReal)) (hvp : ∀ k : Fin 256, vp k = v (n + k.val))
    (hvd : ∀ k : Fin 256, vd k = v (n + 256 + k.val)) :
    winRow zp zd vp vd r = part z v (n + 256 + r.val) n := by
  unfold winRow
  rw [own_row z v (n + 256) zd vd r hd hvd, own_sum z (n + 256) zd r hd, ← old_part z v (n + 256 + r.val) n (by omega)]
  congr 1
  refine Finset.sum_congr rfl fun x _ => ?_
  rw [hvp]
  simp only [hp, spE_coe]
  rw [laterE_coe, ← EReal.coe_sub, ← EReal.coe_sub, ← EReal.coe_sub, Ideal.exp_coe]

theorem win_sum (zp zd : Fin 256 → EReal) (r : Fin 256) (hp : ∀ k : Fin 256, zp k = (z (n + k.val) : EReal))
    (hd : ∀ k : Fin 256, zd k = (z (n + 256 + k.val) : EReal)) :
    winSum zp zd r = (carry z (n + 256 + r.val) n : EReal) := by
  unfold winSum
  rw [own_sum z (n + 256) zd r hd, ← old_carry z (n + 256 + r.val) n (by omega), EReal.coe_add, coe_sum]
  congr 1
  refine Finset.sum_congr rfl fun x _ => ?_
  rw [hp, spE_coe]

theorem only_row (q : Query Ideal) (ka va : Vec Ideal S1x256x128 .bf16) (r : Fin 256) (l : Fin 128)
    (hs : ∀ k : Fin 256, sc q ka r k = (z (n + k.val) : EReal)) (hv : ∀ k : Fin 256, va (ix3 0 k l) = v (n + k.val)) :
    k0_pay49 (F := Ideal) q k0_pay67 k0_pay68 ka va (ix3 0 r l) = part z v (n + r.val) n := by
  rw [only_apply, ← own_row z v n (sc q ka r) (fun k => va (ix3 0 k l)) r hs hv]
  rfl

end Row

end Cert.Proof.V

end
-- ==== Proof.V.Walk.lean ====
/-
  The four tiles of a query block, when the body is done with the key blocks: each row the running sum over every key
  before the query.

  The while's flag never falls, the bound being the top element, so every older block is folded in.
-/
module

public import proofs.«01_k».proof.Proof.V.Rows
public import Idealize.ShloMosaic.Lib.Pipeline.ValueKit.Tiles

@[expose] public section

noncomputable section

namespace Cert.Proof.V

open Cert.KernelIdeal Cert.KernelIdeal.Gen Cert.Proof.PI
open Idealize.ShloMosaic

/-! ## The counter and the offsets -/

theorem flag_one (C : Fin 4 → Sums Ideal) : flag C = 1#32 := by
  unfold flag
  have h : Scalar.cmpf .ole (k0_pay3 (C 0) (C 1) (C 2) (C 3)) (Named.named (F := Ideal) κ "dead" (φ := .f32) 0x42D00000#32) = 1#1 := by
    have e : Named.named (F := Ideal) κ "dead" (φ := .f32) 0x42D00000#32 = (⊤ : EReal) := rfl
    rw [e]
    show BitVec.ofBool (decide (_ ≤ (⊤ : EReal))) = 1#1
    rw [decide_eq_true le_top]; rfl
  rw [h]; rfl

theorem goes_of_lt (i : grid0.Coords) (j : ℕ) (hj : j + 1 < (i 2).val) : goes i (BitVec.ofNat 32 j) 1#32 = 1#1 := by
  have hi : (i 2).val < 32 := (i 2).isLt
  unfold goes
  generalize (i 2).val = n at hj hi
  have h : ∀ n < 32, ∀ j < n - 1, Scalar.andi (Scalar.cmpi .slt (BitVec.ofNat 32 j) (Scalar.subi (BitVec.ofNat 32 n) 1#32)) (Scalar.cmpi .sgt 1#32 0#32) = 1#1 := by
    decide
  exact h n hi j (by omega)

theorem cond_iff (i : grid0.Coords) : k0_cond1 i = 1#1 ↔ 0 < (i 2).val := by
  have hi : (i 2).val < 32 := (i 2).isLt
  unfold k0_cond1
  generalize (i 2).val = n at hi
  revert n; decide

theorem off1_eq (i : grid0.Coords) (h : 0 < (i 2).val) : k0_off1 i = ![0, 256 * ((i 2).val - 1), 0] := by
  have hi : (i 2).val < 32 := (i 2).isLt
  unfold k0_off1
  generalize (i 2).val = n at h hi
  have e : ∀ n < 32, 0 < n → (Scalar.muli (Scalar.subi (BitVec.ofNat 32 n) 1#32) 256#32).toNat = 256 * (n - 1) := by decide
  rw [← e n hi h]; rfl

theorem off2_eq (i : grid0.Coords) (h : 0 < (i 2).val) : k0_off2 i = ![0, 256 * ((i 2).val - 1), 128] := by
  have hi : (i 2).val < 32 := (i 2).isLt
  unfold k0_off2
  generalize (i 2).val = n at h hi
  have e : ∀ n < 32, 0 < n → (Scalar.muli (Scalar.subi (BitVec.ofNat 32 n) 1#32) 256#32).toNat = 256 * (n - 1) := by decide
  rw [← e n hi h]; rfl

theorem off3_eq (i : grid0.Coords) (j : ℕ) (hj : j + 1 < (i 2).val) : k0_off3 i (BitVec.ofNat 32 j) = ![0, 256 * ((i 2).val - 2 - j), 0] := by
  have hi : (i 2).val < 32 := (i 2).isLt
  unfold k0_off3
  generalize (i 2).val = n at hj hi
  have h : ∀ n < 32, ∀ j < n - 1, (Scalar.muli (Scalar.subi (Scalar.subi (Scalar.subi (BitVec.ofNat 32 n) 1#32) 1#32) (BitVec.ofNat 32 j)) 256#32).toNat
      = 256 * (n - 2 - j) := by decide
  have e := h n hi j (by omega)
  rw [← e]; rfl

theorem off4_eq (i : grid0.Coords) (j : ℕ) (hj : j + 1 < (i 2).val) : k0_off4 i (BitVec.ofNat 32 j) = ![0, 256 * ((i 2).val - 2 - j), 128] := by
  have hi : (i 2).val < 32 := (i 2).isLt
  unfold k0_off4
  generalize (i 2).val = n at hj hi
  have h : ∀ n < 32, ∀ j < n - 1, (Scalar.muli (Scalar.subi (Scalar.subi (Scalar.subi (BitVec.ofNat 32 n) 1#32) 1#32) (BitVec.ofNat 32 j)) 256#32).toNat
      = 256 * (n - 2 - j) := by decide
  have e := h n hi j (by omega)
  rw [← e]; rfl

/-! ## The blocks read -/

theorem ld_block (N : ℕ) (X : Span Ideal) (off : Fin 3 → ℕ) (inb : ∀ a, off a + (![1, N, 128] : Fin 3 → ℕ) a ≤ S1x8192x256.size a) (n c : ℕ)
    (ho : off = ![0, n, c]) (k : Fin N) (x : Fin 128) (hn : n + k.val < 8192) (hc : c + x.val < 256) :
    View.ld X (Rect.unit (s := S1x8192x256) off ![1, N, 128] inb) (ix3 0 k x) = X (ix3 0 ⟨n + k.val, hn⟩ ⟨c + x.val, hc⟩) := by
  subst ho
  refine View.ld_unit_apply_of X _ _ inb _ _ ?_
  exact Fin.forall_fin_succ.mpr ⟨rfl, Fin.forall_fin_succ.mpr ⟨rfl, Fin.forall_fin_one.mpr rfl⟩⟩

section Rows

variable (i : grid0.Coords) (Q : Fin 4 → Query Ideal) (XK XV : Span Ideal) (r : Fin 256) (l : Fin 128)
  (z : Fin 4 → ℕ → ℝ) (v : Fin 4 → ℕ → EReal)

/-- Head `h`'s pair's lane `x` among the block's. -/
def lane (h : Fin 4) (x : Fin 128) : Fin 256 := ⟨128 * (h.val / 2) + x.val, by have := h.isLt; have := x.isLt; omega⟩

/-- Row `r`'s scores are the reals `z`, and the values at lane `l` are `v`. -/
def Reads : Prop := ∀ (h : Fin 4) (s : Fin 8192),
  (∑ x : Fin 128, (Q h (ix2 r x) * XK (ix3 0 s (lane h x)) : EReal)) = (z h s.val : EReal) ∧ XV (ix3 0 s (lane h l)) = v h s.val

variable {Q XK XV r l z v}

theorem sc_ld (H : Reads Q XK XV r l z v) (h : Fin 4) (off : Fin 3 → ℕ) (inb : ∀ a, off a + S1x256x128.size a ≤ S1x8192x256.size a) (n : ℕ)
    (ho : off = ![0, n, 128 * (h.val / 2)]) (k : Fin 256) :
    sc (Q h) (View.ld XK (Rect.unit (s := S1x8192x256) off S1x256x128.size inb)) r k = (z h (n + k.val) : EReal) := by
  have hn : n + 256 ≤ 8192 := by subst ho; exact inb 1
  rw [← (H h ⟨n + k.val, by omega⟩).1]
  unfold sc
  refine Finset.sum_congr rfl fun x _ => ?_
  exact congrArg (fun y : EReal => (Q h (ix2 r x) * y : EReal)) (ld_block 256 XK off inb n _ ho k x (by omega) (lane h x).isLt)

theorem val_ld (H : Reads Q XK XV r l z v) (h : Fin 4) (off : Fin 3 → ℕ) (inb : ∀ a, off a + S1x256x128.size a ≤ S1x8192x256.size a) (n : ℕ)
    (ho : off = ![0, n, 128 * (h.val / 2)]) (k : Fin 256) :
    View.ld XV (Rect.unit (s := S1x8192x256) off S1x256x128.size inb) (ix3 0 k l) = v h (n + k.val) := by
  have hn : n + 256 ≤ 8192 := by subst ho; exact inb 1
  rw [← (H h ⟨n + k.val, by omega⟩).2]
  exact ld_block 256 XV off inb n _ ho k l (by omega) (lane h l).isLt

theorem scw_ld (H : Reads Q XK XV r l z v) (h : Fin 4) (off : Fin 3 → ℕ) (inb : ∀ a, off a + S1x512x128.size a ≤ S1x8192x256.size a) (n o : ℕ)
    (ho : off = ![0, n, 128 * (h.val / 2)]) (hb : o + 256 ≤ 512) (k : Fin 256) :
    scw o hb (Q h) (View.ld XK (Rect.unit (s := S1x8192x256) off S1x512x128.size inb)) r k = (z h (n + o + k.val) : EReal) := by
  have hn : n + 512 ≤ 8192 := by subst ho; exact inb 1
  rw [← (H h ⟨n + o + k.val, by omega⟩).1]
  unfold scw
  refine Finset.sum_congr rfl fun x _ => ?_
  refine congrArg (fun y : EReal => (Q h (ix2 r x) * y : EReal)) ?_
  have e := ld_block 512 XK off inb n _ ho ⟨o + k.val, by omega⟩ x (by show n + (o + k.val) < 8192; omega) (lane h x).isLt
  refine e.trans (congrArg (fun y => XK (ix3 0 y (lane h x))) (Fin.ext ?_))
  exact (Nat.add_assoc n o k.val).symm

theorem vw_ld (H : Reads Q XK XV r l z v) (h : Fin 4) (off : Fin 3 → ℕ) (inb : ∀ a, off a + S1x512x128.size a ≤ S1x8192x256.size a) (n o : ℕ)
    (ho : off = ![0, n, 128 * (h.val / 2)]) (hb : o + 256 ≤ 512) (k : Fin 256) :
    vw o hb (View.ld XV (Rect.unit (s := S1x8192x256) off S1x512x128.size inb)) l k = v h (n + o + k.val) := by
  have hn : n + 512 ≤ 8192 := by subst ho; exact inb 1
  rw [← (H h ⟨n + o + k.val, by omega⟩).2]
  have e := ld_block 512 XV off inb n _ ho ⟨o + k.val, by omega⟩ l (by show n + (o + k.val) < 8192; omega) (lane h l).isLt
  refine e.trans (congrArg (fun y => XV (ix3 0 y (lane h l))) (Fin.ext ?_))
  exact (Nat.add_assoc n o k.val).symm

/-! ## The invariant -/

/-- The tiles and sums of the four heads, the keys from `n` on taken in. -/
def Inv (r : Fin 256) (l : Fin 128) (z : Fin 4 → ℕ → ℝ) (v : Fin 4 → ℕ → EReal) (t n : ℕ) (s : (Fin 4 → Tile Ideal) × (Fin 4 → Sums Ideal)) : Prop :=
  ∀ h : Fin 4, s.1 h (ix3 0 r l) = part (z h) (v h) t n ∧ s.2 h (ix2 r 0) = (carry (z h) t n : EReal)

theorem trip_inv (H : Reads Q XK XV r l z v) (t n : ℕ) (ht : n + 256 ≤ t) (offa offb : Fin 3 → ℕ)
    (inba : ∀ a, offa a + S1x256x128.size a ≤ S1x8192x256.size a) (inbb : ∀ a, offb a + S1x256x128.size a ≤ S1x8192x256.size a)
    (ha : offa = ![0, n, 0]) (hb : offb = ![0, n, 128]) (s : (Fin 4 → Tile Ideal) × (Fin 4 → Sums Ideal)) (hs : Inv r l z v t (n + 256) s) :
    Inv r l z v t n (trip (Q 0) (Q 1) (Q 2) (Q 3)
      (View.ld XK (Rect.unit (s := S1x8192x256) offa S1x256x128.size inba)) (View.ld XK (Rect.unit (s := S1x8192x256) offb S1x256x128.size inbb))
      (View.ld XV (Rect.unit (s := S1x8192x256) offa S1x256x128.size inba)) (View.ld XV (Rect.unit (s := S1x8192x256) offb S1x256x128.size inbb)) s) := by
  refine Fin.forall_fin_succ.mpr ⟨⟨?_, ?_⟩, Fin.forall_fin_succ.mpr ⟨⟨?_, ?_⟩, Fin.forall_fin_succ.mpr ⟨⟨?_, ?_⟩, Fin.forall_fin_one.mpr ⟨?_, ?_⟩⟩⟩⟩
  · exact fold_row (z 0) (v 0) t n (Q 0) _ _ _ _ r l ht (sc_ld H 0 offa inba n ha) (val_ld H 0 offa inba n ha) (hs 0).2 (hs 0).1
  · exact carry_row (z 0) t n (Q 0) _ _ r ht (sc_ld H 0 offa inba n ha) (hs 0).2
  · exact fold_row (z 1) (v 1) t n (Q 1) _ _ _ _ r l ht (sc_ld H 1 offa inba n ha) (val_ld H 1 offa inba n ha) (hs 1).2 (hs 1).1
  · exact carry_row (z 1) t n (Q 1) _ _ r ht (sc_ld H 1 offa inba n ha) (hs 1).2
  · exact fold_row (z 2) (v 2) t n (Q 2) _ _ _ _ r l ht (sc_ld H 2 offb inbb n hb) (val_ld H 2 offb inbb n hb) (hs 2).2 (hs 2).1
  · exact carry_row (z 2) t n (Q 2) _ _ r ht (sc_ld H 2 offb inbb n hb) (hs 2).2
  · exact fold_row (z 3) (v 3) t n (Q 3) _ _ _ _ r l ht (sc_ld H 3 offb inbb n hb) (val_ld H 3 offb inbb n hb) (hs 3).2 (hs 3).1
  · exact carry_row (z 3) t n (Q 3) _ _ r ht (sc_ld H 3 offb inbb n hb) (hs 3).2

theorem win_inv (H : Reads Q XK XV r l z v) (n : ℕ) (offa offb : Fin 3 → ℕ)
    (inba : ∀ a, offa a + S1x512x128.size a ≤ S1x8192x256.size a) (inbb : ∀ a, offb a + S1x512x128.size a ≤ S1x8192x256.size a)
    (ha : offa = ![0, n, 0]) (hb : offb = ![0, n, 128]) :
    Inv r l z v (n + 256 + r.val) n (winOut (Q 0) (Q 1) (Q 2) (Q 3)
      (View.ld XK (Rect.unit (s := S1x8192x256) offa S1x512x128.size inba)) (View.ld XK (Rect.unit (s := S1x8192x256) offb S1x512x128.size inbb))
      (View.ld XV (Rect.unit (s := S1x8192x256) offa S1x512x128.size inba)) (View.ld XV (Rect.unit (s := S1x8192x256) offb S1x512x128.size inbb))) := by
  refine Fin.forall_fin_succ.mpr ⟨⟨?_, ?_⟩, Fin.forall_fin_succ.mpr ⟨⟨?_, ?_⟩, Fin.forall_fin_succ.mpr ⟨⟨?_, ?_⟩, Fin.forall_fin_one.mpr ⟨?_, ?_⟩⟩⟩⟩
  · exact (win0 _ _ _ _ _ _ _ _ r l).trans (win_row (z 0) (v 0) n _ _ _ _ r (scw_ld H 0 offa inba n 0 ha (by omega)) (scw_ld H 0 offa inba n 256 ha (by omega)) (vw_ld H 0 offa inba n 0 ha (by omega)) (vw_ld H 0 offa inba n 256 ha (by omega)))
  · exact (sum0 _ _ _ _ _ _ _ _ r).trans (win_sum (z 0) n _ _ r (scw_ld H 0 offa inba n 0 ha (by omega)) (scw_ld H 0 offa inba n 256 ha (by omega)))
  · exact (win1 _ _ _ _ _ _ _ _ r l).trans (win_row (z 1) (v 1) n _ _ _ _ r (scw_ld H 1 offa inba n 0 ha (by omega)) (scw_ld H 1 offa inba n 256 ha (by omega)) (vw_ld H 1 offa inba n 0 ha (by omega)) (vw_ld H 1 offa inba n 256 ha (by omega)))
  · exact (sum1 _ _ _ _ _ _ _ _ r).trans (win_sum (z 1) n _ _ r (scw_ld H 1 offa inba n 0 ha (by omega)) (scw_ld H 1 offa inba n 256 ha (by omega)))
  · exact (win2 _ _ _ _ _ _ _ _ r l).trans (win_row (z 2) (v 2) n _ _ _ _ r (scw_ld H 2 offb inbb n 0 hb (by omega)) (scw_ld H 2 offb inbb n 256 hb (by omega)) (vw_ld H 2 offb inbb n 0 hb (by omega)) (vw_ld H 2 offb inbb n 256 hb (by omega)))
  · exact (sum2 _ _ _ _ _ _ _ _ r).trans (win_sum (z 2) n _ _ r (scw_ld H 2 offb inbb n 0 hb (by omega)) (scw_ld H 2 offb inbb n 256 hb (by omega)))
  · exact (win3 _ _ _ _ _ _ _ _ r l).trans (win_row (z 3) (v 3) n _ _ _ _ r (scw_ld H 3 offb inbb n 0 hb (by omega)) (scw_ld H 3 offb inbb n 256 hb (by omega)) (vw_ld H 3 offb inbb n 0 hb (by omega)) (vw_ld H 3 offb inbb n 256 hb (by omega)))
  · exact (sum3 _ _ _ _ _ _ _ _ r).trans (win_sum (z 3) n _ _ r (scw_ld H 3 offb inbb n 0 hb (by omega)) (scw_ld H 3 offb inbb n 256 hb (by omega)))

/-- The first query block: its own keys are all there are. -/
theorem only_part (H : Reads Q XK XV r l z v) (h : Fin 4) :
    (onlyOut (Q 0) (Q 1) (Q 2) (Q 3) (View.ld XK rF0) (View.ld XK rF1) (View.ld XV rF0) (View.ld XV rF1)).1 h (ix3 0 r l)
      = part (z h) (v h) (0 + r.val) 0 := by
  revert h
  refine Fin.forall_fin_succ.mpr ⟨?_, Fin.forall_fin_succ.mpr ⟨?_, Fin.forall_fin_succ.mpr ⟨?_, Fin.forall_fin_one.mpr ?_⟩⟩⟩
  · exact only_row (z 0) (v 0) 0 (Q 0) _ _ r l (sc_ld H 0 _ _ 0 rfl) (val_ld H 0 _ _ 0 rfl)
  · exact only_row (z 1) (v 1) 0 (Q 1) _ _ r l (sc_ld H 1 _ _ 0 rfl) (val_ld H 1 _ _ 0 rfl)
  · exact only_row (z 2) (v 2) 0 (Q 2) _ _ r l (sc_ld H 2 _ _ 0 rfl) (val_ld H 2 _ _ 0 rfl)
  · exact only_row (z 3) (v 3) 0 (Q 3) _ _ r l (sc_ld H 3 _ _ 0 rfl) (val_ld H 3 _ _ 0 rfl)

/-- The while folds the older blocks in, newest first, down to the first key. -/
theorem walk_part (H : Reads Q XK XV r l z v) (h : Fin 4) (t : ℕ) (k : ℕ) : ∀ (j : ℕ) (s : (Fin 4 → Tile Ideal) × (Fin 4 → Sums Ideal)),
    k + j + 1 = (i 2).val → 256 * k ≤ t → Inv r l z v t (256 * k) s →
    walk (Q 0) (Q 1) (Q 2) (Q 3) i XK XV k j 1#32 s h (ix3 0 r l) = part (z h) (v h) t 0 := by
  induction k with
  | zero => exact fun j s _ _ hs => (hs h).1
  | succ k ih =>
    intro j s hj ht hs
    have hlt : j + 1 < (i 2).val := by omega
    unfold walk
    rw [if_pos (goes_of_lt i j hlt), dif_pos (chk_of_lt i j hlt), flag_one]
    have hk : (i 2).val - 2 - j = k := by omega
    refine ih (j + 1) _ (by omega) (by omega) (trip_inv H t (256 * k) (by omega) _ _ _ _ ?_ ?_ s (by rwa [Nat.mul_succ] at hs))
    · rw [off3_eq i j hlt, hk]
    · rw [off4_eq i j hlt, hk]

/-- Each head's tile, in the end. -/
theorem tiles_part (H : Reads Q XK XV r l z v) (h : Fin 4) :
    walk (Q 0) (Q 1) (Q 2) (Q 3) i XK XV ((i 2).val - 1) 0 (flag (newest (Q 0) (Q 1) (Q 2) (Q 3) i XK XV).2)
      (newest (Q 0) (Q 1) (Q 2) (Q 3) i XK XV) h (ix3 0 r l) = part (z h) (v h) (256 * (i 2).val + r.val) 0 := by
  rw [flag_one]
  by_cases hi : 0 < (i 2).val
  · have e : 256 * ((i 2).val - 1) + 256 + r.val = 256 * (i 2).val + r.val := by omega
    refine walk_part i H h _ _ 0 _ (by omega) (by omega) ?_
    unfold newest
    rw [dif_pos ((cond_iff i).mpr hi), ← e]
    exact win_inv H _ _ _ _ _ (off1_eq i hi) (off2_eq i hi)
  · have e : (i 2).val = 0 := by omega
    have hn : newest (Q 0) (Q 1) (Q 2) (Q 3) i XK XV
        = onlyOut (Q 0) (Q 1) (Q 2) (Q 3) (View.ld XK rF0) (View.ld XK rF1) (View.ld XV rF0) (View.ld XV rF1) :=
      dif_neg fun hc => hi ((cond_iff i).mp hc)
    rw [hn, e]
    exact only_part H h

end Rows

end Cert.Proof.V

end
-- ==== Proof.V.Heads.lean ====
/-
  The heads within a block: a pair's queries masked to one head's lanes, and the two tiles of a pair interleaved.
-/
module

public import proofs.«01_k».proof.Proof.V.Walk

@[expose] public section

noncomputable section

namespace Cert.Proof.V

open Cert.KernelIdeal Cert.KernelIdeal.Gen Cert.Proof.PI
open Idealize.ShloMosaic

theorem select_low {M : Type} (r : Fin 256) (x : Fin 128) (a b : M) :
    Scalar.select (k0_pay58 (ix2 r x)) a b = if x.val < 64 then a else b := by
  refine Eq.trans ?_ (if_congr (slt_iff x.val 64 (x.isLt.trans (by decide)) (by decide)) rfl rfl)
  pointwise [k0_pay58]
  rfl

theorem q61 (X : Vec Ideal S1x256x128 .bf16) (r : Fin 256) (x : Fin 128) :
    k0_pay61 (F := Ideal) X (ix2 r x) = if x.val < 64 then X (ix3 0 r x) else 0 := by
  rw [← select_low r]; pointwise [k0_pay61, k0_pay59, k0_pay60]

theorem q62 (X : Vec Ideal S1x256x128 .bf16) (r : Fin 256) (x : Fin 128) :
    k0_pay62 (F := Ideal) X (ix2 r x) = if x.val < 64 then 0 else X (ix3 0 r x) := by
  rw [← select_low r]; pointwise [k0_pay62, k0_pay59, k0_pay60]

theorem q65 (X : Vec Ideal S1x256x128 .bf16) (r : Fin 256) (x : Fin 128) :
    k0_pay65 (F := Ideal) X (ix2 r x) = if x.val < 64 then X (ix3 0 r x) else 0 := by
  rw [← select_low r]; pointwise [k0_pay65, k0_pay63, k0_pay64]

theorem q66 (X : Vec Ideal S1x256x128 .bf16) (r : Fin 256) (x : Fin 128) :
    k0_pay66 (F := Ideal) X (ix2 r x) = if x.val < 64 then 0 else X (ix3 0 r x) := by
  rw [← select_low r]; pointwise [k0_pay66, k0_pay63, k0_pay64]

/-- A head's query is the block's, on the head's own lanes. -/
theorem qs_apply (X : S1x256x256.Idx → Elt Ideal .bf16) (h : Fin 4) (r : Fin 256) (x : Fin 128) :
    qs X h (ix2 r x) = if x.val / 64 = h.val % 2 then X (ix3 0 r (lane h x)) else 0 := by
  have l0 : View.ld X rH0 (ix3 0 r x) = X (ix3 0 r (lane 0 x)) :=
    View.ld_unit_apply_of X _ _ _ _ _ (Fin.forall_fin_succ.mpr ⟨rfl, Fin.forall_fin_succ.mpr ⟨(Nat.zero_add _).symm, Fin.forall_fin_one.mpr rfl⟩⟩)
  have l1 : View.ld X rH1 (ix3 0 r x) = X (ix3 0 r (lane 2 x)) :=
    View.ld_unit_apply_of X _ _ _ _ _ (Fin.forall_fin_succ.mpr ⟨rfl, Fin.forall_fin_succ.mpr ⟨(Nat.zero_add _).symm, Fin.forall_fin_one.mpr rfl⟩⟩)
  have hx := x.isLt
  revert h
  refine Fin.forall_fin_succ.mpr ⟨?_, Fin.forall_fin_succ.mpr ⟨?_, Fin.forall_fin_succ.mpr ⟨?_, Fin.forall_fin_one.mpr ?_⟩⟩⟩
  · refine (q61 (View.ld X rH0) r x).trans ?_
    rw [l0]
    exact if_congr (by show _ ↔ x.val / 64 = 0 % 2; omega) rfl rfl
  · refine (q62 (View.ld X rH0) r x).trans ?_
    rw [l0, ← ite_not]
    exact if_congr (by show _ ↔ x.val / 64 = 1 % 2; omega) rfl rfl
  · refine (q65 (View.ld X rH1) r x).trans ?_
    rw [l1]
    exact if_congr (by show _ ↔ x.val / 64 = 2 % 2; omega) rfl rfl
  · refine (q66 (View.ld X rH1) r x).trans ?_
    rw [l1, ← ite_not]
    exact if_congr (by show _ ↔ x.val / 64 = 3 % 2; omega) rfl rfl

/-- A sum over a pair's lanes masked to one head's is the sum over the head's. -/
theorem sum_head (p : ℕ) (hp : p < 2) (f : ℕ → EReal) :
    (∑ x : Fin 128, if x.val / 64 = p then f x.val else 0) = ∑ d ∈ Finset.range 64, f (64 * p + d) := by
  have e := sum_block 128 0 (64 * p) (64 * p + 64) (by omega) f
  simp only [Nat.zero_add] at e
  rw [Finset.sum_Ico_eq_sum_range, Nat.add_sub_cancel_left] at e
  rw [← e]
  exact Finset.sum_congr rfl fun x _ => if_congr (by omega) rfl rfl

theorem p1_apply (A B : Tile Ideal) (r : Fin 256) (l : Fin 128) :
    k0_pay1 (F := Ideal) k0_pay58 A B (ix3 0 r l) = if l.val < 64 then A (ix3 0 r l) else B (ix3 0 r l) := by
  rw [← select_low r]; pointwise [k0_pay1]

/-- The head whose columns hold column `c` of a block, and the lane. -/
def headOf (c : Fin 256) : Fin 4 := ⟨c.val / 64, by have := c.isLt; omega⟩
def laneOf (c : Fin 256) : Fin 128 := ⟨c.val % 128, by omega⟩

theorem lane_headOf (c : Fin 256) : lane (headOf c) (laneOf c) = c := by
  refine Fin.ext ?_
  show 128 * (c.val / 64 / 2) + c.val % 128 = c.val
  have := c.isLt
  omega

/-- The result block reads each column from its head's tile. -/
theorem outBlock_apply (i : grid0.Coords) (XQ : S1x256x256.Idx → Elt Ideal .bf16) (XK XV : Span Ideal) (r c : Fin 256) :
    outBlock i XQ XK XV (ix3 0 r c) = tiles i XQ XK XV (headOf c) (ix3 0 r (laneOf c)) := by
  unfold outBlock
  have hc := c.isLt
  generalize tiles i XQ XK XV = A
  by_cases h : c.val < 128
  · have hm : (ix3 0 r c : S1x256x256.Idx) ∉ rH1.set := fun hm => by
      have := (Rect.mem_set_unit.mp hm 2).1
      have : 128 ≤ c.val := this
      omega
    have e : (ix3 0 r c : S1x256x256.Idx) = rH0.emb (ix3 0 r (laneOf c) : S1x256x128.Idx) := by
      funext a
      refine Fin.ext ?_
      revert a
      refine Fin.forall_fin_succ.mpr ⟨rfl, Fin.forall_fin_succ.mpr ⟨?_, Fin.forall_fin_one.mpr ?_⟩⟩
      · show r.val = 0 + 1 * r.val; omega
      · show c.val = 0 + 1 * (c.val % 128); omega
    refine (View.canon_cons_of_not_mem (⟨rH1, k0_pay2 k0_pay58 (A 2) (A 3)⟩ : View.Piece (Elt Ideal) S1x256x256 .f32) _ hm).trans ?_
    rw [e, View.canon_cons_emb]
    refine (p1_apply (A 0) (A 1) r (laneOf c)).trans ?_
    by_cases h2 : c.val < 64
    · have hh : headOf c = (0 : Fin 4) := Fin.ext (by show c.val / 64 = 0; omega)
      rw [if_pos (show (laneOf c).val < 64 by show c.val % 128 < 64; omega), hh]
    · have hh : headOf c = (1 : Fin 4) := Fin.ext (by show c.val / 64 = 1; omega)
      rw [if_neg (show ¬(laneOf c).val < 64 by show ¬c.val % 128 < 64; omega), hh]
  · have e : (ix3 0 r c : S1x256x256.Idx) = rH1.emb (ix3 0 r (laneOf c) : S1x256x128.Idx) := by
      funext a
      refine Fin.ext ?_
      revert a
      refine Fin.forall_fin_succ.mpr ⟨rfl, Fin.forall_fin_succ.mpr ⟨?_, Fin.forall_fin_one.mpr ?_⟩⟩
      · show r.val = 0 + 1 * r.val; omega
      · show c.val = 128 + 1 * (c.val % 128); omega
    rw [e, View.canon_cons_emb]
    refine (p1_apply (A 2) (A 3) r (laneOf c)).trans ?_
    by_cases h2 : c.val < 192
    · have hh : headOf c = (2 : Fin 4) := Fin.ext (by show c.val / 64 = 2; omega)
      rw [if_pos (show (laneOf c).val < 64 by show c.val % 128 < 64; omega), hh]
    · have hh : headOf c = (3 : Fin 4) := Fin.ext (by show c.val / 64 = 3; omega)
      rw [if_neg (show ¬(laneOf c).val < 64 by show ¬c.val % 128 < 64; omega), hh]

end Cert.Proof.V

end
-- ==== Proof.V.Array.lean ====
/-
  The kernel's result array, as a function of its argument.
-/
module

public import proofs.«01_k».proof.Proof.V.Heads
public import proofs.«01_k».proof.Proof.PI.Run
public import Idealize.ShloMosaic.Lib.Pipeline.ValueKit

@[expose] public section

noncomputable section

namespace Cert.Proof.V

open Cert.KernelIdeal Cert.KernelIdeal.Gen Cert.Proof.PI
open Idealize.ShloMosaic

/-- The argument's element at batch `b`, position `t`, column `c`. -/
def elem (X : S2x8192x1536.Idx → EReal) (b t c : ℕ) : EReal :=
  if h : b < 2 ∧ t < 8192 ∧ c < 1536 then X (ix3 ⟨b, h.1⟩ ⟨t, h.2.1⟩ ⟨c, h.2.2⟩) else 0

/-- The real score of the query at `t` against the key at `s`, head `hd`. -/
def score (X : S2x8192x1536.Idx → EReal) (b t hd s : ℕ) : ℝ :=
  ∑ d ∈ Finset.range 64, (elem X b t (64 * hd + d)).toReal * (elem X b s (512 + (64 * hd + d))).toReal

/-- Stick-breaking attention: each result element the weighted sum of the values before it. -/
def attention (X : S2x8192x1536.Idx → EReal) : S2x8192x512.Idx → EReal := fun y =>
  part (score X (y 0).val (y 1).val ((y 2).val / 64)) (fun s => elem X (y 0).val s (1024 + (y 2).val)) (y 1).val 0

/-- The queries and keys are real. -/
def Real (X : S2x8192x1536.Idx → EReal) : Prop := ∀ b t c, c < 1024 → elem X b t c = ((elem X b t c).toReal : EReal)

variable (m : (ℓ : Loc nD τ sig) → Buf (Elt Ideal) ℓ) (c : Dev nD)

/-- The argument. -/
abbrev arg : S2x8192x1536.Idx → EReal := m ((c.tc : Thread nD τ).loc main_arg0)

theorem ix0 : ∀ t : Fin (cfg0 (F := Ideal)).N, win0_0.index t = ![(grid0.coords t 0).val, (grid0.coords t 2).val, (grid0.coords t 1).val] :=
  (by decide +kernel : ∀ t : Fin grid0.N, _)
theorem ix1 : ∀ t : Fin (cfg0 (F := Ideal)).N, win0_1.index t = ![(grid0.coords t 0).val, 0, 2 + (grid0.coords t 1).val] :=
  (by decide +kernel : ∀ t : Fin grid0.N, _)
theorem ix2' : ∀ t : Fin (cfg0 (F := Ideal)).N, win0_2.index t = ![(grid0.coords t 0).val, 0, 4 + (grid0.coords t 1).val] :=
  (by decide +kernel : ∀ t : Fin grid0.N, _)
theorem ix3' : ∀ t : Fin (cfg0 (F := Ideal)).N, win0_3.index t = ![(grid0.coords t 0).val, (grid0.coords t 2).val, (grid0.coords t 1).val] :=
  (by decide +kernel : ∀ t : Fin grid0.N, _)

theorem elem_of (X : S2x8192x1536.Idx → EReal) (y : S2x8192x1536.Idx) : X y = elem X (y 0).val (y 1).val (y 2).val := by
  unfold elem
  rw [dif_pos ⟨(y 0).isLt, (y 1).isLt, (y 2).isLt⟩]
  exact congrArg X (ValueIdx.eq_ix3 y)

theorem elem_congr (X : S2x8192x1536.Idx → EReal) {b b' t t' k k' : ℕ} (hb : b = b') (ht : t = t') (hk : k = k') : elem X b t k = elem X b' t' k' := by
  rw [hb, ht, hk]

theorem blk0 (t : Fin (cfg0 (F := Ideal)).N) (r x : Fin 256) :
    iblk m c 0 t (ix3 0 r x) = elem (arg m c) (grid0.coords t 0).val (256 * (grid0.coords t 2).val + r.val) (256 * (grid0.coords t 1).val + x.val) := by
  blk_simp [iblk, ix0]
  refine (elem_of (arg m c) _).trans ?_
  blk_simp [ix0]
  exact elem_congr _ rfl (by omega) (by omega)

theorem blk1 (t : Fin (cfg0 (F := Ideal)).N) (s : Fin 8192) (x : Fin 256) :
    iblk m c 1 t (ix3 0 s x) = elem (arg m c) (grid0.coords t 0).val s.val (512 + (256 * (grid0.coords t 1).val + x.val)) := by
  blk_simp [iblk, ix1]
  refine (elem_of (arg m c) _).trans ?_
  blk_simp [ix1]
  exact elem_congr _ rfl (by omega) (by omega)

theorem blk2 (t : Fin (cfg0 (F := Ideal)).N) (s : Fin 8192) (x : Fin 256) :
    iblk m c 2 t (ix3 0 s x) = elem (arg m c) (grid0.coords t 0).val s.val (1024 + (256 * (grid0.coords t 1).val + x.val)) := by
  blk_simp [iblk, ix2']
  refine (elem_of (arg m c) _).trans ?_
  blk_simp [ix2']
  exact elem_congr _ rfl (by omega) (by omega)

/-- The head of the model that a block's head is. -/
def headAt (t : Fin (cfg0 (F := Ideal)).N) (h : Fin 4) : ℕ := 4 * (grid0.coords t 1).val + h.val

/-- The product of the query's and the key's elements at column `k` of head `h`'s pair. -/
def prod (t : Fin (cfg0 (F := Ideal)).N) (r : Fin 256) (s h k : ℕ) : EReal :=
  elem (arg m c) (grid0.coords t 0).val (256 * (grid0.coords t 2).val + r.val) (256 * (grid0.coords t 1).val + (128 * (h / 2) + k))
    * elem (arg m c) (grid0.coords t 0).val s (512 + (256 * (grid0.coords t 1).val + (128 * (h / 2) + k)))

/-- A row of the query block against the batch's keys and values. -/
theorem reads (hX : Real (arg m c)) (t : Fin (cfg0 (F := Ideal)).N) (r : Fin 256) (l : Fin 128) :
    Reads (qs (iblk m c 0 t)) (iblk m c 1 t) (iblk m c 2 t) r l
      (fun h => score (arg m c) (grid0.coords t 0).val (256 * (grid0.coords t 2).val + r.val) (headAt t h))
      (fun h s => elem (arg m c) (grid0.coords t 0).val s (1024 + (256 * (grid0.coords t 1).val + (lane h l).val))) := by
  intro h s
  refine ⟨?_, blk2 m c t s (lane h l)⟩
  have hg : (grid0.coords t 1).val < 2 := (grid0.coords t 1).isLt
  have hh := h.isLt
  have e : (∑ x : Fin 128, (qs (iblk m c 0 t) h (ix2 r x) * iblk m c 1 t (ix3 0 s (lane h x)) : EReal))
      = ∑ x : Fin 128, if x.val / 64 = h.val % 2 then
          prod m c t r s.val h.val x.val else 0 := by
    refine Finset.sum_congr rfl fun x _ => ?_
    rw [qs_apply, blk0, blk1]
    by_cases hx : x.val / 64 = h.val % 2
    · rw [if_pos hx, if_pos hx]; rfl
    · rw [if_neg hx, if_neg hx, zero_mul]
  refine (e.trans (sum_head (h.val % 2) (by omega) (prod m c t r s.val h.val))).trans ?_
  unfold score headAt prod
  rw [coe_sum]
  refine Finset.sum_congr rfl fun d hd => ?_
  have hd' := Finset.mem_range.mp hd
  rw [EReal.coe_mul, ← hX _ _ _ (by omega), ← hX _ _ _ (by omega)]
  exact congrArg₂ (· * ·) (elem_congr _ rfl rfl (by omega)) (elem_congr _ rfl rfl (by omega))

/-- The result block at a point, read at a row and a column. -/
theorem oblk_apply (hX : Real (arg m c)) (t : Fin (cfg0 (F := Ideal)).N) (r k : Fin 256) :
    oblk m c t (ix3 0 r k) = part (score (arg m c) (grid0.coords t 0).val (256 * (grid0.coords t 2).val + r.val) (headAt t (headOf k)))
      (fun s => elem (arg m c) (grid0.coords t 0).val s (1024 + (256 * (grid0.coords t 1).val + k.val)))
      (256 * (grid0.coords t 2).val + r.val) 0 := by
  unfold oblk
  rw [outBlock_apply]
  refine (tiles_part (grid0.coords t) (reads m c hX t r (laneOf k)) (headOf k)).trans ?_
  beta_reduce
  rw [lane_headOf]

/-- THE RESULT ARRAY is the attention of the argument. -/
theorem final_o (hX : Real (arg m c)) : (dats m 0 c).arrAt 3 (cfg0 (F := Ideal)).N = attention (arg m c) := by
  refine (dats m 0 c).arrAt_eq_of_covers 3 _ (by decide +kernel) fun t hf y => ?_
  blk_simp [ix3']
  rw [after_3]
  unfold attention
  blk_simp [ix3']
  obtain ⟨r, k, hy⟩ : ∃ r k : Fin 256, y = (ix3 0 r k : S1x256x256.Idx) := by
    refine ⟨y 1, y 2, (ValueIdx.eq_ix3 (n0 := 1) (n1 := 256) (n2 := 256) y).trans ?_⟩
    exact congrArg (fun a : Fin 1 => (ix3 a (y 1) (y 2) : S1x256x256.Idx)) (Subsingleton.elim (α := Fin 1) _ _)
  subst hy
  refine (oblk_apply m c hX t r k).trans ?_
  blk_simp [ix3']
  have hk := k.isLt
  have e2 : headAt t (headOf k) = ((grid0.coords t 1).val * 256 + k.val) / 64 := by
    show 4 * (grid0.coords t 1).val + k.val / 64 = _
    omega
  rw [e2, Nat.mul_comm 256 (grid0.coords t 2).val, Nat.mul_comm 256 (grid0.coords t 1).val]

/-- The kernel's run: the result is the attention of the argument, which is unchanged. -/
theorem kernel_run (g : Dev nD → PrngReg) (hX : ∀ c, Real (arg m c)) :
    θ_run (defs (F := Ideal)) (onTc (τ := τ) (main (F := Ideal))) ⟨m, fun _ => 0, g⟩ (fun r => ∀ c : Dev nD,
      r.2.mem ((c.tc : Thread nD τ).loc main_v0) = attention (arg m c) ∧ r.2.mem ((c.tc : Thread nD τ).loc main_arg0) = m ((c.tc : Thread nD τ).loc main_arg0)) :=
  (run_main m g).mono fun r (h : _ ∧ _) c =>
    ⟨((h.1 c).1 3).trans (final_o m c (hX c)), ((h.1 c).1 0).trans ((dats m 0 c).arrAt_in 0 rfl _)⟩

end Cert.Proof.V

end
-- ==== Proof.V.Ref.lean ====
/-
  The reference's result array, as a function of its argument.
-/
module

public import proofs.«01_k».proof.Proof.V.Array
public import proofs.«01_k».proof.Proof.Gen.ReferenceIdeal.Run

@[expose] public section

noncomputable section

namespace Cert.Proof.V.Ref

open Cert.ReferenceIdeal Cert.ReferenceIdeal.Gen Cert.ReferenceIdeal.Facts
open Idealize.ShloMosaic

/-! ## A window sum along the last axis -/

theorem foldl_add {A : Type} (g : A → EReal) (l : List A) (v : EReal) : l.foldl (fun r n => r + g n) v = v + (l.map g).sum := by
  induction l generalizing v with
  | nil => simp
  | cons a l ih => rw [List.foldl_cons, ih, List.map_cons, List.sum_cons, add_assoc]

/-- A window along the last axis, as an index of that axis. -/
def along (N : ℕ) : (⟨4, ![1, 1, 1, N]⟩ : Shape).Idx ≃ Fin N where
  toFun w := w 3
  invFun n := ix4 0 0 0 n
  left_inv w := funext fun a => by
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv _ := rfl

/-- A window sum along the last axis, the window of its whole length and padded high: the sum from each index on. -/
theorem window_sum {A B T N N1 : ℕ} (L : FVec Ideal ⟨4, ![A, B, T, N]⟩ .f32) (init : FVec Ideal ⟨0, ![]⟩ .f32)
    (hw : (⟨4, ![A, B, T, N]⟩ : Shape).ReduceWindows (![1, 1, 1, N] : Fin 4 → ℕ) ![1, 1, 1, 1] ![0, 0, 0, 0] ![0, 0, 0, N1] ⟨4, ![A, B, T, N]⟩)
    (hu : 0 < (⟨0, ![]⟩ : Shape).numel) (h0 : init (Shape.Idx.first hu) = 0) (a : Fin A) (b : Fin B) (t : Fin T) (s : Fin N) :
    Host.reduceWindowAdd ![1, 1, 1, N] ![1, 1, 1, 1] ![0, 0, 0, 0] ![0, 0, 0, N1] L init hw hu (ix4 a b t s)
      = ∑ n : Fin N, if h : s.val + n.val < N then L (ix4 a b t ⟨s.val + n.val, h⟩) else (0 : EReal) := by
  show Host.reduceWindow (· + ·) ![1, 1, 1, N] ![1, 1, 1, 1] ![0, 0, 0, 0] ![0, 0, 0, N1] L (fun _ : (⟨0, ![]⟩ : Shape).Idx => init (Shape.Idx.first hu)) hw hu (ix4 a b t s) = _
  unfold Host.reduceWindow
  rw [h0]
  refine (foldl_add _ _ _).trans ?_
  rw [zero_add, ← Fin.sum_univ_def]
  refine Fintype.sum_equiv ((⟨4, ![1, 1, 1, N]⟩ : Shape).rowMajor.symm.trans (along N)) _ _ fun n => ?_
  let w : (⟨4, ![1, 1, 1, N]⟩ : Shape).Idx := (⟨4, ![1, 1, 1, N]⟩ : Shape).rowMajor.symm n
  have e : ((⟨4, ![1, 1, 1, N]⟩ : Shape).rowMajor.symm.trans (along N)) n = w 3 := rfl
  rw [e]
  have w0 : (w 0).val = 0 := Nat.lt_one_iff.1 (w 0).isLt
  have w1 : (w 1).val = 0 := Nat.lt_one_iff.1 (w 1).isLt
  have w2 : (w 2).val = 0 := Nat.lt_one_iff.1 (w 2).isLt
  by_cases h : s.val + (w 3).val < N
  · have hin : ∀ x : Fin 4, (![0, 0, 0, 0] : Fin 4 → ℕ) x ≤ (ix4 a b t s x).val * (![1, 1, 1, 1] : Fin 4 → ℕ) x + (w x).val
        ∧ (ix4 a b t s x).val * (![1, 1, 1, 1] : Fin 4 → ℕ) x + (w x).val - (![0, 0, 0, 0] : Fin 4 → ℕ) x < (⟨4, ![A, B, T, N]⟩ : Shape).size x := by
      intro x
      match x with
      | ⟨0, _⟩ => exact ⟨Nat.zero_le _, by show a.val * 1 + (w 0).val - 0 < A; have := a.isLt; omega⟩
      | ⟨1, _⟩ => exact ⟨Nat.zero_le _, by show b.val * 1 + (w 1).val - 0 < B; have := b.isLt; omega⟩
      | ⟨2, _⟩ => exact ⟨Nat.zero_le _, by show t.val * 1 + (w 2).val - 0 < T; have := t.isLt; omega⟩
      | ⟨3, _⟩ => exact ⟨Nat.zero_le _, by show s.val * 1 + (w 3).val - 0 < N; omega⟩
    rw [dif_pos h]
    refine (dif_pos hin).trans (congrArg L (funext fun x => Fin.ext ?_))
    match x with
    | ⟨0, _⟩ => show a.val * 1 + (w 0).val - 0 = a.val; omega
    | ⟨1, _⟩ => show b.val * 1 + (w 1).val - 0 = b.val; omega
    | ⟨2, _⟩ => show t.val * 1 + (w 2).val - 0 = t.val; omega
    | ⟨3, _⟩ => show s.val * 1 + (w 3).val - 0 = s.val + (w 3).val; omega
  · rw [dif_neg h]
    refine dif_neg fun hin => h ?_
    have h3 : s.val * 1 + (w 3).val - 0 < N := (hin 3).2
    omega

/-! ## The reference's operations -/

/-- The scores of all queries against all keys, by head. -/
def scores (X : FVec Ideal S2x8192x1536 .bf16) : FVec Ideal S2x8x8192x8192 .f32 :=
  Host.dotGeneral dot_S2x8192x8x64_S2x8192x8x64_S2x8x8192x8192_3_3_1_1_02_02 none
    (shapeCast S2x8192x8x64 (extractStridedSlice S2x8192x512 ![0, 0, 0] (extf .f32 X bitsLt_bf16_f32) slices_S2x8192x1536_S2x8192x512_0_0_0) shapeCasts_S2x8192x512_S2x8192x8x64)
    (shapeCast S2x8192x8x64 (extractStridedSlice S2x8192x512 ![0, 0, 512] (extf .f32 X bitsLt_bf16_f32) slices_S2x8192x1536_S2x8192x512_0_0_512) shapeCasts_S2x8192x512_S2x8192x8x64)

/-- Zero at every score. -/
def zeros : FVec Ideal S2x8x8192x8192 .f32 := broadcastInDim S2x8x8192x8192 ![] bcast_S_S2x8x8192x8192 (constant S_ .f32 0x00000000#32)

/-- The logarithm of the sigmoid. -/
def logSig (Z : FVec Ideal S2x8x8192x8192 .f32) : FVec Ideal S2x8x8192x8192 .f32 :=
  Host.negf (select (cmpf .une (subf (Host.negf Z) zeros) (subf (Host.negf Z) zeros)) (addf (Host.negf Z) zeros)
    (addf (maximumf (Host.negf Z) zeros) (Host.log1p (Host.exp (Host.negf (Host.absf (subf (Host.negf Z) zeros)))))))

/-- The keys before each query. -/
def before : IVec S2x8x8192x8192 1 :=
  broadcastInDim S2x8x8192x8192 ![2, 3] bcast_S8192x8192_S2x8x8192x8192_2_3
    (cmpi .slt (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

/-- What each key leaves of the stick, in logarithms. -/
def rest (Z : FVec Ideal S2x8x8192x8192 .f32) : FVec Ideal S2x8x8192x8192 .f32 := select before (logSig (Host.negf Z)) zeros

/-- Its sums from each key on. -/
def suffix (L : FVec Ideal S2x8x8192x8192 .f32) : FVec Ideal S2x8x8192x8192 .f32 :=
  Host.reduceWindowAdd ![1, 1, 1, 8192] ![1, 1, 1, 1] ![0, 0, 0, 0] ![0, 0, 0, 8191] L
    (broadcastInDim S_ ![] bcast_S_S_ (constant (F := Ideal) S_ .f32 0x00000000#32)) reduceWindows_S2x8x8192x8192_S2x8x8192x8192_w1s1p0_0_w1s1p0_0_w1s1p0_0_w8192s1p0_8191 h_S_

/-- The weights. -/
def weights (Z : FVec Ideal S2x8x8192x8192 .f32) : FVec Ideal S2x8x8192x8192 .f32 :=
  select before (Host.exp (addf (logSig Z) (subf (suffix (rest Z)) (rest Z)))) zeros

/-- The result from the weights. -/
def out (X : FVec Ideal S2x8192x1536 .bf16) (W : FVec Ideal S2x8x8192x8192 .f32) : FVec Ideal S2x8192x512 .f32 :=
  shapeCast S2x8192x512 (transpose S2x8192x8x64 [0, 3, 1, 2] (Host.dotGeneral dot_S2x8192x8x64_S2x8x8192x8192_S2x8x64x8192_1_3_3_2_02_01 none
    (shapeCast S2x8192x8x64 (extractStridedSlice S2x8192x512 ![0, 0, 1024] (extf .f32 X bitsLt_bf16_f32) slices_S2x8192x1536_S2x8192x512_0_0_1024) shapeCasts_S2x8192x512_S2x8192x8x64)
    W) transposes_S2x8x64x8192_S2x8192x8x64_0_3_1_2) shapeCasts_S2x8192x8x64_S2x8192x512

theorem res_eq (m : (ℓ : Loc nD τ sig) → Buf (Elt Ideal) ℓ) (c : Dev nD) :
    Value.res_main_v25 (F := Ideal) m c = out (m ((c.tc : Thread nD τ).loc main_arg0)) (weights (scores (m ((c.tc : Thread nD τ).loc main_arg0)))) := by
  unfold Value.res_main_v25 out weights scores suffix rest logSig before zeros
  rfl

/-! ## Read at an index -/

theorem scores_at (X : FVec Ideal S2x8192x1536 .bf16) (hX : V.Real X) (b : Fin 2) (h : Fin 8) (t s : Fin 8192) :
    scores X (ix4 b h t s) = (score X b.val t.val h.val s.val : EReal) := by
  pointwise [scores]
  unfold score
  rw [coe_sum, Finset.sum_range]
  refine Finset.sum_congr rfl fun x _ => ?_
  have hh := h.isLt
  have hx := x.isLt
  rw [EReal.coe_mul, ← hX b.val t.val _ (by omega), ← hX b.val s.val _ (by omega)]
  exact congrArg₂ (· * ·) ((elem_of X _).trans (elem_congr X rfl rfl (show h.val * 64 + x.val = 64 * h.val + x.val by omega)))
    ((elem_of X _).trans (elem_congr X rfl rfl (show 512 + (h.val * 64 + x.val) = 512 + (64 * h.val + x.val) by omega)))

theorem logSig_at (Z : FVec Ideal S2x8x8192x8192 .f32) (b : Fin 2) (h : Fin 8) (t s : Fin 8192) (z : ℝ) (hz : Z (ix4 b h t s) = (z : EReal)) :
    logSig Z (ix4 b h t s) = ((-spr (-z) : ℝ) : EReal) := by
  pointwise [logSig, zeros]
  have hp : (0 : ℝ) < 1 + Real.exp (-|(-z)|) := by positivity
  rw [if_neg (not_not.2 rfl), hz, ← EReal.coe_neg, absf_coe, ← EReal.coe_zero, max_coe, ← EReal.coe_neg, Ideal.exp_coe]
  unfold Ideal.log1p spr
  rw [← EReal.coe_one, ← EReal.coe_add, Ideal.log_coe, if_neg (not_le.mpr hp), ← EReal.coe_add, ← EReal.coe_neg]

theorem before_at {M : Type} (b : Fin 2) (h : Fin 8) (t s : Fin 8192) (x y : M) :
    Scalar.select (before (ix4 b h t s)) x y = if s.val < t.val then x else y := by
  refine Eq.trans ?_ (if_congr (slt_iff s.val t.val s.isLt t.isLt) rfl rfl)
  pointwise [before]
  rfl

section
variable (Z : FVec Ideal S2x8x8192x8192 .f32) (b : Fin 2) (h : Fin 8) (t : Fin 8192) (z : ℕ → ℝ)
  (hZ : ∀ s : Fin 8192, Z (ix4 b h t s) = (z s.val : EReal))
include hZ

theorem rest_at (s : Fin 8192) : rest Z (ix4 b h t s) = ((if s.val < t.val then -spr (z s.val) else 0 : ℝ) : EReal) := by
  pointwise [rest, zeros]
  rw [before_at]
  by_cases hs : s.val < t.val
  · rw [if_pos hs, if_pos hs]
    refine (logSig_at (Host.negf Z) b h t s (-z s.val) ?_).trans (by rw [neg_neg])
    pointwise []
    rw [hZ s, EReal.coe_neg]
  · rw [if_neg hs, if_neg hs, EReal.coe_zero]

theorem suffix_at (s : Fin 8192) (hs : s.val < t.val) :
    suffix (rest Z) (ix4 b h t s) = ((∑ u ∈ Finset.Ico s.val t.val, -spr (z u) : ℝ) : EReal) := by
  have ht := t.isLt
  unfold suffix
  refine (window_sum (rest Z) _ _ _ (by pointwise []) b h t s).trans ?_
  have e := sum_block 8192 s.val 0 (t.val - s.val) (by omega) (fun u => -spr (z u))
  rw [Nat.add_zero, show s.val + (t.val - s.val) = t.val by omega] at e
  rw [← e, coe_sum]
  refine Finset.sum_congr rfl fun n _ => ?_
  by_cases hn : s.val + n.val < 8192
  · rw [dif_pos hn, rest_at Z b h t z hZ]
    exact congrArg _ (if_congr (by show s.val + n.val < t.val ↔ _; omega) rfl rfl)
  · rw [dif_neg hn, if_neg (by omega), EReal.coe_zero]

theorem weights_at (s : Fin 8192) : weights Z (ix4 b h t s) = if s.val < t.val then (wt z t.val s.val : EReal) else 0 := by
  pointwise [weights, zeros]
  rw [before_at]
  by_cases hs : s.val < t.val
  · rw [if_pos hs, if_pos hs, logSig_at Z b h t s _ (hZ s), suffix_at Z b h t z hZ s hs, rest_at Z b h t z hZ, if_pos hs,
      ← EReal.coe_sub, ← EReal.coe_add, Ideal.exp_coe]
    unfold wt
    rw [spr_neg, Finset.sum_neg_distrib, Finset.sum_eq_sum_Ico_succ_bot hs]
    congr 2
    ring
  · rw [if_neg hs, if_neg hs]

end

theorem out_at (X : FVec Ideal S2x8192x1536 .bf16) (W : FVec Ideal S2x8x8192x8192 .f32) (b : Fin 2) (t : Fin 8192) (k : Fin 512) (h : Fin 8)
    (hh : h.val = k.val / 64) : out X W (ix3 b t k) = ∑ s : Fin 8192, elem X b.val s.val (1024 + k.val) * W (ix4 b h t s) := by
  pointwise [out]
  refine Finset.sum_congr rfl fun s _ => ?_
  refine congrArg₂ (· * ·) (elem_of X _) (congrArg W ?_)
  rw [show h = ⟨k.val / 64, _⟩ from Fin.ext hh]

theorem attention_at (X : S2x8192x1536.Idx → EReal) (b : Fin 2) (t : Fin 8192) (k : Fin 512) :
    attention X (ix3 b t k) = part (score X b.val t.val (k.val / 64)) (fun s => elem X b.val s (1024 + k.val)) t.val 0 := rfl

theorem part_all (z : ℕ → ℝ) (v : ℕ → EReal) (t : ℕ) (ht : t < 8192) :
    (∑ s : Fin 8192, v s.val * if s.val < t then (wt z t s.val : EReal) else 0) = part z v t 0 := by
  have e := sum_block 8192 0 0 t ht.le (fun s => (wt z t s : EReal) * v s)
  simp only [Nat.zero_add] at e
  unfold part
  rw [← e]
  refine Finset.sum_congr rfl fun s _ => ?_
  by_cases hs : s.val < t
  · rw [if_pos hs, if_pos ⟨Nat.zero_le _, hs⟩, mul_comm]
  · rw [if_neg hs, if_neg fun h => hs h.2, mul_zero]

theorem out_attention (X : FVec Ideal S2x8192x1536 .bf16) (hX : V.Real X) (b : Fin 2) (t : Fin 8192) (k : Fin 512) :
    out X (weights (scores X)) (ix3 b t k) = attention X (ix3 b t k) := by
  have hk := k.isLt
  refine (out_at X _ b t k ⟨k.val / 64, by omega⟩ rfl).trans (Eq.trans ?_ (attention_at X b t k).symm)
  refine Eq.trans (Finset.sum_congr rfl fun s _ => ?_) (part_all _ _ _ t.isLt)
  exact congrArg _ (weights_at (scores X) b ⟨k.val / 64, by omega⟩ t (score X b.val t.val (k.val / 64)) (fun s => scores_at X hX b ⟨k.val / 64, by omega⟩ t s) s)

theorem out_eq (X : FVec Ideal S2x8192x1536 .bf16) (hX : V.Real X) : out X (weights (scores X)) = attention X := by
  funext y
  rw [ValueIdx.eq_ix3 y]
  exact out_attention X hX (y 0) (y 1) (y 2)

/-- The reference's result is the attention of its argument. -/
theorem res (m : (ℓ : Loc nD τ sig) → Buf (Elt Ideal) ℓ) (c : Dev nD) (hX : V.Real (m ((c.tc : Thread nD τ).loc main_arg0))) :
    Value.res_main_v25 (F := Ideal) m c = attention (m ((c.tc : Thread nD τ).loc main_arg0)) :=
  (res_eq m c).trans (out_eq _ hX)

end Cert.Proof.V.Ref

end
-- ==== Proof.V.Value.lean ====
/-
  The value claim: the kernel and the reference return the same array, where the queries and keys are finite.
-/
module

public import proofs.«01_k».proof.Defs
public import proofs.«01_k».proof.Proof.V.Ref

@[expose] public section

noncomputable section

namespace Cert.Proof.V

open Idealize.ShloMosaic Idealize.SL.Sem

theorem pre_facts : Cert.Pre_finite_qk.Facts := ⟨by decide, by decide, by decide⟩

/-- An extended real whose absolute value is below another is real. -/
theorem real_of_abs (x y : EReal) (h : FloatOps.absf (F := Ideal) (φ := .f32) x < y) : x = (x.toReal : EReal) := by
  have h' : max x (-x) < y := h
  refine (EReal.coe_toReal ?_ ?_).symm
  · rintro rfl
    exact not_top_lt ((le_max_left _ _).trans_lt h')
  · rintro rfl
    exact not_top_lt ((le_max_right _ _).trans_lt h')

theorem lt_of_flag (x y : EReal) (h : BitVec.ofBool (decide (x < y)) = 1#1) : x < y := by
  by_contra hn
  rw [decide_eq_false hn] at h
  exact absurd h (by decide)

theorem real_of_pre [Cert.Pre_finite_qk.Facts] (X : Cert.KernelIdeal.S2x8192x1536.Idx → EReal)
    (h : Cert.Pre_finite_qk.fn (F := Ideal) X = fun _ => 1#1) : Real X := by
  intro b t k hk
  unfold elem
  split
  · next hb =>
    have e := congrFun h (ix3 ⟨b, hb.1⟩ ⟨t, hb.2.1⟩ ⟨k, hk⟩)
    pointwise [Cert.Pre_finite_qk.fn] at e
    exact real_of_abs _ _ (lt_of_flag _ _ e)
  · rw [EReal.toReal_zero, EReal.coe_zero]

theorem algebraic [hKI : Cert.KernelIdeal.Facts] [hRI : Cert.ReferenceIdeal.Facts] [hPre : Cert.Pre_finite_qk.Facts] :
    Cert.algebraic_KernelIdeal_ReferenceIdeal_pre_finite_qk := by
  intro m g m' g' hpre hagree
  have hX : ∀ c, Real (arg m c) := fun c => real_of_pre _ (hpre c)
  refine ⟨_, kernel_run m g hX, ?_⟩
  refine (θ_run Cert.ReferenceIdeal.defs _ _).mono (fun _ h c => ⟨(h c).1.trans ?_, (h c).2⟩) (Cert.ReferenceIdeal.Value.run (F := Ideal) m' g')
  have e := hagree c
  refine (Ref.res m' c ?_).trans (congrArg attention e)
  rw [e]
  exact hX c

end Cert.Proof.V

end
-- ==== Proof.L.Frames.lean ====
/-
  The frames of the projection, memory and last calls.
-/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel6.Frame
public import proofs.«01_k».proof.Proof.Gen.Kernel5Ideal.Frame
public import proofs.«01_k».proof.Proof.Gen.Kernel6Ideal.Frame
public import proofs.«01_k».proof.Proof.Gen.Reference5Ideal.Run
public import proofs.«01_k».proof.Proof.Gen.Reference6Ideal.Run
public import Idealize.ShloMosaic.Adequacy
public import Idealize.ShloMosaic.Init

@[expose] public section

noncomputable section

namespace Cert.Proof.L

open Idealize.ShloMosaic Idealize.SL.Sem

theorem frame_p2 : Cert.quiescent_Kernel2 := fun m g _ => Cert.Kernel2.Gen.frame m g
theorem frame_pi2 : Cert.quiescent_Kernel2Ideal := fun m g _ => Cert.Kernel2Ideal.Gen.frame m g
theorem frame_ri2 : Cert.quiescent_Reference2Ideal := fun m g _ =>
  (θ_run Cert.Reference2Ideal.defs _ _).mono (fun r h => ⟨fun c => (h c).2.2.2.2, sem_eq_zero_of_no_sems (by decide) r.2⟩)
    (Cert.Reference2Ideal.Value.run (F := Ideal) m g)

theorem frame_p3 : Cert.quiescent_Kernel3 := fun m g _ => Cert.Kernel3.Gen.frame m g
theorem frame_pi3 : Cert.quiescent_Kernel3Ideal := fun m g _ => Cert.Kernel3Ideal.Gen.frame m g
theorem frame_ri3 : Cert.quiescent_Reference3Ideal := fun m g _ =>
  (θ_run Cert.Reference3Ideal.defs _ _).mono (fun r h => ⟨fun c => (h c).2.2.2.2, sem_eq_zero_of_no_sems (by decide) r.2⟩)
    (Cert.Reference3Ideal.Value.run (F := Ideal) m g)

theorem frame_p4 : Cert.quiescent_Kernel4 := fun m g _ => Cert.Kernel4.Gen.frame m g
theorem frame_pi4 : Cert.quiescent_Kernel4Ideal := fun m g _ => Cert.Kernel4Ideal.Gen.frame m g
theorem frame_ri4 : Cert.quiescent_Reference4Ideal := fun m g _ =>
  (θ_run Cert.Reference4Ideal.defs _ _).mono (fun r h => ⟨fun c => (h c).2.2, sem_eq_zero_of_no_sems (by decide) r.2⟩)
    (Cert.Reference4Ideal.Value.run (F := Ideal) m g)

theorem frame_p5 : Cert.quiescent_Kernel5 := fun m g _ => Cert.Kernel5.Gen.frame m g
theorem frame_pi5 : Cert.quiescent_Kernel5Ideal := fun m g _ => Cert.Kernel5Ideal.Gen.frame m g
theorem frame_ri5 : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

theorem frame_p6 : Cert.quiescent_Kernel6 := fun m g _ => Cert.Kernel6.Gen.frame m g
theorem frame_pi6 : Cert.quiescent_Kernel6Ideal := fun m g _ => Cert.Kernel6Ideal.Gen.frame m g
theorem frame_ri6 : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

end Cert.Proof.L

end
-- ==== Proof.L.Norm.lean ====
/-
  A normalised row against a column, the common value of the projections.
-/
module

public import Idealize.ShloMosaic.Lib.Pointwise
public import Idealize.ShloMosaic.Lib.Pipeline.ValueKit

@[expose] public section

noncomputable section

namespace Cert.Proof.L

open Idealize.ShloMosaic

/-- A row of 1024 numbers. -/
abbrev Row := Fin 1024 → EReal

/-- The row over the root of its mean square (plus 1e-6), times the gain. -/
def normed (x g : Row) : Row := fun d =>
  x d * Ideal.rsqrt (Ideal.div (∑ j, x j * x j) (Ideal.ofBits FTy.f32 1149239296#32) + Ideal.ofBits FTy.f32 897988541#32) * g d

/-- The normalised row times a column of weights. -/
def product (x g w : Row) : EReal := ∑ d, normed x g d * w d

theorem product_comm (x g w : Row) : ∑ d, w d * normed x g d = product x g w :=
  Finset.sum_congr rfl fun _ _ => mul_comm _ _

theorem product_congr {x x' g g' w w' : Row} (hx : ∀ d, x d = x' d) (hg : ∀ d, g d = g' d) (hw : ∀ d, w d = w' d) :
    product x g w = product x' g' w' := by
  rw [funext hx, funext hg, funext hw]

theorem eight : Ideal.ofBits .f32 0x41000000#32 = ((8 : ℝ) : EReal) := by
  simp [Ideal.ofBits, Ideal.ieee, -EReal.coe_mul, -one_div]
  norm_num

theorem eighth : Ideal.ofBits .f32 0x3E000000#32 = ((1 / 8 : ℝ) : EReal) := by
  simp [Ideal.ofBits, Ideal.ieee, -EReal.coe_mul, -one_div]
  norm_num

/-- Over the root of the head's width, or times its inverse. -/
theorem div_eight (z : EReal) : Ideal.div z (Ideal.ofBits .f32 0x41000000#32) = z * Ideal.ofBits .f32 0x3E000000#32 := by
  rw [eight, eighth]
  unfold Ideal.div
  rw [if_neg (by exact_mod_cast (by norm_num : (8 : ℝ) ≠ 0)), ← EReal.coe_inv, one_div]

theorem zeros : ∀ a : Fin 2, (![0, 0] : Fin 2 → ℕ) a = 0 := by decide

theorem congr3 {n₀ n₁ n₂ : ℕ} (X : Fin n₀ → Fin n₁ → Fin n₂ → EReal) {i i' : Fin n₀} {j j' : Fin n₁} {k k' : Fin n₂} (hi : i.val = i'.val) (hj : j.val = j'.val)
    (hk : k.val = k'.val) : X i j k = X i' j' k' := by
  rw [Fin.ext hi, Fin.ext hj, Fin.ext hk]

theorem congr2 {n₀ n₁ : ℕ} (X : Fin n₀ → Fin n₁ → EReal) {i i' : Fin n₀} {j j' : Fin n₁} (hi : i.val = i'.val) (hj : j.val = j'.val) : X i j = X i' j' := by
  rw [Fin.ext hi, Fin.ext hj]

end Cert.Proof.L

end
-- ==== Proof.L.Mem.lean ====
/-
  The memory's keys and values: the kernel's arrays, the reference's, and the value claim.
-/
module

public import proofs.«01_k».proof.Proof.Gen.Kernel4Ideal.Value
public import proofs.«01_k».proof.Proof.Gen.Reference4Ideal.Run
public import proofs.«01_k».proof.Proof.L.Norm
public import proofs.«01_k».proof.Defs

@[expose] public section

noncomputable section

namespace Cert.Proof.L.Mem

open Idealize.ShloMosaic Idealize.SL.Sem

/-- One half of the product of the normalised rows of `X` with `W`, from column `o` on. -/
def half (o : ℕ) (ho : o + 256 ≤ 512) (X : Cert.Kernel4Ideal.S2x256x1024.Idx → EReal) (G : Cert.Kernel4Ideal.S1024.Idx → EReal)
    (W : Cert.Kernel4Ideal.S1024x512.Idx → EReal) : Cert.Kernel4Ideal.S512x256.Idx → EReal := fun y =>
  product (fun d => X (ix3 ⟨(y 0).val / 256, Nat.div_lt_of_lt_mul (y 0).isLt⟩ ⟨(y 0).val % 256, Nat.mod_lt _ (by decide)⟩ d)) (fun d => G (ix1 d))
    (fun d => W (ix2 d ⟨(y 1).val + o, lt_of_lt_of_le (Nat.add_lt_add_right (y 1).isLt o) (Nat.add_comm 256 o ▸ ho)⟩))

section Kernel

open Cert.Kernel4Ideal Cert.Kernel4Ideal.Gen

theorem pay (P0 : Vec Ideal S256x1024 .f32) (P1 : Vec Ideal S1x1024 .f32) (P2 : Vec Ideal S1024x512 .bf16) (r : Fin 256) (k : Fin 512) :
    k0_pay1 P0 P1 P2 (ix2 r k) = product (fun d => P0 (ix2 r d)) (fun d => P1 (ix2 0 d)) (fun d => P2 (ix2 d k)) := by
  pointwise [k0_pay1]
  rfl

variable (m : (ℓ : Loc nD τ sig) → Buf (Elt Ideal) ℓ) (c : Dev nD)

/-- The rows, the gain and the weights. -/
abbrev argX : S2x256x1024.Idx → EReal := m ((c.tc : Thread nD τ).loc main_arg0)
abbrev argG : S1024.Idx → EReal := m ((c.tc : Thread nD τ).loc main_arg1)
abbrev argW : S1024x512.Idx → EReal := m ((c.tc : Thread nD τ).loc main_arg2)

theorem idx0 : ∀ t : Fin (cfg0).N, win0_0.index t = ![t.val, 0] := (by decide +kernel : ∀ t : Fin grid0.N, _)
theorem idx1 : ∀ t : Fin (cfg0).N, win0_1.index t = ![0, 0] := (by decide +kernel : ∀ t : Fin grid0.N, _)
theorem idx2 : ∀ t : Fin (cfg0).N, win0_2.index t = ![0, 0] := (by decide +kernel : ∀ t : Fin grid0.N, _)
theorem idx3 : ∀ t : Fin (cfg0).N, win0_3.index t = ![t.val, 0] := (by decide +kernel : ∀ t : Fin grid0.N, _)
theorem idx4 : ∀ t : Fin (cfg0).N, win0_4.index t = ![t.val, 0] := (by decide +kernel : ∀ t : Fin grid0.N, _)

theorem V0 : (V m c main_v0 : S512x1024.Idx → EReal) = shapeCast S512x1024 (argX m c) shapeCasts_S2x256x1024_S512x1024 := by
  simp only [V, hostOps0]
  after_results <;> rfl
theorem V1 : (V m c main_v1 : S1x1024.Idx → EReal) = shapeCast S1x1024 (argG m c) shapeCasts_S1024_S1x1024 := by
  simp only [V, hostOps0]
  after_results <;> rfl
theorem V2 : (V m c main_v2 : S1024x512.Idx → EReal) = argW m c := by
  simp only [V, hostOps0]
  after_results <;> rfl

theorem V0_apply (y : S512x1024.Idx) (i : Fin 2) (j : Fin 256) (d : Fin 1024) (hi : (y 0).val / 256 = i.val) (hj : (y 0).val % 256 = j.val) (hd : (y 1).val = d.val) :
    (V m c main_v0 : S512x1024.Idx → EReal) y = argX m c (ix3 i j d) := by
  rw [V0, ValueIdx.eq_ix2 y]
  pointwise []
  exact congr3 (fun i j d => argX m c (ix3 i j d)) hi hj hd

theorem V1_apply (y : S1x1024.Idx) (d : Fin 1024) (hd : (y 1).val = d.val) :
    (V m c main_v1 : S1x1024.Idx → EReal) y = argG m c (ix1 d) := by
  rw [V1, ValueIdx.eq_ix2 y]
  pointwise []
  exact congrArg (argG m c) (congrArg ix1 (Fin.ext hd))

theorem blk0 (t : Fin (cfg0).N) (r : Fin 256) (d : Fin 1024) (i : Fin 2) (j : Fin 256) (hi : (t.val * 256 + r.val) / 256 = i.val)
    (hj : (t.val * 256 + r.val) % 256 = j.val) :
    iblk m c 0 t (ix2 r d) = argX m c (ix3 i j d) := by
  blk_simp [iblk, idx0]
  refine V0_apply m c _ i j d ?_ ?_ ?_
  · blk_simp [idx0]
    exact hi
  · blk_simp [idx0]
    exact hj
  · blk_simp [idx0]

theorem blk1 (t : Fin (cfg0).N) (d : Fin 1024) : iblk m c 1 t (ix2 0 d) = argG m c (ix1 d) := by
  blk_simp [iblk, idx1]
  refine V1_apply m c _ d ?_
  blk_simp [idx1]

theorem blk2 (t : Fin (cfg0).N) (d : Fin 1024) (k : Fin 512) : iblk m c 2 t (ix2 d k) = argW m c (ix2 d k) := by
  blk_simp [iblk, idx2]
  rw [V2]
  refine congrArg (argW m c) (funext (Fin.forall_fin_two.mpr ⟨Fin.ext ?_, Fin.ext ?_⟩))
  · blk_simp [idx2]
  · blk_simp [idx2]

theorem payload (t : Fin (cfg0).N) (r : Fin 256) (k : Fin 512) (i : Fin 2) (j : Fin 256) (hi : (t.val * 256 + r.val) / 256 = i.val)
    (hj : (t.val * 256 + r.val) % 256 = j.val) :
    k0_pay1 (View.ld (iblk m c 0 t) r0_0) (View.ld (iblk m c 1 t) r0_1) (View.ld (iblk m c 2 t) r0_2) (ix2 r k)
      = product (fun d => argX m c (ix3 i j d)) (fun d => argG m c (ix1 d)) (fun d => argW m c (ix2 d k)) := by
  refine (pay _ _ _ r k).trans (product_congr (fun d => ?_) (fun d => ?_) (fun d => ?_))
  · exact (congrFun (View.ld_unit_lit _ _ zeros) _).trans (blk0 m c t r d i j hi hj)
  · exact (congrFun (View.ld_unit_lit _ _ zeros) _).trans (blk1 m c t d)
  · exact (congrFun (View.ld_unit_lit _ _ zeros) _).trans (blk2 m c t d k)

theorem final3 : (dats m 0 c).arrAt 3 (cfg0).N = half 0 (by decide) (argX m c) (argG m c) (argW m c) := by
  refine (dats m 0 c).arrAt_eq_of_covers 3 _ (by decide +kernel) fun t hf y => ?_
  blk_simp [idx3]
  rw [after0_3]
  unfold half
  blk_simp [idx3]
  refine (Cert.Kernel4Ideal.Value.canon3_eq _ _ _ y).trans ?_
  exact (congrArg (k0_pay1 _ _ _) (ValueIdx.eq_ix2 _)).trans (payload m c t _ _ _ _ rfl rfl)

theorem final4 : (dats m 0 c).arrAt 4 (cfg0).N = half 256 (by decide) (argX m c) (argG m c) (argW m c) := by
  refine (dats m 0 c).arrAt_eq_of_covers 4 _ (by decide +kernel) fun t hf y => ?_
  blk_simp [idx4]
  rw [after0_4]
  unfold half
  blk_simp [idx4]
  refine (Cert.Kernel4Ideal.Value.canon4_eq _ _ _ y).trans ?_
  exact (congrArg (k0_pay1 _ _ _) (ValueIdx.eq_ix2 _)).trans (payload m c t _ _ _ _ rfl rfl)

end Kernel

section Reference

open Cert.Reference4Ideal Cert.Reference4Ideal.Gen Cert.Reference4Ideal.Facts

def rows (X : FVec Ideal S2x256x1024 .f32) (G : FVec Ideal S1024 .f32) : FVec Ideal S2x256x1024 .f32 := (mulf (mulf X (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf X X) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 G)))

theorem rows_apply (X : FVec Ideal S2x256x1024 .f32) (G : FVec Ideal S1024 .f32) (b : Fin 2) (t : Fin 256) (d : Fin 1024) :
    rows X G (ix3 b t d) = normed (fun d => X (ix3 b t d)) (fun d => G (ix1 d)) d := by
  pointwise [rows]
  rfl

def left (X : FVec Ideal S2x256x1024 .f32) (G : FVec Ideal S1024 .f32) (W : FVec Ideal S1024x512 .f32) : FVec Ideal S512x256 .f32 :=
  shapeCast _ (extractStridedSlice S2x256x256 ![0, 0, 0] (Host.dotGeneral dot_S2x256x1024_S1024x512_S2x256x512_2_0_01_1_n_n none (rows X G) W) slices_S2x256x512_S2x256x256_0_0_0) shapeCasts_S2x256x256_S512x256

def right (X : FVec Ideal S2x256x1024 .f32) (G : FVec Ideal S1024 .f32) (W : FVec Ideal S1024x512 .f32) : FVec Ideal S512x256 .f32 :=
  shapeCast _ (extractStridedSlice S2x256x256 ![0, 0, 256] (Host.dotGeneral dot_S2x256x1024_S1024x512_S2x256x512_2_0_01_1_n_n none (rows X G) W) slices_S2x256x512_S2x256x256_0_0_256) shapeCasts_S2x256x256_S512x256

theorem left_apply (X : FVec Ideal S2x256x1024 .f32) (G : FVec Ideal S1024 .f32) (W : FVec Ideal S1024x512 .f32) (r : Fin 512) (k : Fin 256) :
    left X G W (ix2 r k) = half 0 (by decide) X G W (ix2 r k) := by
  pointwise [left]
  unfold half product
  refine Finset.sum_congr rfl fun d _ => ?_
  rw [rows_apply]
  rfl

theorem right_apply (X : FVec Ideal S2x256x1024 .f32) (G : FVec Ideal S1024 .f32) (W : FVec Ideal S1024x512 .f32) (r : Fin 512) (k : Fin 256) :
    right X G W (ix2 r k) = half 256 (by decide) X G W (ix2 r k) := by
  pointwise [right]
  unfold half product
  refine Finset.sum_congr rfl fun d _ => ?_
  rw [rows_apply]
  refine congrArg _ (congrArg W (congrArg (ix2 d) (Fin.ext ?_)))
  exact Nat.add_comm 256 k.val

end Reference

theorem algebraic [hK : Cert.Kernel4Ideal.Facts] [hR : Cert.Reference4Ideal.Facts] : Cert.algebraic_Kernel4Ideal_Reference4Ideal := by
  intro m g m' g' _ hagree
  refine ⟨_, _, Cert.Kernel4Ideal.Value.run_blocks m g, ?_⟩
  refine (θ_run Cert.Reference4Ideal.defs _ _).mono (fun _ h c => ⟨(h c).1.trans ?_, (h c).2.1.trans ?_, (h c).2.2⟩) (Cert.Reference4Ideal.Value.run (F := Ideal) m' g')
  · obtain ⟨e0, e1, e2⟩ := hagree c
    rw [e0, e1, e2]
    exact (funext fun y => (congrArg _ (ValueIdx.eq_ix2 y)).trans ((left_apply _ _ _ _ _).trans (congrArg _ (ValueIdx.eq_ix2 y).symm))).trans (final3 m c).symm
  · obtain ⟨e0, e1, e2⟩ := hagree c
    rw [e0, e1, e2]
    exact (funext fun y => (congrArg _ (ValueIdx.eq_ix2 y)).trans ((right_apply _ _ _ _ _).trans (congrArg _ (ValueIdx.eq_ix2 y).symm))).trans (final4 m c).symm

end Cert.Proof.L.Mem
end
-- ==== Proof.L.EpiSpec.lean ====
/-
  The end of the layer at one position: the gates, the window means, the memory's attention, and the projected row.
-/
module

public import proofs.«01_k».proof.Proof.L.Norm
public import proofs.«01_k».proof.Proof.V.Real

@[expose] public section

noncomputable section

namespace Cert.Proof.L.Epi

open Idealize.ShloMosaic

/-! ## The gate -/

/-- `g` over one plus the exponential of `-g`. -/
def silu (g : EReal) : EReal := Ideal.div g (1 + Ideal.exp (0 - g))

theorem exp_nonneg (x : EReal) : 0 ≤ Ideal.exp x := by
  induction x with
  | bot => exact le_refl _
  | top => exact le_top
  | coe r => rw [Ideal.exp_coe]; exact_mod_cast (Real.exp_pos r).le

theorem one_add_ne (x : EReal) : 1 + Ideal.exp x ≠ 0 := by
  intro h
  have h1 : (1 : EReal) ≤ 1 + Ideal.exp x := le_add_of_nonneg_right (exp_nonneg x)
  rw [h] at h1
  exact absurd h1 (by norm_num)

theorem silu_eq (g : EReal) : g * Ideal.div 1 (1 + Ideal.exp (-g)) = silu g := by
  unfold silu Ideal.div
  rw [if_neg (one_add_ne _), if_neg (one_add_ne _), one_mul, zero_sub]

/-! ## The softmax of 256 scores -/

/-- The largest score. -/
def top (s : Fin 256 → EReal) : EReal := (Finset.univ : Finset (Fin 256)).fold max (Ideal.ofBits .f32 0xFF800000#32) s

theorem max_top (s : Fin 256 → EReal) : max (Ideal.ofBits .f32 0xFF800000#32) (top s) = top s :=
  max_eq_right ((Finset.le_fold_max _).mpr (Or.inl le_rfl))

theorem maximumf_top (s : Fin 256 → EReal) : FloatOps.maximumf (F := Ideal) (φ := .f32) (FloatOps.ofBits (F := Ideal) .f32 0xFF800000#32) (top s) = top s := by
  rw [Ideal.maximumf_def, Ideal.ofBits_def]
  exact max_top s

def soften (s : Fin 256 → EReal) (n : Fin 256) : EReal := Ideal.div (Ideal.exp (s n - top s)) (∑ x, Ideal.exp (s x - top s))

/-! ## Windows -/

/-- The last `w` values up to `p`, summed. -/
def window (U : ℕ → EReal) (w p : ℕ) : EReal := ∑ n ∈ Finset.range w, U (p - n)

/-- How many rows the window at `t` holds. -/
def count (t : ℕ) (w : BitVec 32) : EReal := FloatOps.sitofp (F := Ideal) .f32 (IntOp.minsi (IntOp.addi (IntOp.addi 0#32 (BitVec.ofNat 32 t)) 1#32) w)

/-- The difference of two sums over rows from the first on. -/
theorem window_eq (U : ℕ → EReal) (hU : ∀ s, U s = ((U s).toReal : EReal)) (a w : ℕ) (hw : 0 < w) :
    (∑ s ∈ Finset.range (a + w), U s) - (∑ s ∈ Finset.range a, U s) = window U w (a + w - 1) := by
  have e : ∀ S : Finset ℕ, ∑ s ∈ S, U s = ((∑ s ∈ S, (U s).toReal : ℝ) : EReal) := fun S => by
    rw [V.coe_sum]
    exact Finset.sum_congr rfl fun s _ => hU s
  have e2 : window U w (a + w - 1) = ((∑ n ∈ Finset.range w, (U (a + w - 1 - n)).toReal : ℝ) : EReal) := by
    rw [V.coe_sum]
    exact Finset.sum_congr rfl fun s _ => hU _
  rw [e, e, e2, ← EReal.coe_sub, Finset.sum_range_add, add_sub_cancel_left, ← Finset.sum_range_reflect]
  congr 1
  refine Finset.sum_congr rfl fun n hn => ?_
  have := Finset.mem_range.mp hn
  rw [show a + (w - 1 - n) = a + w - 1 - n by omega]

/-! ## The parts -/

abbrev A2x8192x1536 := (⟨3, ![2, 8192, 1536]⟩ : Shape).Idx → EReal
abbrev A2x256x256 := (⟨3, ![2, 256, 256]⟩ : Shape).Idx → EReal

/-- A pooled column, row by row behind its history of 15 zeros. -/
def column (R : A2x8192x1536) (b : Fin 2) (k : Fin 256) (s : ℕ) : EReal :=
  if h : 15 ≤ s ∧ s - 15 < 8192 then R (ix3 b ⟨s - 15, h.2⟩ ⟨512 + k.val, by omega⟩) else 0

/-- The mean over the group's window, less the row itself. -/
def pooled (R : A2x8192x1536) (b : Fin 2) (t : Fin 8192) (k : Fin 256) : EReal :=
  Ideal.div (window (column R b k) (2 ^ (k.val / 64 + 1)) (15 + t.val)) (count t.val (BitVec.ofNat 32 (2 ^ (k.val / 64 + 1))))
    - R (ix3 b t ⟨512 + k.val, by omega⟩)

def score (R : A2x8192x1536) (K : A2x256x256) (b : Fin 2) (t : Fin 8192) (h : Fin 4) (n : Fin 256) : EReal :=
  (∑ x : Fin 64, R (ix3 b t ⟨1024 + (h.val * 64 + x.val), by omega⟩) * K (ix3 b n ⟨h.val * 64 + x.val, by omega⟩)) * Ideal.ofBits .f32 0x3E000000#32

/-- The attention's columns, gated. -/
def part1 (O : (⟨3, ![2, 8192, 512]⟩ : Shape).Idx → EReal) (R : A2x8192x1536) (b : Fin 2) (t : Fin 8192) (k : Fin 512) : EReal :=
  O (ix3 b t k) * silu (R (ix3 b t ⟨k.val, by omega⟩))

/-- The pooled columns through their group's weights, scaled and gated. -/
def part2 (R : A2x8192x1536) (W : (⟨3, ![4, 64, 64]⟩ : Shape).Idx → EReal) (S : (⟨1, ![256]⟩ : Shape).Idx → EReal) (b : Fin 2) (t : Fin 8192) (k : Fin 256) : EReal :=
  (∑ x : Fin 64, pooled R b t ⟨k.val / 64 * 64 + x.val, by omega⟩ * W (ix3 ⟨k.val / 64, by omega⟩ x ⟨k.val % 64, by omega⟩)) * S (ix1 k)
    * silu (R (ix3 b t ⟨768 + k.val, by omega⟩))

/-- The memory's columns, gated. -/
def part3 (R : A2x8192x1536) (K V : A2x256x256) (b : Fin 2) (t : Fin 8192) (k : Fin 256) : EReal :=
  (∑ n : Fin 256, soften (score R K b t ⟨k.val / 64, by omega⟩) n * V (ix3 b n k)) * silu (R (ix3 b t ⟨1280 + k.val, by omega⟩))

/-- The residual row with the three parts' projection added. -/
def total (x : EReal) (a : Fin 512 → EReal) (p q : Fin 256 → EReal) (W : Fin 1024 → EReal) : EReal :=
  x + (∑ k, a k * W ⟨k.val, by omega⟩ + ∑ k, p k * W ⟨512 + k.val, by omega⟩ + ∑ k, q k * W ⟨768 + k.val, by omega⟩)

/-- The layer's last rows. -/
def result (X : (⟨3, ![2, 8192, 1024]⟩ : Shape).Idx → EReal) (O : (⟨3, ![2, 8192, 512]⟩ : Shape).Idx → EReal) (R : A2x8192x1536) (K V : A2x256x256)
    (W : (⟨3, ![4, 64, 64]⟩ : Shape).Idx → EReal) (S : (⟨1, ![256]⟩ : Shape).Idx → EReal) (P : (⟨2, ![1024, 1024]⟩ : Shape).Idx → EReal)
    (G : (⟨1, ![1024]⟩ : Shape).Idx → EReal) (b : Fin 2) (t : Fin 8192) (n : Fin 1024) : EReal :=
  normed (fun d => total (X (ix3 b t d)) (part1 O R b t) (part2 R W S b t) (part3 R K V b t) (fun k => P (ix2 k d))) (fun d => G (ix1 d)) n

theorem sum_1024 (f : Fin 1024 → EReal) : ∑ k, f k
    = ∑ k : Fin 512, f ⟨k.val, by omega⟩ + ∑ k : Fin 256, f ⟨512 + k.val, by omega⟩ + ∑ k : Fin 256, f ⟨768 + k.val, by omega⟩ := by
  rw [add_assoc]
  refine (Fin.sum_univ_add (a := 512) (b := 512) f).trans (congrArg₂ (· + ·) rfl ?_)
  refine (Fin.sum_univ_add (a := 256) (b := 256) fun k : Fin 512 => f ⟨512 + k.val, by omega⟩).trans (congrArg₂ (· + ·) rfl ?_)
  exact Finset.sum_congr rfl fun k _ => congrArg f (Fin.ext (show 512 + (256 + k.val) = 768 + k.val by omega))

/-- A sum over 256 lanes by groups of 64. -/
theorem sum_256 (f : Fin 256 → EReal) : ∑ k, f k = ∑ g : Fin 4, ∑ x : Fin 64, f ⟨g.val * 64 + x.val, by omega⟩ := by
  rw [← Finset.sum_product', Finset.univ_product_univ]
  refine (Fintype.sum_equiv (finProdFinEquiv (m := 4) (n := 64)) _ _ fun p => congrArg f (Fin.ext ?_)).symm
  show p.1.val * 64 + p.2.val = p.2.val + 64 * p.1.val
  omega

/-- A sum over 256 lanes that vanishes outside one group. -/
theorem sum_group (f : Fin 256 → EReal) (h : Fin 4) (hf : ∀ k : Fin 256, k.val / 64 ≠ h.val → f k = 0) :
    ∑ k, f k = ∑ x : Fin 64, f ⟨h.val * 64 + x.val, by omega⟩ := by
  rw [sum_256]
  refine Finset.sum_eq_single h (fun g _ hg => Finset.sum_eq_zero fun x _ => hf _ fun e => hg (Fin.ext ?_)) fun hn => absurd (Finset.mem_univ _) hn
  have e' : (g.val * 64 + x.val) / 64 = h.val := e
  omega

/-- A positive real factor leaves a sum. -/
theorem sum_eighth (f : Fin 64 → EReal) : ∑ x, f x * Ideal.ofBits .f32 0x3E000000#32 = (∑ x, f x) * Ideal.ofBits .f32 0x3E000000#32 := by
  have h0 : (0 : EReal) ≤ Ideal.ofBits .f32 0x3E000000#32 := by rw [eighth]; exact_mod_cast (by norm_num : (0 : ℝ) ≤ 1 / 8)
  have h1 : Ideal.ofBits .f32 0x3E000000#32 ≠ ⊤ := by rw [eighth]; exact EReal.coe_ne_top _
  have key : ∀ s : Finset (Fin 64), ∑ x ∈ s, f x * Ideal.ofBits .f32 0x3E000000#32 = (∑ x ∈ s, f x) * Ideal.ofBits .f32 0x3E000000#32 := by
    intro s
    induction s using Finset.cons_induction with
    | empty => simp
    | cons a s h ih => rw [Finset.sum_cons, Finset.sum_cons, ih, EReal.right_distrib_of_nonneg_of_ne_top h0 h1]
  exact key _

end Cert.Proof.L.Epi

end
-- ==== Proof.L.EpiPay.lean ====
/-
  The kernel's last rows: what its payloads compute, entry by entry.
-/
module

public import proofs.«01_k».proof.Proof.Gen.Kernel5Ideal.Value
public import proofs.«01_k».proof.Proof.L.EpiSpec

@[expose] public section

noncomputable section

namespace Cert.Proof.L.Epi.Ker

open Idealize.ShloMosaic Idealize.SL.Sem
open Cert.Kernel5Ideal Cert.Kernel5Ideal.Gen

/-! ## The group of a lane -/

abbrev lanes : IVec S1024x256 32 := iota .tc S1024x256 32 [1] iota_S1024x256_d1_w32

theorem group_at (r : Fin 1024) (k : Fin 256) : k0_pay13 lanes 64#32 k0_pay11 k0_pay12 (ix2 r k) = BitVec.ofNat 32 (k.val / 64) := by
  pointwise [k0_pay13, k0_pay11, k0_pay12]
  revert k
  decide +kernel

abbrev sign : BitVec 32 := Scalar.subi (Scalar.extui (Scalar.cmpi .sgt 64#32 0#32)) (Scalar.extui (Scalar.cmpi .slt 64#32 0#32))

theorem head_at (r : Fin 1024) (k : Fin 256) : k0_pay25 lanes 64#32 k0_pay23 k0_pay24 sign (ix2 r k) = BitVec.ofNat 32 (k.val / 64) := by
  pointwise [k0_pay25, k0_pay23, k0_pay24]
  revert k
  decide +kernel

/-- Choosing by a group's number. -/
theorem choose {α : Type} (n c : ℕ) (hn : n < 4) (hc : c < 4) (a b : α) :
    Scalar.select (IntOp.cmpi .eq (BitVec.ofNat 32 n) (BitVec.ofNat 32 c)) a b = if n = c then a else b := by
  interval_cases n <;> interval_cases c <;> rfl

/-! ## The window sums -/

theorem window_two (U : ℕ → EReal) (p : ℕ) : window U 2 p = U p + U (p - 1) := by
  unfold window
  rw [Finset.sum_range_succ, Finset.sum_range_one, Nat.sub_zero]

theorem window_twice (U : ℕ → EReal) (w p : ℕ) : window U (w + w) p = window U w p + window U w (p - w) := by
  unfold window
  rw [Finset.sum_range_add]
  exact congrArg _ (Finset.sum_congr rfl fun n _ => congrArg U (Nat.sub_add_eq p w n))

section Windows

variable (i : grid0.Coords) (u : Vec Ideal S1x1024x256 .f32) (p h : Vec Ideal S1x16x256 .f32)

/-- The block's rows behind the sixteen before it. -/
def rows (r : Fin 1040) (k : Fin 256) : EReal :=
  if h' : r.val < 16 then Scalar.select (Scalar.cmpi .eq (BitVec.ofNat 32 (i 1).val) 0#32) (p (ix3 0 ⟨r.val, h'⟩ k)) (h (ix3 0 ⟨r.val, h'⟩ k))
  else u (ix3 0 ⟨r.val - 16, by omega⟩ k)

theorem pay7_at (r : Fin 1040) (k : Fin 256) : k0_pay7 i u p h (ix2 r k) = rows i u p h r k + rows i u p h ⟨(r.val + 1040 - 1) % 1040, Nat.mod_lt _ (by decide)⟩ k := by
  pointwise [k0_pay7, k0_pay3]
  rfl
theorem pay8_at (r : Fin 1040) (k : Fin 256) : k0_pay8 i u p h (ix2 r k) = k0_pay7 i u p h (ix2 r k) + k0_pay7 i u p h (ix2 ⟨(r.val + 1040 - 2) % 1040, Nat.mod_lt _ (by decide)⟩ k) := by
  pointwise [k0_pay8]
theorem pay9_at (r : Fin 1040) (k : Fin 256) : k0_pay9 i u p h (ix2 r k) = k0_pay8 i u p h (ix2 r k) + k0_pay8 i u p h (ix2 ⟨(r.val + 1040 - 4) % 1040, Nat.mod_lt _ (by decide)⟩ k) := by
  pointwise [k0_pay9]
theorem pay10_at (r : Fin 1040) (k : Fin 256) : k0_pay10 i u p h (ix2 r k) = k0_pay9 i u p h (ix2 r k) + k0_pay9 i u p h (ix2 ⟨(r.val + 1040 - 8) % 1040, Nat.mod_lt _ (by decide)⟩ k) := by
  pointwise [k0_pay10]

variable (X : ℕ → EReal) (k : Fin 256) (hX : ∀ r : Fin 1040, rows i u p h r k = X r.val)
include hX

theorem sum2 (r : Fin 1040) (hr : 1 ≤ r.val) : k0_pay7 i u p h (ix2 r k) = window X 2 r.val := by
  rw [pay7_at, hX, hX, window_two]
  exact congrArg (fun n => X r.val + X n) (by show (r.val + 1040 - 1) % 1040 = _; omega)
theorem sum4 (r : Fin 1040) (hr : 3 ≤ r.val) : k0_pay8 i u p h (ix2 r k) = window X 4 r.val := by
  have e : (r.val + 1040 - 2) % 1040 = r.val - 2 := by omega
  rw [pay8_at, sum2 i u p h X k hX r (by omega), sum2 i u p h X k hX _ (by show 1 ≤ (r.val + 1040 - 2) % 1040; omega), window_twice X 2 r.val]
  exact congrArg (fun n => window X 2 r.val + window X 2 n) e
theorem sum8 (r : Fin 1040) (hr : 7 ≤ r.val) : k0_pay9 i u p h (ix2 r k) = window X 8 r.val := by
  have e : (r.val + 1040 - 4) % 1040 = r.val - 4 := by omega
  rw [pay9_at, sum4 i u p h X k hX r (by omega), sum4 i u p h X k hX _ (by show 3 ≤ (r.val + 1040 - 4) % 1040; omega), window_twice X 4 r.val]
  exact congrArg (fun n => window X 4 r.val + window X 4 n) e
theorem sum16 (r : Fin 1040) (hr : 15 ≤ r.val) : k0_pay10 i u p h (ix2 r k) = window X 16 r.val := by
  have e : (r.val + 1040 - 8) % 1040 = r.val - 8 := by omega
  rw [pay10_at, sum8 i u p h X k hX r (by omega), sum8 i u p h X k hX _ (by show 7 ≤ (r.val + 1040 - 8) % 1040; omega), window_twice X 8 r.val]
  exact congrArg (fun n => window X 8 r.val + window X 8 n) e

end Windows

/-! ## The pooled columns -/

theorem pay18_at (a b c : FVec Ideal S1040x256 .f32) (r : Fin 1024) (k : Fin 256) : k0_pay18 a b c lanes 64#32 k0_pay11 k0_pay12 (ix2 r k)
    = if k.val / 64 = 2 then c (ix2 ⟨16 + r.val, by omega⟩ k) else if k.val / 64 = 1 then b (ix2 ⟨16 + r.val, by omega⟩ k)
      else if k.val / 64 = 0 then a (ix2 ⟨16 + r.val, by omega⟩ k) else 0 := by
  have hk : k.val / 64 < 4 := by omega
  pointwise [k0_pay18, k0_pay15, k0_pay16, k0_pay17]
  rw [group_at, choose _ 2 hk (by decide), choose _ 1 hk (by decide), choose _ 0 hk (by decide)]

theorem pay19_at (r : Fin 1024) (k : Fin 256) : k0_pay19 lanes 64#32 k0_pay11 k0_pay12 (ix2 r k)
    = if k.val / 64 = 2 then 8#32 else if k.val / 64 = 1 then 4#32 else if k.val / 64 = 0 then 2#32 else 0#32 := by
  have hk : k.val / 64 < 4 := by omega
  pointwise [k0_pay19, k0_pay15, k0_pay16, k0_pay17]
  rw [group_at, choose _ 2 hk (by decide), choose _ 1 hk (by decide), choose _ 0 hk (by decide)]

theorem place (i r : ℕ) : IntOp.addi (Scalar.addi 0#32 (Scalar.muli (BitVec.ofNat 32 i) 1024#32)) (BitVec.ofNat 32 r) = IntOp.addi 0#32 (BitVec.ofNat 32 (i * 1024 + r)) := by
  show 0#32 + BitVec.ofNat 32 i * BitVec.ofNat 32 1024 + BitVec.ofNat 32 r = 0#32 + BitVec.ofNat 32 (i * 1024 + r)
  rw [BitVec.ofNat_add, BitVec.ofNat_mul]
  exact BitVec.add_assoc _ _ _

theorem pay14_at (i : ℕ) (r : Fin 1024) (k : Fin 256) : k0_pay14 (BitVec.ofNat 32 i) (ix2 r k) = IntOp.addi 0#32 (BitVec.ofNat 32 (i * 1024 + r.val)) := by
  pointwise [k0_pay14]
  exact place i r.val

theorem pay20_at (u : FVec Ideal S1024x256 .f32) (s : FVec Ideal S1040x256 .f32) (pl : IVec S1024x256 32) (w : FVec Ideal S1024x256 .f32) (ww : IVec S1024x256 32)
    (bd : Vec Ideal S256x256 .bf16) (sc : Vec Ideal S1x256 .f32) (r : Fin 1024) (k : Fin 256) :
    k0_pay20 u s (k0_pay13 lanes 64#32 k0_pay11 k0_pay12) pl w ww bd sc (ix2 r k)
      = (∑ x : Fin 256, (Ideal.div (if x.val / 64 = 3 then s (ix2 ⟨16 + r.val, by omega⟩ x) else w (ix2 r x))
          (FloatOps.sitofp (F := Ideal) .f32 (IntOp.minsi (IntOp.addi (pl (ix2 r x)) 1#32) (if x.val / 64 = 3 then 16#32 else ww (ix2 r x))))
          - u (ix2 r x)) * bd (ix2 x k)) * sc (ix2 0 k) := by
  pointwise [k0_pay20]
  refine congrArg (· * _) (Finset.sum_congr rfl fun x _ => ?_)
  have hk : x.val / 64 < 4 := by omega
  rw [group_at, choose _ 3 hk (by decide), choose _ 3 hk (by decide)]

/-- The pooled columns, at a row whose windows are known. -/
theorem pooled_at (i : grid0.Coords) (u : Vec Ideal S1x1024x256 .f32) (p h : Vec Ideal S1x16x256 .f32) (bd : Vec Ideal S256x256 .bf16) (sc : Vec Ideal S1x256 .f32)
    (X : Fin 256 → ℕ → EReal) (hX : ∀ (k : Fin 256) (r : Fin 1040), rows i u p h r k = X k r.val) (r : Fin 1024) (k : Fin 256) :
    k0_pay20 (k0_pay3 u) (k0_pay10 i u p h) (k0_pay13 lanes 64#32 k0_pay11 k0_pay12) (k0_pay14 (BitVec.ofNat 32 (i 1).val))
      (k0_pay18 (k0_pay7 i u p h) (k0_pay8 i u p h) (k0_pay9 i u p h) lanes 64#32 k0_pay11 k0_pay12) (k0_pay19 lanes 64#32 k0_pay11 k0_pay12) bd sc (ix2 r k)
      = (∑ x : Fin 256, (Ideal.div (window (X x) (2 ^ (x.val / 64 + 1)) (16 + r.val)) (count ((i 1).val * 1024 + r.val) (BitVec.ofNat 32 (2 ^ (x.val / 64 + 1))))
          - u (ix3 0 r x)) * bd (ix2 x k)) * sc (ix2 0 k) := by
  rw [pay20_at]
  refine congrArg (· * _) (Finset.sum_congr rfl fun x _ => congrArg (· * bd (ix2 x k)) (congrArg₂ HSub.hSub ?_ ?_))
  · have hk : x.val / 64 < 4 := by omega
    rw [pay14_at, pay18_at, pay19_at, sum16 i u p h (X x) x (hX x) _ (by show 15 ≤ 16 + r.val; omega), sum8 i u p h (X x) x (hX x) _ (by show 7 ≤ 16 + r.val; omega),
      sum4 i u p h (X x) x (hX x) _ (by show 3 ≤ 16 + r.val; omega), sum2 i u p h (X x) x (hX x) _ (by show 1 ≤ 16 + r.val; omega)]
    generalize x.val / 64 = g at hk
    unfold count
    interval_cases g <;> rfl
  · pointwise [k0_pay3]

/-! ## The memory -/

section Memory

variable (q : FVec Ideal S1024x256 .f32)

/-- The four groups' queries, one below the other. -/
def stack (r : Fin 4096) (x : Fin 256) : EReal :=
  if h : r.val < 1024 then Scalar.select (IntOp.cmpi .eq (k0_pay25 lanes 64#32 k0_pay23 k0_pay24 sign (ix2 ⟨r.val, h⟩ x)) 0#32) (q (ix2 ⟨r.val, h⟩ x) * Ideal.ofBits .f32 0x3E000000#32) 0
  else if h1 : r.val - 1024 < 1024 then Scalar.select (IntOp.cmpi .eq (k0_pay25 lanes 64#32 k0_pay23 k0_pay24 sign (ix2 ⟨r.val - 1024, h1⟩ x)) 1#32) (q (ix2 ⟨r.val - 1024, h1⟩ x) * Ideal.ofBits .f32 0x3E000000#32) 0
  else if h2 : r.val - 1024 - 1024 < 1024 then Scalar.select (IntOp.cmpi .eq (k0_pay25 lanes 64#32 k0_pay23 k0_pay24 sign (ix2 ⟨r.val - 1024 - 1024, h2⟩ x)) 2#32) (q (ix2 ⟨r.val - 1024 - 1024, h2⟩ x) * Ideal.ofBits .f32 0x3E000000#32) 0
  else Scalar.select (IntOp.cmpi .eq (k0_pay25 lanes 64#32 k0_pay23 k0_pay24 sign (ix2 ⟨r.val - 1024 - 1024 - 1024, by omega⟩ x)) 3#32) (q (ix2 ⟨r.val - 1024 - 1024 - 1024, by omega⟩ x) * Ideal.ofBits .f32 0x3E000000#32) 0

theorem pay26_at (K V : FVec Ideal S256x256 .bf16) (r : Fin 4096) (k : Fin 256) : k0_pay26 q K V lanes 64#32 k0_pay23 k0_pay24 sign (ix2 r k)
    = ∑ n, soften (fun n => ∑ x, stack q r x * K (ix2 n x)) n * V (ix2 n k) := by
  unfold soften top stack
  pointwise [k0_pay26]

theorem choose_row (r' r : Fin 1024) (e : r'.val = r.val) (x : Fin 256) (c : ℕ) (hc : c < 4) :
    Scalar.select (IntOp.cmpi .eq (k0_pay25 lanes 64#32 k0_pay23 k0_pay24 sign (ix2 r' x)) (BitVec.ofNat 32 c)) (q (ix2 r' x) * Ideal.ofBits .f32 0x3E000000#32) (0 : EReal)
      = if x.val / 64 = c then q (ix2 r x) * Ideal.ofBits .f32 0x3E000000#32 else 0 := by
  rw [head_at, choose _ c (by omega) hc, Fin.ext e]

theorem stack_at (g : Fin 4) (r : Fin 1024) (x : Fin 256) (h : g.val * 1024 + r.val < 4096) : stack q ⟨g.val * 1024 + r.val, h⟩ x
    = if x.val / 64 = g.val then q (ix2 r x) * Ideal.ofBits .f32 0x3E000000#32 else 0 := by
  unfold stack
  have hr := r.isLt
  rcases g with ⟨g, hg⟩
  interval_cases g
  · exact (dif_pos (by show 0 * 1024 + r.val < 1024; omega)).trans (choose_row q _ r (by show 0 * 1024 + r.val = _; omega) x 0 (by decide))
  · exact (dif_neg (by show ¬ 1 * 1024 + r.val < 1024; omega)).trans ((dif_pos (by show 1 * 1024 + r.val - 1024 < 1024; omega)).trans
      (choose_row q _ r (by show 1 * 1024 + r.val - 1024 = _; omega) x 1 (by decide)))
  · exact (dif_neg (by show ¬ 2 * 1024 + r.val < 1024; omega)).trans ((dif_neg (by show ¬ 2 * 1024 + r.val - 1024 < 1024; omega)).trans
      ((dif_pos (by show 2 * 1024 + r.val - 1024 - 1024 < 1024; omega)).trans (choose_row q _ r (by show 2 * 1024 + r.val - 1024 - 1024 = _; omega) x 2 (by decide))))
  · exact (dif_neg (by show ¬ 3 * 1024 + r.val < 1024; omega)).trans ((dif_neg (by show ¬ 3 * 1024 + r.val - 1024 < 1024; omega)).trans
      ((dif_neg (by show ¬ 3 * 1024 + r.val - 1024 - 1024 < 1024; omega)).trans (choose_row q _ r (by show 3 * 1024 + r.val - 1024 - 1024 - 1024 = _; omega) x 3 (by decide))))

/-- A group's scores: the lanes outside the group add nothing. -/
theorem scores_at (K : FVec Ideal S256x256 .bf16) (g : Fin 4) (r : Fin 1024) (n : Fin 256) (h : g.val * 1024 + r.val < 4096) :
    ∑ x, stack q ⟨g.val * 1024 + r.val, h⟩ x * K (ix2 n x)
      = (∑ x : Fin 64, q (ix2 r ⟨g.val * 64 + x.val, by omega⟩) * K (ix2 n ⟨g.val * 64 + x.val, by omega⟩)) * Ideal.ofBits .f32 0x3E000000#32 := by
  refine (sum_group _ g fun k hk => ?_).trans ((Finset.sum_congr rfl fun x _ => ?_).trans (sum_eighth _))
  · rw [stack_at, if_neg hk, zero_mul]
  · rw [stack_at, if_pos (by show (g.val * 64 + x.val) / 64 = g.val; omega), mul_right_comm]

end Memory

theorem pay29_at (g : FVec Ideal S1024x256 .f32) (o : FVec Ideal S4096x256 .f32) (r : Fin 1024) (k : Fin 256) :
    k0_pay29 g (k0_pay25 lanes 64#32 k0_pay23 k0_pay24 sign) o (ix2 r k) = o (ix2 ⟨k.val / 64 * 1024 + r.val, by omega⟩ k) * silu (g (ix2 r k)) := by
  have hk : k.val / 64 < 4 := by omega
  have hr := r.isLt
  pointwise [k0_pay29]
  rw [head_at, choose _ 3 hk (by decide), choose _ 2 hk (by decide), choose _ 1 hk (by decide), choose _ 0 hk (by decide)]
  refine congrArg (· * silu (g (ix2 r k))) ?_
  have key : ∀ (a : ℕ) (ha : a + r.val < 4096) (e : a = k.val / 64 * 1024), o (ix2 ⟨a + r.val, ha⟩ k) = o (ix2 ⟨k.val / 64 * 1024 + r.val, by omega⟩ k) := by
    intro a ha e
    subst e
    rfl
  split_ifs with h3 h2 h1 h0
  · exact key 3072 (by omega) (by omega)
  · exact key 2048 (by omega) (by omega)
  · exact key 1024 (by omega) (by omega)
  · refine congr2 (fun i j => o (ix2 i j)) ?_ rfl
    show r.val = k.val / 64 * 1024 + r.val
    omega
  · omega

theorem pay27_at (g : FVec Ideal S1024x512 .f32) (a : Vec Ideal S1x1024x512 .f32) (r : Fin 1024) (k : Fin 512) :
    k0_pay27 g a (ix2 r k) = a (ix3 0 r k) * silu (g (ix2 r k)) := by
  pointwise [k0_pay27]
  rfl

theorem pay28_at (g a : FVec Ideal S1024x256 .f32) (r : Fin 1024) (k : Fin 256) : k0_pay28 g a (ix2 r k) = a (ix2 r k) * silu (g (ix2 r k)) := by
  pointwise [k0_pay28]
  rfl

theorem pay1_at (a : FVec Ideal S1024x512 .bf16) (b c : FVec Ideal S1024x256 .bf16) (A : Vec Ideal S512x1024 .bf16) (B C : Vec Ideal S256x1024 .bf16)
    (x : Vec Ideal S1x1024x1024 .f32) (g : Vec Ideal S1x1024 .f32) (r n : Fin 1024) : k0_pay1 a b c A B C x g (ix3 0 r n)
      = normed (fun d => x (ix3 0 r d) + (∑ k, a (ix2 r k) * A (ix2 k d) + ∑ k, b (ix2 r k) * B (ix2 k d) + ∑ k, c (ix2 r k) * C (ix2 k d))) (fun d => g (ix2 0 d)) n := by
  pointwise [k0_pay1]
  rfl

end Cert.Proof.L.Epi.Ker

end
-- ==== Proof.L.EpiIn.lean ====
/-
  The kernel's last rows: the arrays its run is given, block by block.
-/
module

public import proofs.«01_k».proof.Proof.L.EpiPay

@[expose] public section

noncomputable section

namespace Cert.Proof.L.Epi.Ker

open Idealize.ShloMosaic Idealize.SL.Sem
open Cert.Kernel5Ideal Cert.Kernel5Ideal.Gen

variable (m : (ℓ : Loc nD τ sig) → Buf (Elt Ideal) ℓ) (c : Dev nD)

/-- The residual, the attention's output, the other columns, the memory, the pooled columns' weights and scale, the projection, the gain. -/
abbrev argX : S2x8192x1024.Idx → EReal := m ((c.tc : Thread nD τ).loc main_arg0)
abbrev argO : S2x8192x512.Idx → EReal := m ((c.tc : Thread nD τ).loc main_arg1)
abbrev argR : S2x8192x1536.Idx → EReal := m ((c.tc : Thread nD τ).loc main_arg2)
abbrev argK : S2x256x256.Idx → EReal := m ((c.tc : Thread nD τ).loc main_arg3)
abbrev argV : S2x256x256.Idx → EReal := m ((c.tc : Thread nD τ).loc main_arg4)
abbrev argW : S4x64x64.Idx → EReal := m ((c.tc : Thread nD τ).loc main_arg5)
abbrev argS : S256.Idx → EReal := m ((c.tc : Thread nD τ).loc main_arg6)
abbrev argP : S1024x1024.Idx → EReal := m ((c.tc : Thread nD τ).loc main_arg7)
abbrev argG : S1024.Idx → EReal := m ((c.tc : Thread nD τ).loc main_arg8)

theorem zero3 : ∀ a : Fin 3, (![0, 0, 0] : Fin 3 → ℕ) a = 0 := by decide

theorem at2 {a b : ℕ} (X : (⟨2, ![a, b]⟩ : Shape).Idx → EReal) (y : (⟨2, ![a, b]⟩ : Shape).Idx) (i : Fin a) (j : Fin b) (h0 : (y 0).val = i.val) (h1 : (y 1).val = j.val) :
    X y = X (ix2 i j) :=
  (congrArg X (ValueIdx.eq_ix2 y)).trans (congr2 (fun i j => X (ix2 i j)) h0 h1)
theorem at3 {a b d : ℕ} (X : (⟨3, ![a, b, d]⟩ : Shape).Idx → EReal) (y : (⟨3, ![a, b, d]⟩ : Shape).Idx) (i : Fin a) (j : Fin b) (k : Fin d)
    (h0 : (y 0).val = i.val) (h1 : (y 1).val = j.val) (h2 : (y 2).val = k.val) : X y = X (ix3 i j k) :=
  (congrArg X (ValueIdx.eq_ix3 y)).trans (congr3 (fun i j k => X (ix3 i j k)) h0 h1 h2)

theorem coord : ∀ t : Fin (cfg0).N, ((grid0.coords t) 1).val = t.val % 8 := (by decide +kernel : ∀ t : Fin grid0.N, _)
theorem idx0 : ∀ t : Fin (cfg0).N, win0_0.index t = ![t.val / 8, t.val % 8, 0] := (by decide +kernel : ∀ t : Fin grid0.N, _)
theorem idx1 : ∀ t : Fin (cfg0).N, win0_1.index t = ![t.val / 8, t.val % 8, 0] := (by decide +kernel : ∀ t : Fin grid0.N, _)
theorem idx2 : ∀ t : Fin (cfg0).N, win0_2.index t = ![t.val / 8, t.val % 8, 0] := (by decide +kernel : ∀ t : Fin grid0.N, _)
theorem idx3 : ∀ t : Fin (cfg0).N, win0_3.index t = ![t.val / 8, t.val % 8 * 64 - 1, 2] := (by decide +kernel : ∀ t : Fin grid0.N, _)
theorem idx4 : ∀ t : Fin (cfg0).N, win0_4.index t = ![t.val / 8, 0, 0] := (by decide +kernel : ∀ t : Fin grid0.N, _)
theorem idx5 : ∀ t : Fin (cfg0).N, win0_5.index t = ![t.val / 8, 0, 0] := (by decide +kernel : ∀ t : Fin grid0.N, _)
theorem idx6 : ∀ t : Fin (cfg0).N, win0_6.index t = ![t.val / 8, 0, 0] := (by decide +kernel : ∀ t : Fin grid0.N, _)
theorem idx7 : ∀ t : Fin (cfg0).N, win0_7.index t = ![0, 0] := (by decide +kernel : ∀ t : Fin grid0.N, _)
theorem idx8 : ∀ t : Fin (cfg0).N, win0_8.index t = ![0, 0] := (by decide +kernel : ∀ t : Fin grid0.N, _)
theorem idx9 : ∀ t : Fin (cfg0).N, win0_9.index t = ![0, 0] := (by decide +kernel : ∀ t : Fin grid0.N, _)
theorem idx10 : ∀ t : Fin (cfg0).N, win0_10.index t = ![0, 0] := (by decide +kernel : ∀ t : Fin grid0.N, _)
theorem idx11 : ∀ t : Fin (cfg0).N, win0_11.index t = ![t.val / 8, t.val % 8, 0] := (by decide +kernel : ∀ t : Fin grid0.N, _)

/-! ## What the run is given -/

theorem V15 : (V m c main_v15 : S1x256.Idx → EReal) = shapeCast S1x256 (argS m c) shapeCasts_S256_S1x256 := by
  simp only [V, hostOps0, hostOps0_1, hostOps0_2, List.flatten_cons, List.flatten_nil, List.append_nil, List.cons_append, List.nil_append]
  after_results <;> rfl

theorem V16 : (V m c main_v16 : S1024x1024.Idx → EReal) = argP m c := by
  simp only [V, hostOps0, hostOps0_1, hostOps0_2, List.flatten_cons, List.flatten_nil, List.append_nil, List.cons_append, List.nil_append]
  after_results <;> rfl

theorem V17 : (V m c main_v17 : S1x1024.Idx → EReal) = shapeCast S1x1024 (argG m c) shapeCasts_S1024_S1x1024 := by
  simp only [V, hostOps0, hostOps0_1, hostOps0_2, List.flatten_cons, List.flatten_nil, List.append_nil, List.cons_append, List.nil_append]
  after_results <;> rfl

theorem V1 : (V m c main_v1 : S2x16x256.Idx → EReal)
    = pad S2x16x256 ![0, 1, 0] ![0, 0, 0] ![0, 0, 0] (broadcastInDim S2x15x256 ![] bcast_S_S2x15x256 (constant (F := Ideal) S_ .f32 0x00000000#32)) (sitofp (F := Ideal) .f32 (constantI S_ 32 0#32))
      pads_S2x15x256_S2x16x256_000_100_000 h_S_ := by
  simp only [V, hostOps0, hostOps0_1, hostOps0_2, List.flatten_cons, List.flatten_nil, List.append_nil, List.cons_append, List.nil_append]
  after_results <;> rfl

/-- The diagonal of four groups. -/
def eye : FVec Ideal S4x4 .f32 :=
  uitofp .f32 (cmpi .eq (addi (iotaInDim S4x4 32 0) (broadcastInDim S4x4 ![] bcast_S_S4x4 (constantI S_ 32 0#32))) (iotaInDim S4x4 32 1))

theorem eye_at (g h : Fin 4) : eye (ix2 g h) = if g = h then 1 else 0 := by
  have e : ∀ g h : Fin 4, IntOp.cmpi .eq (IntOp.addi (BitVec.ofNat 32 g.val) 0#32) (BitVec.ofNat 32 h.val) = if g = h then 1#1 else 0#1 := by decide
  pointwise [eye]
  rw [e]
  split
  · show (((1#1 : BitVec 1).toNat : ℝ) : EReal) = 1
    simp
  · show (((0#1 : BitVec 1).toNat : ℝ) : EReal) = 0
    simp

/-- The groups' weights on the diagonal blocks. -/
def blocks (W : FVec Ideal S4x64x64 .f32) : FVec Ideal S256x256 .f32 :=
  shapeCast S256x256 (mulf (broadcastInDim S4x64x4x64 ![0, 1, 2, 3] bcast_S4x1x4x1_S4x64x4x64_0_1_2_3 (broadcastInDim S4x1x4x1 ![0, 2] bcast_S4x4_S4x1x4x1_0_2 eye))
    (broadcastInDim S4x64x4x64 ![0, 1, 2, 3] bcast_S4x64x1x64_S4x64x4x64_0_1_2_3 (broadcastInDim S4x64x1x64 ![0, 1, 3] bcast_S4x64x64_S4x64x1x64_0_1_3 W))) shapeCasts_S4x64x4x64_S256x256

theorem blocks_at (W : FVec Ideal S4x64x64 .f32) (x k : Fin 256) : blocks W (ix2 x k)
    = if x.val / 64 = k.val / 64 then W (ix3 ⟨x.val / 64, by omega⟩ ⟨x.val % 64, by omega⟩ ⟨k.val % 64, by omega⟩) else 0 := by
  pointwise [blocks]
  rw [eye_at, ite_mul, one_mul, zero_mul]
  exact if_congr Fin.mk_eq_mk rfl rfl

theorem hist_at (b : Fin 2) (r : Fin 16) (k : Fin 256) :
    pad S2x16x256 ![0, 1, 0] ![0, 0, 0] ![0, 0, 0] (broadcastInDim S2x15x256 ![] bcast_S_S2x15x256 (constant (F := Ideal) S_ .f32 0x00000000#32)) (sitofp (F := Ideal) .f32 (constantI S_ 32 0#32))
      pads_S2x15x256_S2x16x256_000_100_000 h_S_ (ix3 b r k) = 0 := by
  pointwise []
  split
  · rfl
  · show (((0#32 : BitVec 32).toInt : ℝ) : EReal) = 0
    simp

theorem V14 : (V m c main_v14 : S256x256.Idx → EReal) = blocks (argW m c) := by
  simp only [V, hostOps0, hostOps0_1, hostOps0_2, List.flatten_cons, List.flatten_nil, List.append_nil, List.cons_append, List.nil_append]
  after_results <;> rfl

/-! ## The blocks -/

theorem blk0 (t : Fin (cfg0).N) (y : S1x1024x1024.Idx) (b : Fin 2) (j : Fin 8192) (k : Fin 1024) (hb : t.val / 8 = b.val) (hj : t.val % 8 * 1024 + (y 1).val = j.val)
    (hk : (y 2).val = k.val) : (iblk m c 0 t : S1x1024x1024.Idx → EReal) y = argX m c (ix3 b j k) := by
  have h0 : (y 0).val < 1 := (y 0).isLt
  blk_simp [iblk, idx0]
  rw [V_main_arg0]
  refine at3 (argX m c) _ b j k ?_ ?_ ?_
  · blk_simp [idx0]
    omega
  · blk_simp [idx0]
    omega
  · blk_simp [idx0]
    omega

theorem blk1 (t : Fin (cfg0).N) (y : S1x1024x512.Idx) (b : Fin 2) (j : Fin 8192) (k : Fin 512) (hb : t.val / 8 = b.val) (hj : t.val % 8 * 1024 + (y 1).val = j.val)
    (hk : (y 2).val = k.val) : (iblk m c 1 t : S1x1024x512.Idx → EReal) y = argO m c (ix3 b j k) := by
  have h0 : (y 0).val < 1 := (y 0).isLt
  blk_simp [iblk, idx1]
  rw [V_main_arg1]
  refine at3 (argO m c) _ b j k ?_ ?_ ?_
  · blk_simp [idx1]
    omega
  · blk_simp [idx1]
    omega
  · blk_simp [idx1]
    omega

theorem blk2 (t : Fin (cfg0).N) (y : S1x1024x1536.Idx) (b : Fin 2) (j : Fin 8192) (k : Fin 1536) (hb : t.val / 8 = b.val) (hj : t.val % 8 * 1024 + (y 1).val = j.val)
    (hk : (y 2).val = k.val) : (iblk m c 2 t : S1x1024x1536.Idx → EReal) y = argR m c (ix3 b j k) := by
  have h0 : (y 0).val < 1 := (y 0).isLt
  blk_simp [iblk, idx2]
  rw [V_main_arg2]
  refine at3 (argR m c) _ b j k ?_ ?_ ?_
  · blk_simp [idx2]
    omega
  · blk_simp [idx2]
    omega
  · blk_simp [idx2]
    omega

theorem blk3 (t : Fin (cfg0).N) (y : S1x16x256.Idx) (b : Fin 2) (j : Fin 8192) (k : Fin 1536) (hb : t.val / 8 = b.val) (hj : (t.val % 8 * 64 - 1) * 16 + (y 1).val = j.val)
    (hk : 512 + (y 2).val = k.val) : (iblk m c 3 t : S1x16x256.Idx → EReal) y = argR m c (ix3 b j k) := by
  have h0 : (y 0).val < 1 := (y 0).isLt
  blk_simp [iblk, idx3]
  rw [V_main_arg2]
  refine at3 (argR m c) _ b j k ?_ ?_ ?_
  · blk_simp [idx3]
    omega
  · blk_simp [idx3]
    omega
  · blk_simp [idx3]
    omega

theorem blk5 (t : Fin (cfg0).N) (y : S1x256x256.Idx) (b : Fin 2) (j : Fin 256) (k : Fin 256) (hb : t.val / 8 = b.val) (hj : (y 1).val = j.val)
    (hk : (y 2).val = k.val) : (iblk m c 5 t : S1x256x256.Idx → EReal) y = argK m c (ix3 b j k) := by
  have h0 : (y 0).val < 1 := (y 0).isLt
  blk_simp [iblk, idx5]
  rw [V_main_arg3]
  refine at3 (argK m c) _ b j k ?_ ?_ ?_
  · blk_simp [idx5]
    omega
  · blk_simp [idx5]
    omega
  · blk_simp [idx5]
    omega

theorem blk6 (t : Fin (cfg0).N) (y : S1x256x256.Idx) (b : Fin 2) (j : Fin 256) (k : Fin 256) (hb : t.val / 8 = b.val) (hj : (y 1).val = j.val)
    (hk : (y 2).val = k.val) : (iblk m c 6 t : S1x256x256.Idx → EReal) y = argV m c (ix3 b j k) := by
  have h0 : (y 0).val < 1 := (y 0).isLt
  blk_simp [iblk, idx6]
  rw [V_main_arg4]
  refine at3 (argV m c) _ b j k ?_ ?_ ?_
  · blk_simp [idx6]
    omega
  · blk_simp [idx6]
    omega
  · blk_simp [idx6]
    omega

theorem blk4 (t : Fin (cfg0).N) (y : S1x16x256.Idx) : (iblk m c 4 t : S1x16x256.Idx → EReal) y = (0 : EReal) := by
  blk_simp [iblk, idx4]
  rw [V1]
  exact (congrArg _ (ValueIdx.eq_ix3 _)).trans (hist_at _ _ _)

theorem blk7 (t : Fin (cfg0).N) (y : S256x256.Idx) (x k : Fin 256) (hx : (y 0).val = x.val) (hk : (y 1).val = k.val) :
    (iblk m c 7 t : S256x256.Idx → EReal) y = blocks (argW m c) (ix2 x k) := by
  blk_simp [iblk, idx7]
  rw [V14]
  refine at2 (blocks (argW m c)) _ x k ?_ ?_
  · blk_simp [idx7]
    omega
  · blk_simp [idx7]
    omega

theorem blk8 (t : Fin (cfg0).N) (y : S1x256.Idx) (k : Fin 256) (hk : (y 1).val = k.val) : (iblk m c 8 t : S1x256.Idx → EReal) y = argS m c (ix1 k) := by
  have h0 : (y 0).val < 1 := (y 0).isLt
  blk_simp [iblk, idx8]
  rw [V15]
  refine (at2 _ _ 0 k ?_ ?_).trans ?_
  · blk_simp [idx8]
    omega
  · blk_simp [idx8]
    omega
  · pointwise []

theorem blk9 (t : Fin (cfg0).N) (y : S1024x1024.Idx) (k n : Fin 1024) (hk : (y 0).val = k.val) (hn : (y 1).val = n.val) :
    (iblk m c 9 t : S1024x1024.Idx → EReal) y = argP m c (ix2 k n) := by
  blk_simp [iblk, idx9]
  rw [V16]
  refine at2 (argP m c) _ k n ?_ ?_
  · blk_simp [idx9]
    omega
  · blk_simp [idx9]
    omega

theorem blk10 (t : Fin (cfg0).N) (y : S1x1024.Idx) (k : Fin 1024) (hk : (y 1).val = k.val) : (iblk m c 10 t : S1x1024.Idx → EReal) y = argG m c (ix1 k) := by
  have h0 : (y 0).val < 1 := (y 0).isLt
  blk_simp [iblk, idx10]
  rw [V17]
  refine (at2 _ _ 0 k ?_ ?_).trans ?_
  · blk_simp [idx10]
    omega
  · blk_simp [idx10]
    omega
  · pointwise []

end Cert.Proof.L.Epi.Ker

end
-- ==== Proof.L.EpiKer.lean ====
/-
  The kernel's last rows: the array its run leaves.
-/
module

public import proofs.«01_k».proof.Proof.L.EpiIn

@[expose] public section

noncomputable section

namespace Cert.Proof.L.Epi.Ker

open Idealize.ShloMosaic Idealize.SL.Sem
open Cert.Kernel5Ideal Cert.Kernel5Ideal.Gen

theorem cast2 (v : Vec Ideal S1x1024x512 .f32) (r : Fin 1024) (k : Fin 512) : k0_pay2 v (ix2 r k) = v (ix3 0 r k) := by
  pointwise [k0_pay2]
theorem cast4 (v : Vec Ideal S1x1024x256 .f32) (r : Fin 1024) (k : Fin 256) : k0_pay4 v (ix2 r k) = v (ix3 0 r k) := by
  pointwise [k0_pay4]
theorem cast5 (v : Vec Ideal S1x1024x256 .f32) (r : Fin 1024) (k : Fin 256) : k0_pay5 v (ix2 r k) = v (ix3 0 r k) := by
  pointwise [k0_pay5]
theorem cast6 (v : Vec Ideal S1x1024x256 .f32) (r : Fin 1024) (k : Fin 256) : k0_pay6 v (ix2 r k) = v (ix3 0 r k) := by
  pointwise [k0_pay6]
theorem cast21 (v : Vec Ideal S1x256x256 .f32) (r k : Fin 256) : k0_pay21 v (ix2 r k) = v (ix3 0 r k) := by
  pointwise [k0_pay21]
theorem cast22 (v : Vec Ideal S1x256x256 .f32) (r k : Fin 256) : k0_pay22 v (ix2 r k) = v (ix3 0 r k) := by
  pointwise [k0_pay22]

variable (m : (ℓ : Loc nD τ sig) → Buf (Elt Ideal) ℓ) (c : Dev nD)

section Loads

variable (t : Fin (cfg0).N) (r : Fin 1024) (b : Fin 2) (j : Fin 8192) (hb : t.val / 8 = b.val) (hj : t.val % 8 * 1024 + r.val = j.val)

include hb hj

theorem ld2_0 (k : Fin 512) : View.ld (iblk m c 2 t) r0_0 (ix3 0 r k) = argR m c (ix3 b j ⟨0 + k.val, by omega⟩) :=
  (View.ld_unit_apply_of _ _ _ _ _ (ix3 0 r ⟨0 + k.val, by omega⟩ : S1x1024x1536.Idx) (Fin.forall_fin_succ.mpr ⟨rfl, Fin.forall_fin_two.mpr ⟨(Nat.zero_add _).symm, rfl⟩⟩)).trans
    (blk2 m c t _ b j ⟨0 + k.val, by omega⟩ hb hj rfl)

theorem ld2_1 (k : Fin 256) : View.ld (iblk m c 2 t) r0_1 (ix3 0 r k) = argR m c (ix3 b j ⟨512 + k.val, by omega⟩) :=
  (View.ld_unit_apply_of _ _ _ _ _ (ix3 0 r ⟨512 + k.val, by omega⟩ : S1x1024x1536.Idx) (Fin.forall_fin_succ.mpr ⟨rfl, Fin.forall_fin_two.mpr ⟨(Nat.zero_add _).symm, rfl⟩⟩)).trans
    (blk2 m c t _ b j ⟨512 + k.val, by omega⟩ hb hj rfl)

theorem ld2_2 (k : Fin 256) : View.ld (iblk m c 2 t) r0_2 (ix3 0 r k) = argR m c (ix3 b j ⟨768 + k.val, by omega⟩) :=
  (View.ld_unit_apply_of _ _ _ _ _ (ix3 0 r ⟨768 + k.val, by omega⟩ : S1x1024x1536.Idx) (Fin.forall_fin_succ.mpr ⟨rfl, Fin.forall_fin_two.mpr ⟨(Nat.zero_add _).symm, rfl⟩⟩)).trans
    (blk2 m c t _ b j ⟨768 + k.val, by omega⟩ hb hj rfl)

theorem ld2_3 (k : Fin 256) : View.ld (iblk m c 2 t) r0_3 (ix3 0 r k) = argR m c (ix3 b j ⟨1024 + k.val, by omega⟩) :=
  (View.ld_unit_apply_of _ _ _ _ _ (ix3 0 r ⟨1024 + k.val, by omega⟩ : S1x1024x1536.Idx) (Fin.forall_fin_succ.mpr ⟨rfl, Fin.forall_fin_two.mpr ⟨(Nat.zero_add _).symm, rfl⟩⟩)).trans
    (blk2 m c t _ b j ⟨1024 + k.val, by omega⟩ hb hj rfl)

theorem ld2_4 (k : Fin 256) : View.ld (iblk m c 2 t) r0_4 (ix3 0 r k) = argR m c (ix3 b j ⟨1280 + k.val, by omega⟩) :=
  (View.ld_unit_apply_of _ _ _ _ _ (ix3 0 r ⟨1280 + k.val, by omega⟩ : S1x1024x1536.Idx) (Fin.forall_fin_succ.mpr ⟨rfl, Fin.forall_fin_two.mpr ⟨(Nat.zero_add _).symm, rfl⟩⟩)).trans
    (blk2 m c t _ b j ⟨1280 + k.val, by omega⟩ hb hj rfl)

theorem gate0 (k : Fin 512) : k0_pay2 (View.ld (iblk m c 2 t) r0_0) (ix2 r k) = argR m c (ix3 b j ⟨k.val, by omega⟩) :=
  (cast2 _ _ _).trans <| (ld2_0 m c t r b j hb hj k).trans (congr3 (fun i j k => argR m c (ix3 i j k)) rfl rfl (Nat.zero_add k.val))

theorem gate2 (k : Fin 256) : k0_pay4 (View.ld (iblk m c 2 t) r0_2) (ix2 r k) = argR m c (ix3 b j ⟨768 + k.val, by omega⟩) :=
  (cast4 _ _ _).trans <| ld2_2 m c t r b j hb hj k

theorem query (k : Fin 256) : k0_pay5 (View.ld (iblk m c 2 t) r0_3) (ix2 r k) = argR m c (ix3 b j ⟨1024 + k.val, by omega⟩) :=
  (cast5 _ _ _).trans <| ld2_3 m c t r b j hb hj k

theorem gate4 (k : Fin 256) : k0_pay6 (View.ld (iblk m c 2 t) r0_4) (ix2 r k) = argR m c (ix3 b j ⟨1280 + k.val, by omega⟩) :=
  (cast6 _ _ _).trans <| ld2_4 m c t r b j hb hj k

theorem ldx (d : Fin 1024) : View.ld (iblk m c 0 t) r0_13 (ix3 0 r d) = argX m c (ix3 b j d) :=
  (congrFun (View.ld_unit_lit _ _ zero3) _).trans (blk0 m c t _ b j d hb hj rfl)

theorem ldo (k : Fin 512) : View.ld (iblk m c 1 t) r0_9 (ix3 0 r k) = argO m c (ix3 b j k) :=
  (congrFun (View.ld_unit_lit _ _ zero3) _).trans (blk1 m c t _ b j k hb hj rfl)

end Loads

theorem ldg (t : Fin (cfg0).N) (d : Fin 1024) : View.ld (iblk m c 10 t) r0_14 (ix2 0 d) = argG m c (ix1 d) :=
  (congrFun (View.ld_unit_lit _ _ zeros) _).trans (blk10 m c t _ d rfl)

theorem lds (t : Fin (cfg0).N) (k : Fin 256) : View.ld (iblk m c 8 t) r0_7 (ix2 0 k) = argS m c (ix1 k) :=
  (congrFun (View.ld_unit_lit _ _ zeros) _).trans (blk8 m c t _ k rfl)

theorem ldbd (t : Fin (cfg0).N) (x k : Fin 256) : View.ld (iblk m c 7 t) r0_6 (ix2 x k) = blocks (argW m c) (ix2 x k) :=
  (congrFun (View.ld_unit_lit _ _ zeros) _).trans (blk7 m c t _ x k rfl rfl)

theorem ldp0 (t : Fin (cfg0).N) (k : Fin 512) (n : Fin 1024) : View.ld (iblk m c 9 t) r0_10 (ix2 k n) = argP m c (ix2 ⟨k.val, by omega⟩ n) :=
  (View.ld_unit_apply_of _ _ _ _ _ (ix2 ⟨k.val, by omega⟩ n : S1024x1024.Idx) (Fin.forall_fin_two.mpr ⟨(Nat.zero_add _).symm, (Nat.zero_add _).symm⟩)).trans (blk9 m c t _ _ n rfl rfl)
theorem ldp1 (t : Fin (cfg0).N) (k : Fin 256) (n : Fin 1024) : View.ld (iblk m c 9 t) r0_11 (ix2 k n) = argP m c (ix2 ⟨512 + k.val, by omega⟩ n) :=
  (View.ld_unit_apply_of _ _ _ _ _ (ix2 ⟨512 + k.val, by omega⟩ n : S1024x1024.Idx) (Fin.forall_fin_two.mpr ⟨rfl, (Nat.zero_add _).symm⟩)).trans (blk9 m c t _ _ n rfl rfl)
theorem ldp2 (t : Fin (cfg0).N) (k : Fin 256) (n : Fin 1024) : View.ld (iblk m c 9 t) r0_12 (ix2 k n) = argP m c (ix2 ⟨768 + k.val, by omega⟩ n) :=
  (View.ld_unit_apply_of _ _ _ _ _ (ix2 ⟨768 + k.val, by omega⟩ n : S1024x1024.Idx) (Fin.forall_fin_two.mpr ⟨rfl, (Nat.zero_add _).symm⟩)).trans (blk9 m c t _ _ n rfl rfl)

theorem keys (t : Fin (cfg0).N) (b : Fin 2) (hb : t.val / 8 = b.val) (n x : Fin 256) : k0_pay21 (View.ld (iblk m c 5 t) r0_8) (ix2 n x) = argK m c (ix3 b n x) :=
  (cast21 _ _ _).trans <| (congrFun (View.ld_unit_lit _ _ zero3) _).trans (blk5 m c t _ b n x hb rfl rfl)

theorem vals (t : Fin (cfg0).N) (b : Fin 2) (hb : t.val / 8 = b.val) (n x : Fin 256) : k0_pay22 (View.ld (iblk m c 6 t) r0_8) (ix2 n x) = argV m c (ix3 b n x) :=
  (cast22 _ _ _).trans <| (congrFun (View.ld_unit_lit _ _ zero3) _).trans (blk6 m c t _ b n x hb rfl rfl)

/-! ## The rows behind a block -/

theorem column_at (R : A2x8192x1536) (b : Fin 2) (k : Fin 256) (s : ℕ) (j : Fin 8192) (h : s = 15 + j.val) : column R b k s = R (ix3 b j ⟨512 + k.val, by omega⟩) := by
  have hj := j.isLt
  unfold column
  rw [dif_pos ⟨by omega, by omega⟩]
  exact congr3 (fun i j k => R (ix3 i j k)) rfl (by show s - 15 = j.val; omega) rfl

theorem column_zero (R : A2x8192x1536) (b : Fin 2) (k : Fin 256) (s : ℕ) (h : s < 15) : column R b k s = 0 :=
  dif_neg fun h' => by omega

theorem first (n : ℕ) (hn : n < 8) (a b : EReal) : Scalar.select (Scalar.cmpi .eq (BitVec.ofNat 32 n) 0#32) a b = if n = 0 then a else b := by
  interval_cases n <;> rfl

theorem rows_at (t : Fin (cfg0).N) (b : Fin 2) (hb : t.val / 8 = b.val) (k : Fin 256) (s : Fin 1040) :
    rows (grid0.coords t) (View.ld (iblk m c 2 t) r0_1) (View.ld (iblk m c 4 t) r0_5) (View.ld (iblk m c 3 t) r0_5) s k
      = column (argR m c) b k (t.val % 8 * 1024 + s.val - 1) := by
  have hs := s.isLt
  have ht : t.val % 8 < 8 := Nat.mod_lt _ (by decide)
  unfold rows
  rw [coord]
  by_cases h : s.val < 16
  · rw [dif_pos h]
    refine (first _ ht _ _).trans ?_
    by_cases h0 : t.val % 8 = 0
    · rw [if_pos h0, column_zero _ _ _ _ (by omega)]
      exact (congrFun (View.ld_unit_lit _ _ zero3) _).trans (blk4 m c t _)
    · rw [if_neg h0, column_at _ _ _ _ ⟨(t.val % 8 * 64 - 1) * 16 + s.val, by omega⟩ (by show _ = 15 + ((t.val % 8 * 64 - 1) * 16 + s.val); omega)]
      exact (congrFun (View.ld_unit_lit _ _ zero3) _).trans (blk3 m c t _ b _ _ hb rfl rfl)
  · rw [dif_neg h, column_at _ _ _ _ ⟨t.val % 8 * 1024 + (s.val - 16), by omega⟩ (by show _ = 15 + (t.val % 8 * 1024 + (s.val - 16)); omega)]
    exact ld2_1 m c t _ b _ hb rfl k

theorem window_shift (U : ℕ → EReal) (T r w : ℕ) (hw : w ≤ 16) : window (fun s => U (T + s - 1)) w (16 + r) = window U w (15 + (T + r)) := by
  unfold window
  refine Finset.sum_congr rfl fun n hn => congrArg U ?_
  have := Finset.mem_range.mp hn
  omega

theorem width_le (x : Fin 256) : 2 ^ (x.val / 64 + 1) ≤ 16 :=
  (Nat.pow_le_pow_right (by decide) (by omega : x.val / 64 + 1 ≤ 4)).trans (by decide)

/-! ## The three parts of a row -/

section Parts

variable (t : Fin (cfg0).N) (r : Fin 1024) (b : Fin 2) (j : Fin 8192) (hb : t.val / 8 = b.val) (hj : t.val % 8 * 1024 + r.val = j.val)

include hb hj

theorem part1_at (k : Fin 512) : k0_pay27 (k0_pay2 (View.ld (iblk m c 2 t) r0_0)) (View.ld (iblk m c 1 t) r0_9) (ix2 r k) = part1 (argO m c) (argR m c) b j k := by
  rw [pay27_at, gate0 m c t r b j hb hj, ldo m c t r b j hb hj]
  rfl

theorem pooledK (k : Fin 256) :
    k0_pay20 (k0_pay3 (View.ld (iblk m c 2 t) r0_1)) (k0_pay10 (grid0.coords t) (View.ld (iblk m c 2 t) r0_1) (View.ld (iblk m c 4 t) r0_5) (View.ld (iblk m c 3 t) r0_5))
      (k0_pay13 lanes 64#32 k0_pay11 k0_pay12) (k0_pay14 (BitVec.ofNat 32 ((grid0.coords t) 1).val))
      (k0_pay18 (k0_pay7 (grid0.coords t) (View.ld (iblk m c 2 t) r0_1) (View.ld (iblk m c 4 t) r0_5) (View.ld (iblk m c 3 t) r0_5))
        (k0_pay8 (grid0.coords t) (View.ld (iblk m c 2 t) r0_1) (View.ld (iblk m c 4 t) r0_5) (View.ld (iblk m c 3 t) r0_5))
        (k0_pay9 (grid0.coords t) (View.ld (iblk m c 2 t) r0_1) (View.ld (iblk m c 4 t) r0_5) (View.ld (iblk m c 3 t) r0_5)) lanes 64#32 k0_pay11 k0_pay12)
      (k0_pay19 lanes 64#32 k0_pay11 k0_pay12) (View.ld (iblk m c 7 t) r0_6) (View.ld (iblk m c 8 t) r0_7) (ix2 r k)
      = (∑ x : Fin 64, pooled (argR m c) b j ⟨k.val / 64 * 64 + x.val, by omega⟩ * argW m c (ix3 ⟨k.val / 64, by omega⟩ x ⟨k.val % 64, by omega⟩)) * argS m c (ix1 k) := by
  have hk := k.isLt
  refine (pooled_at _ _ _ _ _ _ (fun k s => column (argR m c) b k (t.val % 8 * 1024 + s - 1)) (fun k s => rows_at m c t b hb k s) r k).trans ?_
  rw [lds]
  refine congrArg (· * argS m c (ix1 k)) ((sum_group _ ⟨k.val / 64, by omega⟩ fun x hx => ?_).trans (Finset.sum_congr rfl fun x _ => ?_))
  · rw [ldbd, blocks_at, if_neg hx, mul_zero]
  · have hx := x.isLt
    rw [ldbd, blocks_at, if_pos (by show (k.val / 64 * 64 + x.val) / 64 = k.val / 64; omega), window_shift _ _ _ _ (width_le _), coord, hj, ld2_1 m c t r b j hb hj]
    refine congrArg₂ (· * ·) rfl (congr3 (fun i j k => argW m c (ix3 i j k)) ?_ ?_ rfl)
    · show (k.val / 64 * 64 + x.val) / 64 = k.val / 64
      omega
    · show (k.val / 64 * 64 + x.val) % 64 = x.val
      omega

theorem part3_at (k : Fin 256) :
    k0_pay29 (k0_pay6 (View.ld (iblk m c 2 t) r0_4)) (k0_pay25 lanes 64#32 k0_pay23 k0_pay24 sign)
      (k0_pay26 (k0_pay5 (View.ld (iblk m c 2 t) r0_3)) (k0_pay21 (View.ld (iblk m c 5 t) r0_8)) (k0_pay22 (View.ld (iblk m c 6 t) r0_8)) lanes 64#32 k0_pay23 k0_pay24 sign) (ix2 r k)
      = part3 (argR m c) (argK m c) (argV m c) b j k := by
  have hk := k.isLt
  rw [pay29_at, gate4 m c t r b j hb hj, pay26_at]
  unfold part3
  refine congrArg (· * silu _) (Finset.sum_congr rfl fun n _ => congrArg₂ (· * ·) (congrArg (fun f => soften f n) (funext fun n => ?_)) (vals m c t b hb n k))
  refine (scores_at _ _ ⟨k.val / 64, by omega⟩ r n (by show k.val / 64 * 1024 + r.val < 4096; omega)).trans ?_
  unfold score
  refine congrArg (· * Ideal.ofBits .f32 0x3E000000#32) (Finset.sum_congr rfl fun x _ => congrArg₂ (· * ·) (query m c t r b j hb hj _) (keys m c t b hb n _))

end Parts

/-- The arrays' last rows. -/
def last : S2x8192x1024.Idx → EReal := fun y =>
  result (argX m c) (argO m c) (argR m c) (argK m c) (argV m c) (argW m c) (argS m c) (argP m c) (argG m c) (y 0) (y 1) (y 2)

theorem out_at (t : Fin (cfg0).N) (y : S1x1024x1024.Idx) (b : Fin 2) (j : Fin 8192) (n : Fin 1024) (hb : t.val / 8 = b.val) (hj : t.val % 8 * 1024 + (y 1).val = j.val) (hn : (y 2).val = n.val) :
    out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = result (argX m c) (argO m c) (argR m c) (argK m c) (argV m c) (argW m c) (argS m c) (argP m c) (argG m c) b j n := by
  have h0 : (y 0).val < 1 := (y 0).isLt
  unfold_out out0_11
  refine (congrFun (View.canon_cons_unit_lit _ _ _ zero3) y).trans ((at3 _ y 0 (y 1) n (by show (y 0).val = 0; omega) rfl hn).trans ((pay1_at _ _ _ _ _ _ _ _ (y 1) n).trans ?_))
  unfold result total
  refine congrFun (congrArg₂ normed (funext fun d => ?_) (funext fun d => ldg m c t d)) n
  refine congrArg₂ (· + ·) (ldx m c t _ b j hb hj d) (congrArg₂ (· + ·) (congrArg₂ (· + ·) ?_ ?_) ?_)
  · exact Finset.sum_congr rfl fun k _ => congrArg₂ (· * ·) (part1_at m c t _ b j hb hj k) (ldp0 m c t k d)
  · refine Finset.sum_congr rfl fun k _ => congrArg₂ (· * ·) ?_ (ldp1 m c t k d)
    refine (pay28_at _ _ _ k).trans (congrArg₂ (· * ·) (pooledK m c t _ b j hb hj k) (congrArg silu (gate2 m c t _ b j hb hj k)))
  · exact Finset.sum_congr rfl fun k _ => congrArg₂ (· * ·) (part3_at m c t _ b j hb hj k) (ldp2 m c t k d)

theorem final : (dats m 0 c).arrAt 11 (cfg0).N = last m c := by
  refine (dats m 0 c).arrAt_eq_of_covers 11 _ (by decide +kernel) fun t hf y => ?_
  have h0 : (y 0).val < 1 := (y 0).isLt
  blk_simp [idx11]
  rw [after0_11]
  unfold last
  refine out_at m c t y _ _ _ ?_ ?_ ?_
  · blk_simp [idx11]
  · blk_simp [idx11]
  · blk_simp [idx11]

end Cert.Proof.L.Epi.Ker

end
-- ==== Proof.L.EpiRef.lean ====
/-
  The reference's operations for the end of the layer, named, and read at an index.
-/
module

public import proofs.«01_k».proof.Proof.Gen.Reference5Ideal.Run
public import proofs.«01_k».proof.Proof.L.EpiSpec

@[expose] public section

noncomputable section

namespace Cert.Proof.L.Epi.Ref

open Cert.Reference5Ideal Cert.Reference5Ideal.Gen Cert.Reference5Ideal.Facts
open Idealize.ShloMosaic

/-! ## The operations -/

def gateO (R : FVec Ideal S2x8192x1536 .f32) : FVec Ideal S2x8192x512 .f32 := extractStridedSlice S2x8192x512 ![0, 0, 0] R slices_S2x8192x1536_S2x8192x512_0_0_0
def cols (R : FVec Ideal S2x8192x1536 .f32) : FVec Ideal S2x8192x256 .f32 := extractStridedSlice S2x8192x256 ![0, 0, 512] R slices_S2x8192x1536_S2x8192x256_0_0_512
def gateP (R : FVec Ideal S2x8192x1536 .f32) : FVec Ideal S2x8192x256 .f32 := extractStridedSlice S2x8192x256 ![0, 0, 768] R slices_S2x8192x1536_S2x8192x256_0_0_768
def queries (R : FVec Ideal S2x8192x1536 .f32) : FVec Ideal S2x8192x256 .f32 := extractStridedSlice S2x8192x256 ![0, 0, 1024] R slices_S2x8192x1536_S2x8192x256_0_0_1024
def gateX (R : FVec Ideal S2x8192x1536 .f32) : FVec Ideal S2x8192x256 .f32 := extractStridedSlice S2x8192x256 ![0, 0, 1280] R slices_S2x8192x1536_S2x8192x256_0_0_1280

/-- The pooled columns behind their history of zeros. -/
def rows (u : FVec Ideal S2x8192x256 .f32) : FVec Ideal S2x8207x256 .f32 :=
  concatenate S2x8207x256 1 [⟨S2x15x256, broadcastInDim S2x15x256 ![] bcast_S_S2x15x256 (constant S_ .f32 0x00000000#32)⟩, ⟨S2x8192x256, u⟩] concatenates_S2x15x256_S2x8192x256_S2x8207x256_d1

/-- Sums over the rows up to each. -/
def sums (x : FVec Ideal S2x8207x256 .f32) : FVec Ideal S2x8207x256 .f32 :=
  Host.reduceWindowAdd ![1, 8207, 1] ![1, 1, 1] ![0, 8206, 0] ![0, 0, 0] x (broadcastInDim S_ ![] bcast_S_S_ (constant (F := Ideal) S_ .f32 0x00000000#32))
    reduceWindows_S2x8207x256_S2x8207x256_w1s1p0_0_w8207s1p8206_0_w1s1p0_0 h_S_

/-- Sums over the rows before each. -/
def before (x : FVec Ideal S2x8207x256 .f32) : FVec Ideal S2x8208x256 .f32 :=
  concatenate S2x8208x256 1 [⟨S2x1x256, broadcastInDim S2x1x256 ![] bcast_S_S2x1x256 (constant S_ .f32 0x00000000#32)⟩, ⟨S2x8207x256, sums x⟩] concatenates_S2x1x256_S2x8207x256_S2x8208x256_d1

/-- How many rows a window of `w` holds. -/
def count (w : BitVec 32) : FVec Ideal S2x8192x64 .f32 :=
  broadcastInDim S2x8192x64 ![0, 1, 2] bcast_S1x8192x1_S2x8192x64_0_1_2 (broadcastInDim S1x8192x1 ![1] bcast_S8192_S1x8192x1_1 (sitofp .f32
    (minsi (addi (addi (broadcastInDim S8192 ![] bcast_S_S8192 (constantI S_ 32 0#32)) (iotaInDim S8192 32 0)) (broadcastInDim S8192 ![] bcast_S_S8192 (constantI S_ 32 1#32)))
      (broadcastInDim S8192 ![] bcast_S_S8192 (constantI S_ 32 w)))))

def upto (s : FVec Ideal S2x8208x256 .f32) : FVec Ideal S2x8192x256 .f32 := extractStridedSlice S2x8192x256 ![0, 16, 0] s slices_S2x8208x256_S2x8192x256_0_16_0

def mean0 (s : FVec Ideal S2x8208x256 .f32) : FVec Ideal S2x8192x64 .f32 :=
  Host.divf (subf (extractStridedSlice S2x8192x64 ![0, 0, 0] (upto s) slices_S2x8192x256_S2x8192x64_0_0_0) (extractStridedSlice S2x8192x64 ![0, 14, 0] s slices_S2x8208x256_S2x8192x64_0_14_0)) (count 2#32)
def mean1 (s : FVec Ideal S2x8208x256 .f32) : FVec Ideal S2x8192x64 .f32 :=
  Host.divf (subf (extractStridedSlice S2x8192x64 ![0, 0, 64] (upto s) slices_S2x8192x256_S2x8192x64_0_0_64) (extractStridedSlice S2x8192x64 ![0, 12, 64] s slices_S2x8208x256_S2x8192x64_0_12_64)) (count 4#32)
def mean2 (s : FVec Ideal S2x8208x256 .f32) : FVec Ideal S2x8192x64 .f32 :=
  Host.divf (subf (extractStridedSlice S2x8192x64 ![0, 0, 128] (upto s) slices_S2x8192x256_S2x8192x64_0_0_128) (extractStridedSlice S2x8192x64 ![0, 8, 128] s slices_S2x8208x256_S2x8192x64_0_8_128)) (count 8#32)
def mean3 (s : FVec Ideal S2x8208x256 .f32) : FVec Ideal S2x8192x64 .f32 :=
  Host.divf (subf (extractStridedSlice S2x8192x64 ![0, 0, 192] (upto s) slices_S2x8192x256_S2x8192x64_0_0_192) (extractStridedSlice S2x8192x64 ![0, 0, 192] s slices_S2x8208x256_S2x8192x64_0_0_192)) (count 16#32)

/-- The window means less the row itself. -/
def pooled (s : FVec Ideal S2x8208x256 .f32) (u : FVec Ideal S2x8192x256 .f32) : FVec Ideal S2x8192x256 .f32 :=
  subf (concatenate S2x8192x256 2 [⟨S2x8192x64, mean0 s⟩, ⟨S2x8192x64, mean1 s⟩, ⟨S2x8192x64, mean2 s⟩, ⟨S2x8192x64, mean3 s⟩]
    concatenates_S2x8192x64_S2x8192x64_S2x8192x64_S2x8192x64_S2x8192x256_d2) u

/-- Each group times its weights, and the scale. -/
def mixPool (p : FVec Ideal S2x8192x256 .f32) (W : FVec Ideal S4x64x64 .f32) (S : FVec Ideal S256 .f32) : FVec Ideal S2x8192x256 .f32 :=
  mulf (shapeCast _ (transpose S2x8192x4x64 [2, 3, 0, 1] (Host.dotGeneral dot_S4x64x64_S2x8192x4x64_S4x64x2x8192_1_3_2_01_0_2 none W
    (shapeCast _ p shapeCasts_S2x8192x256_S2x8192x4x64)) transposes_S4x64x2x8192_S2x8192x4x64_2_3_0_1) shapeCasts_S2x8192x4x64_S2x8192x256)
    (broadcastInDim S2x8192x256 ![0, 1, 2] bcast_S1x1x256_S2x8192x256_0_1_2 (broadcastInDim S1x1x256 ![2] bcast_S256_S1x1x256_2 S))

/-- The scores against the memory's keys, by head. -/
def scores (q : FVec Ideal S2x8192x256 .f32) (K : FVec Ideal S2x256x256 .f32) : FVec Ideal S2x4x8192x256 .f32 :=
  Host.divf (Host.dotGeneral dot_S2x8192x4x64_S2x256x4x64_S2x4x8192x256_3_3_1_1_02_02 none (shapeCast _ q shapeCasts_S2x8192x256_S2x8192x4x64)
    (shapeCast _ K shapeCasts_S2x256x256_S2x256x4x64)) (broadcastInDim S2x4x8192x256 ![] bcast_S_S2x4x8192x256 (constant S_ .f32 0x41000000#32))

/-- The largest score of each query. -/
def maxes (s : FVec Ideal S2x4x8192x256 .f32) : FVec Ideal S2x4x8192 .f32 :=
  Host.reduce FloatOps.maximumf s (constant S_ .f32 0xFF800000#32) reducesTo_S2x4x8192x256_S2x4x8192_d3 h_S_

/-- A number for each query, at every key. -/
def spread (x : FVec Ideal S2x4x8192 .f32) : FVec Ideal S2x4x8192x256 .f32 :=
  broadcastInDim S2x4x8192x256 ![0, 1, 2, 3] bcast_S2x4x8192x1_S2x4x8192x256_0_1_2_3 (broadcastInDim S2x4x8192x1 ![0, 1, 2] bcast_S2x4x8192_S2x4x8192x1_0_1_2 x)

def tops (x : FVec Ideal S2x4x8192 .f32) : FVec Ideal S2x4x8192 .f32 := maximumf (broadcastInDim S2x4x8192 ![] bcast_S_S2x4x8192 (constant S_ .f32 0xFF800000#32)) x

def totals (e : FVec Ideal S2x4x8192x256 .f32) : FVec Ideal S2x4x8192 .f32 :=
  Host.reduceAdd e (constant S_ .f32 0x00000000#32) reducesTo_S2x4x8192x256_S2x4x8192_d3 h_S_

def exps (s : FVec Ideal S2x4x8192x256 .f32) : FVec Ideal S2x4x8192x256 .f32 :=
  Host.exp (subf s (spread (tops (maxes s))))

def soft (s : FVec Ideal S2x4x8192x256 .f32) : FVec Ideal S2x4x8192x256 .f32 :=
  Host.divf (exps s) (spread (totals (exps s)))

/-- The weighted sums of the memory's values. -/
def attend (w : FVec Ideal S2x4x8192x256 .f32) (V : FVec Ideal S2x256x256 .f32) : FVec Ideal S2x8192x256 .f32 :=
  shapeCast _ (transpose S2x8192x4x64 [0, 3, 1, 2] (Host.dotGeneral dot_S2x256x4x64_S2x4x8192x256_S2x4x64x8192_1_3_3_2_02_01 none
    (shapeCast _ V shapeCasts_S2x256x256_S2x256x4x64) w) transposes_S2x4x64x8192_S2x8192x4x64_0_3_1_2) shapeCasts_S2x8192x4x64_S2x8192x256

def wide (g : FVec Ideal S2x8192x512 .f32) : FVec Ideal S2x8192x512 .f32 :=
  mulf g (Host.divf (broadcastInDim S2x8192x512 ![] bcast_S_S2x8192x512 (constant S_ .f32 0x3F800000#32))
    (addf (broadcastInDim S2x8192x512 ![] bcast_S_S2x8192x512 (constant S_ .f32 0x3F800000#32)) (Host.exp (Host.negf g))))

def narrow (g : FVec Ideal S2x8192x256 .f32) : FVec Ideal S2x8192x256 .f32 :=
  mulf g (Host.divf (broadcastInDim S2x8192x256 ![] bcast_S_S2x8192x256 (constant S_ .f32 0x3F800000#32))
    (addf (broadcastInDim S2x8192x256 ![] bcast_S_S2x8192x256 (constant S_ .f32 0x3F800000#32)) (Host.exp (Host.negf g))))

/-- The residual row with the three parts' projection added. -/
def total (X : FVec Ideal S2x8192x1024 .f32) (a : FVec Ideal S2x8192x512 .f32) (b c : FVec Ideal S2x8192x256 .f32) (W : FVec Ideal S1024x1024 .f32) : FVec Ideal S2x8192x1024 .f32 :=
  addf X (Host.dotGeneral dot_S2x8192x1024_S1024x1024_S2x8192x1024_2_0_01_1_n_n none
    (concatenate S2x8192x1024 2 [⟨S2x8192x512, a⟩, ⟨S2x8192x256, b⟩, ⟨S2x8192x256, c⟩] concatenates_S2x8192x512_S2x8192x256_S2x8192x256_S2x8192x1024_d2) W)

def norm (y : FVec Ideal S2x8192x1024 .f32) (G : FVec Ideal S1024 .f32) : FVec Ideal S2x8192x1024 .f32 :=
  mulf (mulf y (broadcastInDim S2x8192x1024 ![0, 1, 2] bcast_S2x8192x1_S2x8192x1024_0_1_2 (Host.rsqrt (addf (Host.divf (broadcastInDim S2x8192x1 ![0, 1] bcast_S2x8192_S2x8192x1_0_1
    (Host.reduceAdd (mulf y y) (constant S_ .f32 0x00000000#32) reducesTo_S2x8192x1024_S2x8192_d2 h_S_)) (broadcastInDim S2x8192x1 ![] bcast_S_S2x8192x1 (constant S_ .f32 0x44800000#32)))
    (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 G))

variable (m : (ℓ : Loc nD τ sig) → Buf (Elt Ideal) ℓ) (c : Dev nD)

theorem res_eq : Value.res_main_v108 (F := Ideal) m c
    = norm (total (m ((c.tc : Thread nD τ).loc main_arg0)) (mulf (m ((c.tc : Thread nD τ).loc main_arg1)) (wide (gateO (m ((c.tc : Thread nD τ).loc main_arg2)))))
        (mulf (mixPool (pooled (before (rows (cols (m ((c.tc : Thread nD τ).loc main_arg2))))) (cols (m ((c.tc : Thread nD τ).loc main_arg2)))) (m ((c.tc : Thread nD τ).loc main_arg5))
          (m ((c.tc : Thread nD τ).loc main_arg6))) (narrow (gateP (m ((c.tc : Thread nD τ).loc main_arg2)))))
        (mulf (attend (soft (scores (queries (m ((c.tc : Thread nD τ).loc main_arg2))) (m ((c.tc : Thread nD τ).loc main_arg3)))) (m ((c.tc : Thread nD τ).loc main_arg4)))
          (narrow (gateX (m ((c.tc : Thread nD τ).loc main_arg2)))))
        (m ((c.tc : Thread nD τ).loc main_arg7))) (m ((c.tc : Thread nD τ).loc main_arg8)) := by
  unfold Value.res_main_v108 norm total wide narrow attend soft exps totals tops spread maxes scores mixPool pooled mean0 mean1 mean2 mean3 upto count before sums rows gateX queries gateP cols gateO
  rfl

/-! ## A sum over the rows up to each -/

theorem foldl_add {A : Type} (g : A → EReal) (l : List A) (v : EReal) : l.foldl (fun r n => r + g n) v = v + (l.map g).sum := by
  induction l generalizing v with
  | nil => simp
  | cons a l ih => rw [List.foldl_cons, ih, List.map_cons, List.sum_cons, add_assoc]

/-- A window along the middle axis, as an index of that axis. -/
def along (N : ℕ) : (⟨3, ![1, N, 1]⟩ : Shape).Idx ≃ Fin N where
  toFun w := w 1
  invFun n := ix3 0 n 0
  left_inv w := funext fun a => by
    match a with
    | ⟨0, _⟩ => exact Subsingleton.elim (α := Fin 1) _ _
    | ⟨1, _⟩ => rfl
    | ⟨2, _⟩ => exact Subsingleton.elim (α := Fin 1) _ _
  right_inv _ := rfl

/-- A window sum along the middle axis, the window of its whole length and padded low. -/
theorem window_sum {A N C N1 : ℕ} (L : FVec Ideal ⟨3, ![A, N, C]⟩ .f32) (init : FVec Ideal ⟨0, ![]⟩ .f32)
    (hw : (⟨3, ![A, N, C]⟩ : Shape).ReduceWindows (![1, N, 1] : Fin 3 → ℕ) ![1, 1, 1] ![0, N1, 0] ![0, 0, 0] ⟨3, ![A, N, C]⟩)
    (hu : 0 < (⟨0, ![]⟩ : Shape).numel) (h0 : init (Shape.Idx.first hu) = 0) (a : Fin A) (s : Fin N) (k : Fin C) :
    Host.reduceWindowAdd ![1, N, 1] ![1, 1, 1] ![0, N1, 0] ![0, 0, 0] L init hw hu (ix3 a s k)
      = ∑ n : Fin N, if h : N1 ≤ s.val + n.val ∧ s.val + n.val - N1 < N then L (ix3 a ⟨s.val + n.val - N1, h.2⟩ k) else (0 : EReal) := by
  show Host.reduceWindow (· + ·) ![1, N, 1] ![1, 1, 1] ![0, N1, 0] ![0, 0, 0] L (fun _ : (⟨0, ![]⟩ : Shape).Idx => init (Shape.Idx.first hu)) hw hu (ix3 a s k) = _
  unfold Host.reduceWindow
  rw [h0]
  refine (foldl_add _ _ _).trans ?_
  rw [zero_add, ← Fin.sum_univ_def]
  refine Fintype.sum_equiv ((⟨3, ![1, N, 1]⟩ : Shape).rowMajor.symm.trans (along N)) _ _ fun n => ?_
  let w : (⟨3, ![1, N, 1]⟩ : Shape).Idx := (⟨3, ![1, N, 1]⟩ : Shape).rowMajor.symm n
  have e : ((⟨3, ![1, N, 1]⟩ : Shape).rowMajor.symm.trans (along N)) n = w 1 := rfl
  rw [e]
  have w0 : (w 0).val = 0 := Nat.lt_one_iff.1 (w 0).isLt
  have w2 : (w 2).val = 0 := Nat.lt_one_iff.1 (w 2).isLt
  by_cases h : N1 ≤ s.val + (w 1).val ∧ s.val + (w 1).val - N1 < N
  · have hin : ∀ x : Fin 3, (![0, N1, 0] : Fin 3 → ℕ) x ≤ (ix3 a s k x).val * (![1, 1, 1] : Fin 3 → ℕ) x + (w x).val
        ∧ (ix3 a s k x).val * (![1, 1, 1] : Fin 3 → ℕ) x + (w x).val - (![0, N1, 0] : Fin 3 → ℕ) x < (⟨3, ![A, N, C]⟩ : Shape).size x := by
      intro x
      match x with
      | ⟨0, _⟩ => exact ⟨Nat.zero_le _, by show a.val * 1 + (w 0).val - 0 < A; have := a.isLt; omega⟩
      | ⟨1, _⟩ => exact ⟨by show N1 ≤ s.val * 1 + (w 1).val; omega, by show s.val * 1 + (w 1).val - N1 < N; omega⟩
      | ⟨2, _⟩ => exact ⟨Nat.zero_le _, by show k.val * 1 + (w 2).val - 0 < C; have := k.isLt; omega⟩
    rw [dif_pos h]
    refine (dif_pos hin).trans (congrArg L (funext fun x => Fin.ext ?_))
    match x with
    | ⟨0, _⟩ => show a.val * 1 + (w 0).val - 0 = a.val; omega
    | ⟨1, _⟩ => show s.val * 1 + (w 1).val - N1 = s.val + (w 1).val - N1; omega
    | ⟨2, _⟩ => show k.val * 1 + (w 2).val - 0 = k.val; omega
  · rw [dif_neg h]
    refine dif_neg fun hin => h ?_
    have h1 : N1 ≤ s.val * 1 + (w 1).val ∧ s.val * 1 + (w 1).val - N1 < N := hin 1
    rwa [Nat.mul_one] at h1

theorem sum_up (f : ℕ → EReal) (N s : ℕ) (hs : s < N) :
    (∑ n ∈ Finset.range N, if N - 1 ≤ s + n then f (s + n - (N - 1)) else 0) = ∑ i ∈ Finset.range (s + 1), f i := by
  rw [Finset.range_eq_Ico, ← Finset.sum_Ico_consecutive _ (Nat.zero_le (N - 1 - s)) (by omega : N - 1 - s ≤ N),
    Finset.sum_eq_zero (fun n hn => if_neg (by have := Finset.mem_Ico.mp hn; omega)), zero_add, Finset.sum_Ico_eq_sum_range,
    show N - (N - 1 - s) = s + 1 by omega]
  refine Finset.sum_congr rfl fun i hi => ?_
  have := Finset.mem_range.mp hi
  rw [if_pos (by omega)]
  congr 1
  omega

/-! ## Read at an index -/

section
variable (R : FVec Ideal S2x8192x1536 .f32)

theorem cols_at (b : Fin 2) (t : Fin 8192) (k : Fin 256) : cols R (ix3 b t k) = R (ix3 b t ⟨512 + k.val, by omega⟩) := by
  pointwise [cols]

theorem rows_at (b : Fin 2) (s : Fin 8207) (k : Fin 256) : rows (cols R) (ix3 b s k) = column R b k s.val := by
  pointwise [rows]
  unfold column
  by_cases h : s.val < 15
  · rw [dif_pos h, dif_neg (by omega)]
  · rw [dif_neg h, dif_pos (by omega)]
    exact cols_at R _ _ _

theorem sums_at (b : Fin 2) (s : Fin 8207) (k : Fin 256) : sums (rows (cols R)) (ix3 b s k) = ∑ i ∈ Finset.range (s.val + 1), column R b k i := by
  unfold sums
  refine (window_sum (rows (cols R)) _ _ _ (by pointwise []) b s k).trans ?_
  rw [← sum_up (column R b k) 8207 s.val s.isLt, Finset.sum_range]
  refine Finset.sum_congr rfl fun n _ => ?_
  by_cases h : 8206 ≤ s.val + n.val
  · rw [dif_pos ⟨h, by omega⟩, if_pos (by omega)]
    exact rows_at R _ _ _
  · rw [dif_neg fun hh => h hh.1, if_neg (by omega)]

theorem before_at (b : Fin 2) (s : Fin 8208) (k : Fin 256) : before (rows (cols R)) (ix3 b s k) = ∑ i ∈ Finset.range s.val, column R b k i := by
  pointwise [before]
  by_cases h : s.val < 1
  · rw [dif_pos h, show s.val = 0 by omega, Finset.range_zero, Finset.sum_empty]
  · rw [dif_neg h, sums_at]
    refine congrArg (fun n => ∑ i ∈ Finset.range n, column R b k i) ?_
    show s.val - 1 + 1 = s.val
    omega

variable (hR : ∀ (b : Fin 2) (t : Fin 8192) (k : Fin 256), R (ix3 b t ⟨512 + k.val, by omega⟩) = ((R (ix3 b t ⟨512 + k.val, by omega⟩)).toReal : EReal))
include hR

theorem column_real (b : Fin 2) (k : Fin 256) (s : ℕ) : column R b k s = ((column R b k s).toReal : EReal) := by
  unfold column
  split
  · exact hR _ _ _
  · simp

theorem diff_at (b : Fin 2) (t : Fin 8192) (k k' : Fin 256) (w : ℕ) (hw : 0 < w) (i j : Fin 8208) (hi : i.val = 16 + t.val) (hj : j.val + w = 16 + t.val) (hk : k'.val = k.val) :
    before (rows (cols R)) (ix3 b i k') - before (rows (cols R)) (ix3 b j k') = window (column R b k) w (15 + t.val) := by
  rw [show k' = k from Fin.ext hk, before_at, before_at, hi, ← hj, window_eq _ (column_real R hR b k) _ _ hw]
  congr 1
  omega

omit hR in
theorem count_at (w : BitVec 32) (b : Fin 2) (t : Fin 8192) (x : Fin 64) : count w (ix3 b t x) = Epi.count t.val w := by
  pointwise [count]
  rfl

theorem mean0_at (b : Fin 2) (t : Fin 8192) (x : Fin 64) (k : Fin 256) (hk : x.val = k.val) :
    mean0 (before (rows (cols R))) (ix3 b t x) = Ideal.div (window (column R b k) 2 (15 + t.val)) (Epi.count t.val 2#32) := by
  pointwise [mean0, upto]
  rw [count_at]
  exact congrArg (fun z => Ideal.div z _) (diff_at R hR b t k _ 2 (by decide) _ _ rfl (by show 14 + t.val + 2 = _; omega) hk)

theorem mean1_at (b : Fin 2) (t : Fin 8192) (x : Fin 64) (k : Fin 256) (hk : 64 + x.val = k.val) :
    mean1 (before (rows (cols R))) (ix3 b t x) = Ideal.div (window (column R b k) 4 (15 + t.val)) (Epi.count t.val 4#32) := by
  pointwise [mean1, upto]
  rw [count_at]
  exact congrArg (fun z => Ideal.div z _) (diff_at R hR b t k _ 4 (by decide) _ _ rfl (by show 12 + t.val + 4 = _; omega) hk)

theorem mean2_at (b : Fin 2) (t : Fin 8192) (x : Fin 64) (k : Fin 256) (hk : 128 + x.val = k.val) :
    mean2 (before (rows (cols R))) (ix3 b t x) = Ideal.div (window (column R b k) 8 (15 + t.val)) (Epi.count t.val 8#32) := by
  pointwise [mean2, upto]
  rw [count_at]
  exact congrArg (fun z => Ideal.div z _) (diff_at R hR b t k _ 8 (by decide) _ _ rfl (by show 8 + t.val + 8 = _; omega) hk)

theorem mean3_at (b : Fin 2) (t : Fin 8192) (x : Fin 64) (k : Fin 256) (hk : 192 + x.val = k.val) :
    mean3 (before (rows (cols R))) (ix3 b t x) = Ideal.div (window (column R b k) 16 (15 + t.val)) (Epi.count t.val 16#32) := by
  pointwise [mean3, upto]
  rw [count_at]
  exact congrArg (fun z => Ideal.div z _) (diff_at R hR b t k _ 16 (by decide) _ _ rfl (by show t.val + 16 = _; omega) hk)

theorem pooled_at (b : Fin 2) (t : Fin 8192) (k : Fin 256) :
    pooled (before (rows (cols R))) (cols R) (ix3 b t k) = Epi.pooled R b t k := by
  have hk := k.isLt
  pointwise [pooled]
  rw [cols_at]
  unfold Epi.pooled
  refine congrArg₂ HSub.hSub ?_ rfl
  by_cases h0 : k.val < 64
  · rw [dif_pos h0, show k.val / 64 = 0 by omega]
    exact mean0_at R hR b t _ k rfl
  rw [dif_neg h0]
  by_cases h1 : k.val - 64 < 64
  · rw [dif_pos h1, show k.val / 64 = 1 by omega]
    exact mean1_at R hR b t _ k (by show 64 + (k.val - 64) = _; omega)
  rw [dif_neg h1]
  by_cases h2 : k.val - 64 - 64 < 64
  · rw [dif_pos h2, show k.val / 64 = 2 by omega]
    exact mean2_at R hR b t _ k (by show 128 + (k.val - 64 - 64) = _; omega)
  · rw [dif_neg h2, show k.val / 64 = 3 by omega]
    exact mean3_at R hR b t _ k (by show 192 + (k.val - 64 - 64 - 64) = _; omega)

theorem part2_at (W : FVec Ideal S4x64x64 .f32) (S : FVec Ideal S256 .f32) (b : Fin 2) (t : Fin 8192) (k : Fin 256) :
    mulf (mixPool (pooled (before (rows (cols R))) (cols R)) W S) (narrow (gateP R)) (ix3 b t k) = part2 R W S b t k := by
  pointwise [mixPool, narrow, gateP]
  unfold part2
  rw [silu_eq]
  refine congrArg (fun z : EReal => z * S (ix1 k) * silu (R (ix3 b t ⟨768 + k.val, by omega⟩))) (Finset.sum_congr rfl fun x _ => ?_)
  rw [mul_comm, pooled_at R hR]

end

theorem part1_at (R : FVec Ideal S2x8192x1536 .f32) (O : FVec Ideal S2x8192x512 .f32) (b : Fin 2) (t : Fin 8192) (k : Fin 512) :
    mulf O (wide (gateO R)) (ix3 b t k) = part1 O R b t k := by
  pointwise [wide, gateO]
  unfold part1
  rw [silu_eq]

theorem last_max {A B T N : ℕ} (s : FVec Ideal ⟨4, ![A, B, T, N]⟩ .f32) (init : FVec Ideal ⟨0, ![]⟩ .f32)
    (h : (⟨4, ![A, B, T, N]⟩ : Shape).ReducesTo [3] ⟨3, ![A, B, T]⟩) (hu : 0 < (⟨0, ![]⟩ : Shape).numel) (a : Fin A) (b : Fin B) (t : Fin T) :
    Host.reduce (FloatOps.maximumf (F := Ideal) (φ := .f32)) s init h hu (ix3 a b t)
      = (Finset.univ : Finset (Fin N)).fold max (init (Shape.Idx.first hu)) (fun n => s (ix4 a b t n)) := by
  pointwise []

theorem maxes_at (s : FVec Ideal S2x4x8192x256 .f32) (b : Fin 2) (h : Fin 4) (t : Fin 8192) : maxes s (ix3 b h t) = top (fun n => s (ix4 b h t n)) :=
  last_max s _ _ _ b h t

theorem spread_at (x : FVec Ideal S2x4x8192 .f32) (b : Fin 2) (h : Fin 4) (t : Fin 8192) (n : Fin 256) : spread x (ix4 b h t n) = x (ix3 b h t) := by
  pointwise [spread]

theorem tops_gen (x : FVec Ideal S2x4x8192 .f32) (b : Fin 2) (h : Fin 4) (t : Fin 8192) : tops x (ix3 b h t) = max (Ideal.ofBits .f32 0xFF800000#32) (x (ix3 b h t)) := by
  pointwise [tops]

theorem tops_at (s : FVec Ideal S2x4x8192x256 .f32) (b : Fin 2) (h : Fin 4) (t : Fin 8192) : tops (maxes s) (ix3 b h t) = top (fun n => s (ix4 b h t n)) := by
  rw [tops_gen, maxes_at, max_top]

theorem last_sum {A B T N : ℕ} (s : FVec Ideal ⟨4, ![A, B, T, N]⟩ .f32) (init : FVec Ideal ⟨0, ![]⟩ .f32)
    (h : (⟨4, ![A, B, T, N]⟩ : Shape).ReducesTo [3] ⟨3, ![A, B, T]⟩) (hu : 0 < (⟨0, ![]⟩ : Shape).numel) (a : Fin A) (b : Fin B) (t : Fin T) :
    Host.reduceAdd s init h hu (ix3 a b t) = init (Shape.Idx.first hu) + ∑ n : Fin N, s (ix4 a b t n) := by
  pointwise []

theorem totals_at (e : FVec Ideal S2x4x8192x256 .f32) (b : Fin 2) (h : Fin 4) (t : Fin 8192) : totals e (ix3 b h t) = ∑ n, e (ix4 b h t n) := by
  refine (last_sum e _ _ _ b h t).trans ?_
  pointwise []

theorem exps_at (s : FVec Ideal S2x4x8192x256 .f32) (b : Fin 2) (h : Fin 4) (t : Fin 8192) (n : Fin 256) :
    exps s (ix4 b h t n) = Ideal.exp (s (ix4 b h t n) - top (fun n => s (ix4 b h t n))) :=
  congrArg (fun z => Ideal.exp (s (ix4 b h t n) - z)) ((spread_at _ b h t n).trans (tops_at s b h t))

theorem over (e : FVec Ideal S2x4x8192x256 .f32) (x : FVec Ideal S2x4x8192 .f32) (b : Fin 2) (h : Fin 4) (t : Fin 8192) (n : Fin 256) :
    Host.divf e (spread x) (ix4 b h t n) = Ideal.div (e (ix4 b h t n)) (x (ix3 b h t)) := by
  pointwise [spread]

theorem soft_at (s : FVec Ideal S2x4x8192x256 .f32) (b : Fin 2) (h : Fin 4) (t : Fin 8192) (n : Fin 256) :
    soft s (ix4 b h t n) = soften (fun n => s (ix4 b h t n)) n := by
  unfold soft soften
  rw [over, totals_at]
  simp only [exps_at]

theorem scores_at (R : FVec Ideal S2x8192x1536 .f32) (K : FVec Ideal S2x256x256 .f32) (b : Fin 2) (h : Fin 4) (t : Fin 8192) (n : Fin 256) :
    scores (queries R) K (ix4 b h t n) = score R K b t h n := by
  pointwise [scores, queries]
  exact div_eight _

theorem part3_at (R : FVec Ideal S2x8192x1536 .f32) (K V : FVec Ideal S2x256x256 .f32) (b : Fin 2) (t : Fin 8192) (k : Fin 256) :
    mulf (attend (soft (scores (queries R) K)) V) (narrow (gateX R)) (ix3 b t k) = part3 R K V b t k := by
  pointwise [attend, narrow, gateX]
  unfold part3
  rw [silu_eq]
  refine congrArg (fun z : EReal => z * silu (R (ix3 b t ⟨1280 + k.val, by omega⟩))) (Finset.sum_congr rfl fun x _ => ?_)
  rw [mul_comm, soft_at]
  simp only [scores_at]

theorem total_at (X : FVec Ideal S2x8192x1024 .f32) (a : FVec Ideal S2x8192x512 .f32) (p q : FVec Ideal S2x8192x256 .f32) (W : FVec Ideal S1024x1024 .f32)
    (b : Fin 2) (t : Fin 8192) (n : Fin 1024) : total X a p q W (ix3 b t n)
      = Epi.total (X (ix3 b t n)) (fun k => a (ix3 b t k)) (fun k => p (ix3 b t k)) (fun k => q (ix3 b t k)) (fun k => W (ix2 k n)) := by
  pointwise [total]
  unfold Epi.total
  rw [sum_1024]
  refine congrArg (fun z : EReal => X (ix3 b t n) + z) (congrArg₂ (· + ·) (congrArg₂ (· + ·) ?_ ?_) ?_)
  · exact Finset.sum_congr rfl fun k _ => congrArg (fun z : EReal => z * _) (dif_pos k.isLt)
  · refine Finset.sum_congr rfl fun k _ => congrArg (fun z : EReal => z * _) ((dif_neg (by show ¬ 512 + k.val < 512; omega)).trans ((dif_pos (by show 512 + k.val - 512 < 256; omega)).trans ?_))
    exact congr3 (fun i j d => p (ix3 i j d)) rfl rfl (by show 512 + k.val - 512 = k.val; omega)
  · refine Finset.sum_congr rfl fun k _ => congrArg (fun z : EReal => z * _) ((dif_neg (by show ¬ 768 + k.val < 512; omega)).trans ((dif_neg (by show ¬ 768 + k.val - 512 < 256; omega)).trans ?_))
    exact congr3 (fun i j d => q (ix3 i j d)) rfl rfl (by show 768 + k.val - 512 - 256 = k.val; omega)

theorem norm_at (y : FVec Ideal S2x8192x1024 .f32) (G : FVec Ideal S1024 .f32) (b : Fin 2) (t : Fin 8192) (n : Fin 1024) :
    norm y G (ix3 b t n) = normed (fun d => y (ix3 b t d)) (fun d => G (ix1 d)) n := by
  pointwise [norm]
  rfl

theorem res_at (hR : ∀ (b : Fin 2) (t : Fin 8192) (k : Fin 256), (m ((c.tc : Thread nD τ).loc main_arg2) : S2x8192x1536.Idx → EReal) (ix3 b t ⟨512 + k.val, by omega⟩)
      = (((m ((c.tc : Thread nD τ).loc main_arg2) : S2x8192x1536.Idx → EReal) (ix3 b t ⟨512 + k.val, by omega⟩)).toReal : EReal))
    (b : Fin 2) (t : Fin 8192) (n : Fin 1024) :
    (Value.res_main_v108 (F := Ideal) m c : S2x8192x1024.Idx → EReal) (ix3 b t n)
      = result (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) b t n := by
  refine (congrFun (res_eq m c) _).trans ((norm_at _ _ b t n).trans ?_)
  unfold result
  refine congrArg (fun x => normed x _ n) (funext fun d => (total_at _ _ _ _ _ b t d).trans ?_)
  rw [funext fun k => part1_at _ _ b t k, funext fun k => part2_at _ hR _ _ b t k, funext fun k => part3_at _ _ _ b t k]

end Cert.Proof.L.Epi.Ref

end
-- ==== Proof.L.Epi.lean ====
/-
  The prompt's last rows: the value claim, where the pooled columns are finite.
-/
module

public import proofs.«01_k».proof.Proof.V.Value
public import proofs.«01_k».proof.Proof.L.EpiKer
public import proofs.«01_k».proof.Proof.L.EpiRef

@[expose] public section

noncomputable section

namespace Cert.Proof.L.Epi

open Idealize.ShloMosaic Idealize.SL.Sem

theorem pre_facts : Cert.Pre_finite_u.Facts := ⟨by decide, by decide⟩

/-- Where the flag is up everywhere, the pooled columns are real. -/
theorem real_of_pre [Cert.Pre_finite_u.Facts] (X : FVec Ideal Cert.Pre_finite_u.S2x8192x1024 .f32) (O : FVec Ideal Cert.Pre_finite_u.S2x8192x512 .f32)
    (R : FVec Ideal Cert.Pre_finite_u.S2x8192x1536 .f32) (K V : FVec Ideal Cert.Pre_finite_u.S2x256x256 .f32) (W : FVec Ideal Cert.Pre_finite_u.S4x64x64 .f32)
    (S : FVec Ideal Cert.Pre_finite_u.S256 .f32) (P : FVec Ideal Cert.Pre_finite_u.S1024x1024 .f32) (G : FVec Ideal Cert.Pre_finite_u.S1024 .f32)
    (h : Cert.Pre_finite_u.fn (F := Ideal) X O R K V W S P G = fun _ => 1#1) (b : Fin 2) (t : Fin 8192) (k : Fin 256) :
    R (ix3 b t ⟨512 + k.val, by omega⟩) = ((R (ix3 b t ⟨512 + k.val, by omega⟩)).toReal : EReal) := by
  have e := congrFun h (ix3 b t k)
  pointwise [Cert.Pre_finite_u.fn] at e
  exact Cert.Proof.V.real_of_abs _ _ (Cert.Proof.V.lt_of_flag _ _ e)

theorem algebraic [hK : Cert.Kernel5Ideal.Facts] [hR : Cert.Reference5Ideal.Facts] [hPre : Cert.Pre_finite_u.Facts] :
    Cert.algebraic_Kernel5Ideal_Reference5Ideal_pre_finite_u := by
  intro m g m' g' hpre hagree
  refine ⟨_, Cert.Kernel5Ideal.Value.run_blocks m g, ?_⟩
  refine (θ_run Cert.Reference5Ideal.defs _ _).mono (fun _ h c => ⟨(h c).1.trans ?_, (h c).2⟩) (Cert.Reference5Ideal.Value.run (F := Ideal) m' g')
  obtain ⟨e0, e1, e2, e3, e4, e5, e6, e7, e8⟩ := hagree c
  refine Eq.trans (funext fun y => ?_) (Ker.final m c).symm
  refine (congrArg _ (ValueIdx.eq_ix3 y)).trans ((Ref.res_at m' c (fun b t k => ?_) (y 0) (y 1) (y 2)).trans ?_)
  · rw [e2]
    exact real_of_pre _ _ _ _ _ _ _ _ _ (hpre c) b t k
  · rw [e0, e1, e2, e3, e4, e5, e6, e7, e8]
    rfl

end Cert.Proof.L.Epi

end
-- ==== Proof.L.TailSpec.lean ====
/-
  The end of the layer for the sample group: its rows, behind the pooling history that it is given.
-/
module

public import proofs.«01_k».proof.Proof.L.EpiSpec

@[expose] public section

noncomputable section

namespace Cert.Proof.L.Tail

open Idealize.ShloMosaic
open Cert.Proof.L.Epi

/-- How many rows the window at `t` holds, the first row being the 4096th of its stream. -/
def count (t : ℕ) (w : BitVec 32) : EReal := FloatOps.sitofp (F := Ideal) .f32 (IntOp.minsi (IntOp.addi (IntOp.addi 4096#32 (BitVec.ofNat 32 t)) 1#32) w)

abbrev A16x64x1536 := (⟨3, ![16, 64, 1536]⟩ : Shape).Idx → EReal
abbrev A16x15x256 := (⟨3, ![16, 15, 256]⟩ : Shape).Idx → EReal
abbrev A16x256x256 := (⟨3, ![16, 256, 256]⟩ : Shape).Idx → EReal

/-- A pooled column, row by row behind its history of 15 rows. -/
def column (H : A16x15x256) (R : A16x64x1536) (b : Fin 16) (k : Fin 256) (s : ℕ) : EReal :=
  if h : s < 15 then H (ix3 b ⟨s, h⟩ k) else if h' : s - 15 < 64 then R (ix3 b ⟨s - 15, h'⟩ ⟨512 + k.val, by omega⟩) else 0

/-- The mean over the group's window, less the row itself. -/
def pooled (H : A16x15x256) (R : A16x64x1536) (b : Fin 16) (t : Fin 64) (k : Fin 256) : EReal :=
  Ideal.div (window (column H R b k) (2 ^ (k.val / 64 + 1)) (15 + t.val)) (count t.val (BitVec.ofNat 32 (2 ^ (k.val / 64 + 1))))
    - R (ix3 b t ⟨512 + k.val, by omega⟩)

def score (R : A16x64x1536) (K : A16x256x256) (b : Fin 16) (t : Fin 64) (h : Fin 4) (n : Fin 256) : EReal :=
  (∑ x : Fin 64, R (ix3 b t ⟨1024 + (h.val * 64 + x.val), by omega⟩) * K (ix3 b n ⟨h.val * 64 + x.val, by omega⟩)) * Ideal.ofBits .f32 0x3E000000#32

/-- The attention's columns, gated. -/
def part1 (O : (⟨3, ![16, 64, 512]⟩ : Shape).Idx → EReal) (R : A16x64x1536) (b : Fin 16) (t : Fin 64) (k : Fin 512) : EReal :=
  O (ix3 b t k) * silu (R (ix3 b t ⟨k.val, by omega⟩))

/-- The pooled columns through their group's weights, scaled and gated. -/
def part2 (H : A16x15x256) (R : A16x64x1536) (W : (⟨3, ![4, 64, 64]⟩ : Shape).Idx → EReal) (S : (⟨1, ![256]⟩ : Shape).Idx → EReal) (b : Fin 16) (t : Fin 64) (k : Fin 256) : EReal :=
  (∑ x : Fin 64, pooled H R b t ⟨k.val / 64 * 64 + x.val, by omega⟩ * W (ix3 ⟨k.val / 64, by omega⟩ x ⟨k.val % 64, by omega⟩)) * S (ix1 k)
    * silu (R (ix3 b t ⟨768 + k.val, by omega⟩))

/-- The memory's columns, gated. -/
def part3 (R : A16x64x1536) (K V : A16x256x256) (b : Fin 16) (t : Fin 64) (k : Fin 256) : EReal :=
  (∑ n : Fin 256, soften (score R K b t ⟨k.val / 64, by omega⟩) n * V (ix3 b n k)) * silu (R (ix3 b t ⟨1280 + k.val, by omega⟩))

/-- The layer's last rows. -/
def result (X : (⟨3, ![16, 64, 1024]⟩ : Shape).Idx → EReal) (O : (⟨3, ![16, 64, 512]⟩ : Shape).Idx → EReal) (R : A16x64x1536) (H : A16x15x256) (K V : A16x256x256)
    (W : (⟨3, ![4, 64, 64]⟩ : Shape).Idx → EReal) (S : (⟨1, ![256]⟩ : Shape).Idx → EReal) (P : (⟨2, ![1024, 1024]⟩ : Shape).Idx → EReal)
    (G : (⟨1, ![1024]⟩ : Shape).Idx → EReal) (b : Fin 16) (t : Fin 64) (n : Fin 1024) : EReal :=
  normed (fun d => total (X (ix3 b t d)) (part1 O R b t) (part2 H R W S b t) (part3 R K V b t) (fun k => P (ix2 k d))) (fun d => G (ix1 d)) n

end Cert.Proof.L.Tail

end
-- ==== Proof.L.TailPay.lean ====
/-
  The sample group's last rows: what the payloads of one stream compute, entry by entry.
-/
module

public import proofs.«01_k».proof.Proof.Gen.Kernel6Ideal.Value
public import proofs.«01_k».proof.Proof.L.EpiPay
public import proofs.«01_k».proof.Proof.L.TailSpec

@[expose] public section

noncomputable section

namespace Cert.Proof.L.Tail.Ker

open Idealize.ShloMosaic Idealize.SL.Sem
open Cert.Proof.L.Epi
open Cert.Kernel6Ideal Cert.Kernel6Ideal.Gen

/-! ## The group of a lane -/

abbrev lanes : IVec S64x256 32 := iota .tc S64x256 32 [1] iota_S64x256_d1_w32

theorem group_at (r : Fin 64) (k : Fin 256) : k0_pay13 lanes 64#32 k0_pay11 k0_pay12 (ix2 r k) = BitVec.ofNat 32 (k.val / 64) := by
  pointwise [k0_pay13, k0_pay11, k0_pay12]
  revert k
  decide +kernel

abbrev sign : BitVec 32 := Scalar.subi (Scalar.extui (Scalar.cmpi .sgt 64#32 0#32)) (Scalar.extui (Scalar.cmpi .slt 64#32 0#32))

theorem head_at (r : Fin 64) (k : Fin 256) : k0_pay25 lanes 64#32 k0_pay23 k0_pay24 sign (ix2 r k) = BitVec.ofNat 32 (k.val / 64) := by
  pointwise [k0_pay25, k0_pay23, k0_pay24]
  revert k
  decide +kernel

/-! ## The window sums -/

section Windows

variable (i : grid0.Coords) (u : Vec Ideal S1x64x256 .f32) (p h : Vec Ideal S1x16x256 .f32)

/-- The stream's rows behind the sixteen before it. -/
def rows (r : Fin 80) (k : Fin 256) : EReal :=
  if h' : r.val < 16 then p (ix3 0 ⟨r.val, h'⟩ k)
  else u (ix3 0 ⟨r.val - 16, by omega⟩ k)

theorem pay7_at (r : Fin 80) (k : Fin 256) : k0_pay7 i u p h (ix2 r k) = rows u p r k + rows u p ⟨(r.val + 80 - 1) % 80, Nat.mod_lt _ (by decide)⟩ k := by
  pointwise [k0_pay7, k0_pay3]
  rfl
theorem pay8_at (r : Fin 80) (k : Fin 256) : k0_pay8 i u p h (ix2 r k) = k0_pay7 i u p h (ix2 r k) + k0_pay7 i u p h (ix2 ⟨(r.val + 80 - 2) % 80, Nat.mod_lt _ (by decide)⟩ k) := by
  pointwise [k0_pay8]
theorem pay9_at (r : Fin 80) (k : Fin 256) : k0_pay9 i u p h (ix2 r k) = k0_pay8 i u p h (ix2 r k) + k0_pay8 i u p h (ix2 ⟨(r.val + 80 - 4) % 80, Nat.mod_lt _ (by decide)⟩ k) := by
  pointwise [k0_pay9]
theorem pay10_at (r : Fin 80) (k : Fin 256) : k0_pay10 i u p h (ix2 r k) = k0_pay9 i u p h (ix2 r k) + k0_pay9 i u p h (ix2 ⟨(r.val + 80 - 8) % 80, Nat.mod_lt _ (by decide)⟩ k) := by
  pointwise [k0_pay10]

variable (X : ℕ → EReal) (k : Fin 256) (hX : ∀ r : Fin 80, rows u p r k = X r.val)
include hX

theorem sum2 (r : Fin 80) (hr : 1 ≤ r.val) : k0_pay7 i u p h (ix2 r k) = window X 2 r.val := by
  rw [pay7_at, hX, hX, Epi.Ker.window_two]
  exact congrArg (fun n => X r.val + X n) (by show (r.val + 80 - 1) % 80 = _; omega)
theorem sum4 (r : Fin 80) (hr : 3 ≤ r.val) : k0_pay8 i u p h (ix2 r k) = window X 4 r.val := by
  have e : (r.val + 80 - 2) % 80 = r.val - 2 := by omega
  rw [pay8_at, sum2 i u p h X k hX r (by omega), sum2 i u p h X k hX _ (by show 1 ≤ (r.val + 80 - 2) % 80; omega), Epi.Ker.window_twice X 2 r.val]
  exact congrArg (fun n => window X 2 r.val + window X 2 n) e
theorem sum8 (r : Fin 80) (hr : 7 ≤ r.val) : k0_pay9 i u p h (ix2 r k) = window X 8 r.val := by
  have e : (r.val + 80 - 4) % 80 = r.val - 4 := by omega
  rw [pay9_at, sum4 i u p h X k hX r (by omega), sum4 i u p h X k hX _ (by show 3 ≤ (r.val + 80 - 4) % 80; omega), Epi.Ker.window_twice X 4 r.val]
  exact congrArg (fun n => window X 4 r.val + window X 4 n) e
theorem sum16 (r : Fin 80) (hr : 15 ≤ r.val) : k0_pay10 i u p h (ix2 r k) = window X 16 r.val := by
  have e : (r.val + 80 - 8) % 80 = r.val - 8 := by omega
  rw [pay10_at, sum8 i u p h X k hX r (by omega), sum8 i u p h X k hX _ (by show 7 ≤ (r.val + 80 - 8) % 80; omega), Epi.Ker.window_twice X 8 r.val]
  exact congrArg (fun n => window X 8 r.val + window X 8 n) e

end Windows

/-! ## The pooled columns -/

theorem pay18_at (a b c : FVec Ideal S80x256 .f32) (r : Fin 64) (k : Fin 256) : k0_pay18 a b c lanes 64#32 k0_pay11 k0_pay12 (ix2 r k)
    = if k.val / 64 = 2 then c (ix2 ⟨16 + r.val, by omega⟩ k) else if k.val / 64 = 1 then b (ix2 ⟨16 + r.val, by omega⟩ k)
      else if k.val / 64 = 0 then a (ix2 ⟨16 + r.val, by omega⟩ k) else 0 := by
  have hk : k.val / 64 < 4 := by omega
  pointwise [k0_pay18, k0_pay15, k0_pay16, k0_pay17]
  rw [group_at, Epi.Ker.choose _ 2 hk (by decide), Epi.Ker.choose _ 1 hk (by decide), Epi.Ker.choose _ 0 hk (by decide)]

theorem pay19_at (r : Fin 64) (k : Fin 256) : k0_pay19 lanes 64#32 k0_pay11 k0_pay12 (ix2 r k)
    = if k.val / 64 = 2 then 8#32 else if k.val / 64 = 1 then 4#32 else if k.val / 64 = 0 then 2#32 else 0#32 := by
  have hk : k.val / 64 < 4 := by omega
  pointwise [k0_pay19, k0_pay15, k0_pay16, k0_pay17]
  rw [group_at, Epi.Ker.choose _ 2 hk (by decide), Epi.Ker.choose _ 1 hk (by decide), Epi.Ker.choose _ 0 hk (by decide)]

theorem place (i r : ℕ) : IntOp.addi (Scalar.addi 4096#32 (Scalar.muli (BitVec.ofNat 32 i) 64#32)) (BitVec.ofNat 32 r) = IntOp.addi 4096#32 (BitVec.ofNat 32 (i * 64 + r)) := by
  show 4096#32 + BitVec.ofNat 32 i * BitVec.ofNat 32 64 + BitVec.ofNat 32 r = 4096#32 + BitVec.ofNat 32 (i * 64 + r)
  rw [BitVec.ofNat_add, BitVec.ofNat_mul]
  exact BitVec.add_assoc _ _ _

theorem pay14_at (i : ℕ) (r : Fin 64) (k : Fin 256) : k0_pay14 (BitVec.ofNat 32 i) (ix2 r k) = IntOp.addi 4096#32 (BitVec.ofNat 32 (i * 64 + r.val)) := by
  pointwise [k0_pay14]
  exact place i r.val

theorem pay20_at (u : FVec Ideal S64x256 .f32) (s : FVec Ideal S80x256 .f32) (pl : IVec S64x256 32) (w : FVec Ideal S64x256 .f32) (ww : IVec S64x256 32)
    (bd : Vec Ideal S256x256 .bf16) (sc : Vec Ideal S1x256 .f32) (r : Fin 64) (k : Fin 256) :
    k0_pay20 u s (k0_pay13 lanes 64#32 k0_pay11 k0_pay12) pl w ww bd sc (ix2 r k)
      = (∑ x : Fin 256, (Ideal.div (if x.val / 64 = 3 then s (ix2 ⟨16 + r.val, by omega⟩ x) else w (ix2 r x))
          (FloatOps.sitofp (F := Ideal) .f32 (IntOp.minsi (IntOp.addi (pl (ix2 r x)) 1#32) (if x.val / 64 = 3 then 16#32 else ww (ix2 r x))))
          - u (ix2 r x)) * bd (ix2 x k)) * sc (ix2 0 k) := by
  pointwise [k0_pay20]
  refine congrArg (· * _) (Finset.sum_congr rfl fun x _ => ?_)
  have hk : x.val / 64 < 4 := by omega
  rw [group_at, Epi.Ker.choose _ 3 hk (by decide), Epi.Ker.choose _ 3 hk (by decide)]

/-- The pooled columns, at a row whose windows are known. -/
theorem pooled_at (i : grid0.Coords) (u : Vec Ideal S1x64x256 .f32) (p h : Vec Ideal S1x16x256 .f32) (bd : Vec Ideal S256x256 .bf16) (sc : Vec Ideal S1x256 .f32)
    (X : Fin 256 → ℕ → EReal) (hX : ∀ (k : Fin 256) (r : Fin 80), rows u p r k = X k r.val) (r : Fin 64) (k : Fin 256) :
    k0_pay20 (k0_pay3 u) (k0_pay10 i u p h) (k0_pay13 lanes 64#32 k0_pay11 k0_pay12) (k0_pay14 (BitVec.ofNat 32 (i 1).val))
      (k0_pay18 (k0_pay7 i u p h) (k0_pay8 i u p h) (k0_pay9 i u p h) lanes 64#32 k0_pay11 k0_pay12) (k0_pay19 lanes 64#32 k0_pay11 k0_pay12) bd sc (ix2 r k)
      = (∑ x : Fin 256, (Ideal.div (window (X x) (2 ^ (x.val / 64 + 1)) (16 + r.val)) (Tail.count ((i 1).val * 64 + r.val) (BitVec.ofNat 32 (2 ^ (x.val / 64 + 1))))
          - u (ix3 0 r x)) * bd (ix2 x k)) * sc (ix2 0 k) := by
  rw [pay20_at]
  refine congrArg (· * _) (Finset.sum_congr rfl fun x _ => congrArg (· * bd (ix2 x k)) (congrArg₂ HSub.hSub ?_ ?_))
  · have hk : x.val / 64 < 4 := by omega
    rw [pay14_at, pay18_at, pay19_at, sum16 i u p h (X x) x (hX x) _ (by show 15 ≤ 16 + r.val; omega), sum8 i u p h (X x) x (hX x) _ (by show 7 ≤ 16 + r.val; omega),
      sum4 i u p h (X x) x (hX x) _ (by show 3 ≤ 16 + r.val; omega), sum2 i u p h (X x) x (hX x) _ (by show 1 ≤ 16 + r.val; omega)]
    generalize x.val / 64 = g at hk
    unfold Tail.count
    interval_cases g <;> rfl
  · pointwise [k0_pay3]

/-! ## The memory -/

section Memory

variable (q : FVec Ideal S64x256 .f32)

/-- The four groups' queries, one below the other. -/
def stack (r : Fin 256) (x : Fin 256) : EReal :=
  if h : r.val < 64 then Scalar.select (IntOp.cmpi .eq (k0_pay25 lanes 64#32 k0_pay23 k0_pay24 sign (ix2 ⟨r.val, h⟩ x)) 0#32) (q (ix2 ⟨r.val, h⟩ x) * Ideal.ofBits .f32 0x3E000000#32) 0
  else if h1 : r.val - 64 < 64 then Scalar.select (IntOp.cmpi .eq (k0_pay25 lanes 64#32 k0_pay23 k0_pay24 sign (ix2 ⟨r.val - 64, h1⟩ x)) 1#32) (q (ix2 ⟨r.val - 64, h1⟩ x) * Ideal.ofBits .f32 0x3E000000#32) 0
  else if h2 : r.val - 64 - 64 < 64 then Scalar.select (IntOp.cmpi .eq (k0_pay25 lanes 64#32 k0_pay23 k0_pay24 sign (ix2 ⟨r.val - 64 - 64, h2⟩ x)) 2#32) (q (ix2 ⟨r.val - 64 - 64, h2⟩ x) * Ideal.ofBits .f32 0x3E000000#32) 0
  else Scalar.select (IntOp.cmpi .eq (k0_pay25 lanes 64#32 k0_pay23 k0_pay24 sign (ix2 ⟨r.val - 64 - 64 - 64, by omega⟩ x)) 3#32) (q (ix2 ⟨r.val - 64 - 64 - 64, by omega⟩ x) * Ideal.ofBits .f32 0x3E000000#32) 0

theorem pay26_at (K V : FVec Ideal S256x256 .bf16) (r : Fin 256) (k : Fin 256) : k0_pay26 q K V lanes 64#32 k0_pay23 k0_pay24 sign (ix2 r k)
    = ∑ n, soften (fun n => ∑ x, stack q r x * K (ix2 n x)) n * V (ix2 n k) := by
  unfold soften top stack
  pointwise [k0_pay26]

theorem choose_row (r' r : Fin 64) (e : r'.val = r.val) (x : Fin 256) (c : ℕ) (hc : c < 4) :
    Scalar.select (IntOp.cmpi .eq (k0_pay25 lanes 64#32 k0_pay23 k0_pay24 sign (ix2 r' x)) (BitVec.ofNat 32 c)) (q (ix2 r' x) * Ideal.ofBits .f32 0x3E000000#32) (0 : EReal)
      = if x.val / 64 = c then q (ix2 r x) * Ideal.ofBits .f32 0x3E000000#32 else 0 := by
  rw [head_at, Epi.Ker.choose _ c (by omega) hc, Fin.ext e]

theorem stack_at (g : Fin 4) (r : Fin 64) (x : Fin 256) (h : g.val * 64 + r.val < 256) : stack q ⟨g.val * 64 + r.val, h⟩ x
    = if x.val / 64 = g.val then q (ix2 r x) * Ideal.ofBits .f32 0x3E000000#32 else 0 := by
  unfold stack
  have hr := r.isLt
  rcases g with ⟨g, hg⟩
  interval_cases g
  · exact (dif_pos (by show 0 * 64 + r.val < 64; omega)).trans (choose_row q _ r (by show 0 * 64 + r.val = _; omega) x 0 (by decide))
  · exact (dif_neg (by show ¬ 1 * 64 + r.val < 64; omega)).trans ((dif_pos (by show 1 * 64 + r.val - 64 < 64; omega)).trans
      (choose_row q _ r (by show 1 * 64 + r.val - 64 = _; omega) x 1 (by decide)))
  · exact (dif_neg (by show ¬ 2 * 64 + r.val < 64; omega)).trans ((dif_neg (by show ¬ 2 * 64 + r.val - 64 < 64; omega)).trans
      ((dif_pos (by show 2 * 64 + r.val - 64 - 64 < 64; omega)).trans (choose_row q _ r (by show 2 * 64 + r.val - 64 - 64 = _; omega) x 2 (by decide))))
  · exact (dif_neg (by show ¬ 3 * 64 + r.val < 64; omega)).trans ((dif_neg (by show ¬ 3 * 64 + r.val - 64 < 64; omega)).trans
      ((dif_neg (by show ¬ 3 * 64 + r.val - 64 - 64 < 64; omega)).trans (choose_row q _ r (by show 3 * 64 + r.val - 64 - 64 - 64 = _; omega) x 3 (by decide))))

/-- A group's scores: the lanes outside the group add nothing. -/
theorem scores_at (K : FVec Ideal S256x256 .bf16) (g : Fin 4) (r : Fin 64) (n : Fin 256) (h : g.val * 64 + r.val < 256) :
    ∑ x, stack q ⟨g.val * 64 + r.val, h⟩ x * K (ix2 n x)
      = (∑ x : Fin 64, q (ix2 r ⟨g.val * 64 + x.val, by omega⟩) * K (ix2 n ⟨g.val * 64 + x.val, by omega⟩)) * Ideal.ofBits .f32 0x3E000000#32 := by
  refine (sum_group _ g fun k hk => ?_).trans ((Finset.sum_congr rfl fun x _ => ?_).trans (sum_eighth _))
  · rw [stack_at, if_neg hk, zero_mul]
  · rw [stack_at, if_pos (by show (g.val * 64 + x.val) / 64 = g.val; omega), mul_right_comm]

end Memory

theorem pay29_at (g : FVec Ideal S64x256 .f32) (o : FVec Ideal S256x256 .f32) (r : Fin 64) (k : Fin 256) :
    k0_pay29 g (k0_pay25 lanes 64#32 k0_pay23 k0_pay24 sign) o (ix2 r k) = o (ix2 ⟨k.val / 64 * 64 + r.val, by omega⟩ k) * silu (g (ix2 r k)) := by
  have hk : k.val / 64 < 4 := by omega
  have hr := r.isLt
  pointwise [k0_pay29]
  rw [head_at, Epi.Ker.choose _ 3 hk (by decide), Epi.Ker.choose _ 2 hk (by decide), Epi.Ker.choose _ 1 hk (by decide), Epi.Ker.choose _ 0 hk (by decide)]
  refine congrArg (· * silu (g (ix2 r k))) ?_
  have key : ∀ (a : ℕ) (ha : a + r.val < 256) (e : a = k.val / 64 * 64), o (ix2 ⟨a + r.val, ha⟩ k) = o (ix2 ⟨k.val / 64 * 64 + r.val, by omega⟩ k) := by
    intro a ha e
    subst e
    rfl
  split_ifs with h3 h2 h1 h0
  · exact key 192 (by omega) (by omega)
  · exact key 128 (by omega) (by omega)
  · exact key 64 (by omega) (by omega)
  · refine congr2 (fun i j => o (ix2 i j)) ?_ rfl
    show r.val = k.val / 64 * 64 + r.val
    omega
  · omega

theorem pay27_at (g : FVec Ideal S64x512 .f32) (a : Vec Ideal S1x64x512 .f32) (r : Fin 64) (k : Fin 512) :
    k0_pay27 g a (ix2 r k) = a (ix3 0 r k) * silu (g (ix2 r k)) := by
  pointwise [k0_pay27]
  rfl

theorem pay28_at (g a : FVec Ideal S64x256 .f32) (r : Fin 64) (k : Fin 256) : k0_pay28 g a (ix2 r k) = a (ix2 r k) * silu (g (ix2 r k)) := by
  pointwise [k0_pay28]
  rfl

end Cert.Proof.L.Tail.Ker

end
-- ==== Proof.L.TailOut.lean ====
/-
  The sample group's last rows: the four streams of a block are one computation, and what it stores is read entry by entry.
-/
module

public import proofs.«01_k».proof.Proof.L.TailPay

@[expose] public section

noncomputable section

namespace Cert.Proof.L.Tail.Ker

open Idealize.ShloMosaic Idealize.SL.Sem
open Cert.Proof.L.Epi
open Cert.Kernel6Ideal Cert.Kernel6Ideal.Gen

/-! ## One stream -/

/-- The attention's columns, gated. -/
def mixA (g o : Vec Ideal S1x64x512 .f32) : FVec Ideal S64x512 .bf16 := k0_pay27 (k0_pay2 g) o

/-- The pooled columns. -/
def poolB (i : grid0.Coords) (u : Vec Ideal S1x64x256 .f32) (p h : Vec Ideal S1x16x256 .f32) (bd : Vec Ideal S256x256 .bf16) (sc : Vec Ideal S1x256 .f32) : FVec Ideal S64x256 .f32 :=
  k0_pay20 (k0_pay3 u) (k0_pay10 i u p h) (k0_pay13 lanes 64#32 k0_pay11 k0_pay12) (k0_pay14 (BitVec.ofNat 32 (i 1).val))
    (k0_pay18 (k0_pay7 i u p h) (k0_pay8 i u p h) (k0_pay9 i u p h) lanes 64#32 k0_pay11 k0_pay12) (k0_pay19 lanes 64#32 k0_pay11 k0_pay12) bd sc

/-- The pooled columns, gated. -/
def mixB (i : grid0.Coords) (u g : Vec Ideal S1x64x256 .f32) (p h : Vec Ideal S1x16x256 .f32) (bd : Vec Ideal S256x256 .bf16) (sc : Vec Ideal S1x256 .f32) : FVec Ideal S64x256 .bf16 :=
  k0_pay28 (k0_pay4 g) (poolB i u p h bd sc)

/-- The memory's columns, gated. -/
def mixC (q g : Vec Ideal S1x64x256 .f32) (K V : Vec Ideal S1x256x256 .f32) : FVec Ideal S64x256 .bf16 :=
  k0_pay29 (k0_pay6 g) (k0_pay25 lanes 64#32 k0_pay23 k0_pay24 sign) (k0_pay26 (k0_pay5 q) (k0_pay21 K) (k0_pay22 V) lanes 64#32 k0_pay23 k0_pay24 sign)

/-! ## The four streams together -/

def front (a : Fin 4 → FVec Ideal S64x512 .bf16) (b : Fin 4 → FVec Ideal S64x256 .bf16) (A : Vec Ideal S512x1024 .bf16) (B : Vec Ideal S256x1024 .bf16) : FVec Ideal S256x1024 .f32 :=
  addf (matmul (φ₂ := .bf16) dot_S256x512_S512x1024_S256x1024_1_0_0_1_n_n none (concatenate S256x512 0 [⟨S64x512, a 0⟩, ⟨S64x512, a 1⟩, ⟨S64x512, a 2⟩, ⟨S64x512, a 3⟩] concatenates_S64x512_S64x512_S64x512_S64x512_S256x512_d0)
      (shapeCast S512x1024 A shapeCasts_S512x1024_S512x1024) (constant S256x1024 .f32 0x00000000#32))
    (matmul (φ₂ := .bf16) dot_S256x256_S256x1024_S256x1024_1_0_0_1_n_n none (concatenate S256x256 0 [⟨S64x256, b 0⟩, ⟨S64x256, b 1⟩, ⟨S64x256, b 2⟩, ⟨S64x256, b 3⟩] concatenates_S64x256_S64x256_S64x256_S64x256_S256x256_d0)
      (shapeCast S256x1024 B shapeCasts_S256x1024_S256x1024) (constant S256x1024 .f32 0x00000000#32))

def back (c : Fin 4 → FVec Ideal S64x256 .bf16) : FVec Ideal S256x256 .bf16 :=
  concatenate S256x256 0 [⟨S64x256, c 0⟩, ⟨S64x256, c 1⟩, ⟨S64x256, c 2⟩, ⟨S64x256, c 3⟩] concatenates_S64x256_S64x256_S64x256_S64x256_S256x256_d0

/-- A stream's rows, behind the residual and the norm. -/
def finish (z : FVec Ideal S64x1024 .f32) (x : Vec Ideal S1x64x1024 .f32) (g : Vec Ideal S1x1024 .f32) : FVec Ideal S1x64x1024 .f32 :=
  k0_pay1 (addf (shapeCast S64x1024 x shapeCasts_S1x64x1024_S64x1024) z) (shapeCast S1x1024 g shapeCasts_S1x1024_S1x1024)
    (shapeCast S64x1 (multiReduction .add [1] S64 (mulf (addf (shapeCast S64x1024 x shapeCasts_S1x64x1024_S64x1024) z) (addf (shapeCast S64x1024 x shapeCasts_S1x64x1024_S64x1024) z))
      0x00000000#32 reduces_S64x1024_S64 (.inl rfl) rfl) shapeCasts_S64_S64x1) (Scalar.ofBits .f32 0x44800000#32)

/-! ## A stream's part of a block -/

theorem inside {n W w : ℕ} (o : ℕ) (h : o + w ≤ W) (s : Fin 4) :
    ∀ a, (![s.val, 0, o] : Fin 3 → ℕ) a + (⟨3, ![1, n, w]⟩ : Shape).size a ≤ (⟨3, ![4, n, W]⟩ : Shape).size a :=
  Fin.forall_fin_succ.mpr ⟨by show s.val + 1 ≤ 4; omega, Fin.forall_fin_two.mpr ⟨by show 0 + n ≤ n; omega, h⟩⟩

abbrev part {n W w : ℕ} (x : Vec Ideal ⟨3, ![4, n, W]⟩ .f32) (o : ℕ) (h : o + w ≤ W) (s : Fin 4) : Vec Ideal ⟨3, ![1, n, w]⟩ .f32 :=
  View.ld x (Rect.unit (s := (⟨3, ![4, n, W]⟩ : Shape)) ![s.val, 0, o] (⟨3, ![1, n, w]⟩ : Shape).size (inside o h s))

theorem part_at {n W w : ℕ} (x : Vec Ideal ⟨3, ![4, n, W]⟩ .f32) (o : ℕ) (h : o + w ≤ W) (s : Fin 4) (r : Fin n) (k : Fin w) :
    part x o h s (ix3 0 r k) = x (ix3 s r ⟨o + k.val, by omega⟩) :=
  View.ld_unit_apply_of _ _ _ _ _ (ix3 s r ⟨o + k.val, by omega⟩ : (⟨3, ![4, n, W]⟩ : Shape).Idx) (Fin.forall_fin_succ.mpr ⟨rfl, Fin.forall_fin_two.mpr ⟨(Nat.zero_add _).symm, rfl⟩⟩)

section Whole

variable (i : grid0.Coords) (x0 : Vec Ideal S4x64x1024 .f32) (x1 : Vec Ideal S4x64x512 .f32) (x2 : Vec Ideal S4x64x1536 .f32) (x3 x4 : Vec Ideal S4x16x256 .f32)
  (x5 x6 : Vec Ideal S4x256x256 .f32) (x7 : Vec Ideal S256x256 .bf16) (x8 : Vec Ideal S1x256 .f32) (x9 : Vec Ideal S1024x1024 .bf16) (x10 : Vec Ideal S1x1024 .f32)

def partA (s : Fin 4) : FVec Ideal S64x512 .bf16 := mixA (part x2 0 (by decide) s) (part x1 0 (by decide) s)

def partB (s : Fin 4) : FVec Ideal S64x256 .bf16 :=
  mixB i (part x2 512 (by decide) s) (part x2 768 (by decide) s) (part x4 0 (by decide) s) (part x3 0 (by decide) s) (View.ld x7 r0_6) (View.ld x8 r0_7)

def partC (s : Fin 4) : FVec Ideal S64x256 .bf16 :=
  mixC (part x2 1024 (by decide) s) (part x2 1280 (by decide) s) (part x5 0 (by decide) s) (part x6 0 (by decide) s)

theorem pay155_eq : k0_pay155 (F := Ideal) i x0 x1 x2 x3 x4 x5 x6 x7 x8 x9 x10 = back (partC x2 x5 x6) := rfl

theorem pay156_eq : k0_pay156 (F := Ideal) i x0 x1 x2 x3 x4 x5 x6 x7 x8 x9 x10 = front (partA x1 x2) (partB i x2 x3 x4 x7 x8) (View.ld x9 r0_34) (View.ld x9 r0_35) := rfl

end Whole

theorem store0 (c : FVec Ideal S256x256 .bf16) (w : FVec Ideal S256x1024 .f32) (A : Vec Ideal S256x1024 .bf16) (x : Vec Ideal S1x64x1024 .f32) (g : Vec Ideal S1x1024 .f32) :
    k0_pay119 c w A x g = finish (extractStridedSlice S64x1024 ![0, 0] (k0_pay118 c w A) slices_S256x1024_o0_0_S64x1024) x g := rfl
theorem store1 (c : FVec Ideal S256x256 .bf16) (w : FVec Ideal S256x1024 .f32) (A : Vec Ideal S256x1024 .bf16) (x : Vec Ideal S1x64x1024 .f32) (g : Vec Ideal S1x1024 .f32) :
    k0_pay123 (k0_pay120 c w A x) (k0_pay121 g) (k0_pay122 c w A x) = finish (extractStridedSlice S64x1024 ![64, 0] (k0_pay118 c w A) slices_S256x1024_o64_0_S64x1024) x g := rfl
theorem store2 (w : FVec Ideal S256x1024 .f32) (x : Vec Ideal S1x64x1024 .f32) (g : Vec Ideal S1x1024 .f32) :
    k0_pay124 w x g = finish (extractStridedSlice S64x1024 ![128, 0] w slices_S256x1024_o128_0_S64x1024) x g := rfl
theorem store3 (w : FVec Ideal S256x1024 .f32) (x : Vec Ideal S1x64x1024 .f32) (g : Vec Ideal S1x1024 .f32) :
    k0_pay1 (k0_pay125 w x) (k0_pay126 g) (k0_pay127 w x) (Scalar.ofBits .f32 0x44800000#32) = finish (extractStridedSlice S64x1024 ![192, 0] w slices_S256x1024_o192_0_S64x1024) x g := rfl

/-! ## Read at an index -/

theorem finish_at (z : FVec Ideal S64x1024 .f32) (x : Vec Ideal S1x64x1024 .f32) (g : Vec Ideal S1x1024 .f32) (r : Fin 64) (n : Fin 1024) :
    finish z x g (ix3 0 r n) = normed (fun d => x (ix3 0 r d) + z (ix2 r d)) (fun d => g (ix2 0 d)) n := by
  pointwise [finish, k0_pay1]
  rfl

theorem four {α : Type} (f : Fin 4 → Fin 64 → α) (s : Fin 4) (r : Fin 64) (R : ℕ) (hR : R = s.val * 64 + r.val) (h3 : R - 64 - 64 - 64 < 64) :
    (if h : R < 64 then f 0 ⟨R, h⟩ else if h : R - 64 < 64 then f 1 ⟨R - 64, h⟩ else if h : R - 64 - 64 < 64 then f 2 ⟨R - 64 - 64, h⟩ else f 3 ⟨R - 64 - 64 - 64, h3⟩) = f s r := by
  subst hR
  have hr := r.isLt
  rcases s with ⟨s, hs⟩
  interval_cases s
  · exact (dif_pos (by show 0 * 64 + r.val < 64; omega)).trans (congrArg (f 0) (Fin.ext (by show 0 * 64 + r.val = r.val; omega)))
  · exact (dif_neg (by show ¬ 1 * 64 + r.val < 64; omega)).trans ((dif_pos (by show 1 * 64 + r.val - 64 < 64; omega)).trans (congrArg (f 1) (Fin.ext (by show 1 * 64 + r.val - 64 = r.val; omega))))
  · exact (dif_neg (by show ¬ 2 * 64 + r.val < 64; omega)).trans ((dif_neg (by show ¬ 2 * 64 + r.val - 64 < 64; omega)).trans
      ((dif_pos (by show 2 * 64 + r.val - 64 - 64 < 64; omega)).trans (congrArg (f 2) (Fin.ext (by show 2 * 64 + r.val - 64 - 64 = r.val; omega)))))
  · exact (dif_neg (by show ¬ 3 * 64 + r.val < 64; omega)).trans ((dif_neg (by show ¬ 3 * 64 + r.val - 64 < 64; omega)).trans
      ((dif_neg (by show ¬ 3 * 64 + r.val - 64 - 64 < 64; omega)).trans (congrArg (f 3) (Fin.ext (by show 3 * 64 + r.val - 64 - 64 - 64 = r.val; omega)))))

theorem whole_at (a : Fin 4 → FVec Ideal S64x512 .bf16) (b c : Fin 4 → FVec Ideal S64x256 .bf16) (A : Vec Ideal S512x1024 .bf16) (B C : Vec Ideal S256x1024 .bf16)
    (s : Fin 4) (r : Fin 64) (R : Fin 256) (hR : R.val = s.val * 64 + r.val) (n : Fin 1024) : k0_pay118 (back c) (front a b A B) C (ix2 R n)
      = ∑ k, a s (ix2 r k) * A (ix2 k n) + ∑ k, b s (ix2 r k) * B (ix2 k n) + ∑ k, c s (ix2 r k) * C (ix2 k n) := by
  pointwise [k0_pay118, back, front]
  refine congrArg₂ (· + ·) (congrArg₂ (· + ·) ?_ ?_) ?_
  · exact Finset.sum_congr rfl fun k _ => congrArg (· * A (ix2 k n)) (four (fun s r => a s (ix2 r k)) s r R.val hR (by omega))
  · exact Finset.sum_congr rfl fun k _ => congrArg (· * B (ix2 k n)) (four (fun s r => b s (ix2 r k)) s r R.val hR (by omega))
  · exact Finset.sum_congr rfl fun k _ => congrArg (· * C (ix2 k n)) (four (fun s r => c s (ix2 r k)) s r R.val hR (by omega))

end Cert.Proof.L.Tail.Ker

end
-- ==== Proof.L.TailIn.lean ====
/-
  The sample group's last rows: the arrays the run is given, block by block.
-/
module

public import proofs.«01_k».proof.Proof.L.EpiIn
public import proofs.«01_k».proof.Proof.L.TailOut

@[expose] public section

noncomputable section

namespace Cert.Proof.L.Tail.Ker

open Idealize.ShloMosaic Idealize.SL.Sem
open Cert.Proof.L.Epi
open Cert.Kernel6Ideal Cert.Kernel6Ideal.Gen

variable (m : (ℓ : Loc nD τ sig) → Buf (Elt Ideal) ℓ) (c : Dev nD)

/-- The residual, the attention's output, the other columns, the history, the memory, the pooled columns' weights and scale, the projection, the gain. -/
abbrev argX : S16x64x1024.Idx → EReal := m ((c.tc : Thread nD τ).loc main_arg0)
abbrev argO : S16x64x512.Idx → EReal := m ((c.tc : Thread nD τ).loc main_arg1)
abbrev argR : S16x64x1536.Idx → EReal := m ((c.tc : Thread nD τ).loc main_arg2)
abbrev argH : S16x15x256.Idx → EReal := m ((c.tc : Thread nD τ).loc main_arg3)
abbrev argK : S16x256x256.Idx → EReal := m ((c.tc : Thread nD τ).loc main_arg4)
abbrev argV : S16x256x256.Idx → EReal := m ((c.tc : Thread nD τ).loc main_arg5)
abbrev argW : S4x64x64.Idx → EReal := m ((c.tc : Thread nD τ).loc main_arg6)
abbrev argS : S256.Idx → EReal := m ((c.tc : Thread nD τ).loc main_arg7)
abbrev argP : S1024x1024.Idx → EReal := m ((c.tc : Thread nD τ).loc main_arg8)
abbrev argG : S1024.Idx → EReal := m ((c.tc : Thread nD τ).loc main_arg9)

theorem coord : ∀ t : Fin (cfg0).N, ((grid0.coords t) 1).val = 0 := (by decide +kernel : ∀ t : Fin grid0.N, _)
theorem idx0 : ∀ t : Fin (cfg0).N, win0_0.index t = ![t.val, 0, 0] := (by decide +kernel : ∀ t : Fin grid0.N, _)
theorem idx1 : ∀ t : Fin (cfg0).N, win0_1.index t = ![t.val, 0, 0] := (by decide +kernel : ∀ t : Fin grid0.N, _)
theorem idx2 : ∀ t : Fin (cfg0).N, win0_2.index t = ![t.val, 0, 0] := (by decide +kernel : ∀ t : Fin grid0.N, _)
theorem idx4 : ∀ t : Fin (cfg0).N, win0_4.index t = ![t.val, 0, 0] := (by decide +kernel : ∀ t : Fin grid0.N, _)
theorem idx5 : ∀ t : Fin (cfg0).N, win0_5.index t = ![t.val, 0, 0] := (by decide +kernel : ∀ t : Fin grid0.N, _)
theorem idx6 : ∀ t : Fin (cfg0).N, win0_6.index t = ![t.val, 0, 0] := (by decide +kernel : ∀ t : Fin grid0.N, _)
theorem idx7 : ∀ t : Fin (cfg0).N, win0_7.index t = ![0, 0] := (by decide +kernel : ∀ t : Fin grid0.N, _)
theorem idx8 : ∀ t : Fin (cfg0).N, win0_8.index t = ![0, 0] := (by decide +kernel : ∀ t : Fin grid0.N, _)
theorem idx9 : ∀ t : Fin (cfg0).N, win0_9.index t = ![0, 0] := (by decide +kernel : ∀ t : Fin grid0.N, _)
theorem idx10 : ∀ t : Fin (cfg0).N, win0_10.index t = ![0, 0] := (by decide +kernel : ∀ t : Fin grid0.N, _)
theorem idx11 : ∀ t : Fin (cfg0).N, win0_11.index t = ![t.val, 0, 0] := (by decide +kernel : ∀ t : Fin grid0.N, _)

/-! ## What the run is given -/

theorem V0 : (V m c main_v0 : S16x16x256.Idx → EReal) = pad S16x16x256 ![0, 1, 0] ![0, 0, 0] ![0, 0, 0] (argH m c) (sitofp (F := Ideal) .f32 (constantI S_ 32 0#32)) pads_S16x15x256_S16x16x256_000_100_000 h_S_ := by
  simp only [V, hostOps0, hostOps0_1, hostOps0_2, List.flatten_cons, List.flatten_nil, List.append_nil, List.cons_append, List.nil_append]
  after_results <;> rfl

theorem V13 : (V m c main_v13 : S256x256.Idx → EReal) = Epi.Ker.blocks (argW m c) := by
  simp only [V, hostOps0, hostOps0_1, hostOps0_2, List.flatten_cons, List.flatten_nil, List.append_nil, List.cons_append, List.nil_append]
  after_results <;> rfl

theorem V14 : (V m c main_v14 : S1x256.Idx → EReal) = shapeCast S1x256 (argS m c) shapeCasts_S256_S1x256 := by
  simp only [V, hostOps0, hostOps0_1, hostOps0_2, List.flatten_cons, List.flatten_nil, List.append_nil, List.cons_append, List.nil_append]
  after_results <;> rfl

theorem V15 : (V m c main_v15 : S1024x1024.Idx → EReal) = argP m c := by
  simp only [V, hostOps0, hostOps0_1, hostOps0_2, List.flatten_cons, List.flatten_nil, List.append_nil, List.cons_append, List.nil_append]
  after_results <;> rfl

theorem V16 : (V m c main_v16 : S1x1024.Idx → EReal) = shapeCast S1x1024 (argG m c) shapeCasts_S1024_S1x1024 := by
  simp only [V, hostOps0, hostOps0_1, hostOps0_2, List.flatten_cons, List.flatten_nil, List.append_nil, List.cons_append, List.nil_append]
  after_results <;> rfl

/-- The history behind one row of zeros. -/
theorem hist_at (H : FVec Ideal S16x15x256 .f32) (b : Fin 16) (r : Fin 16) (k : Fin 256) :
    pad S16x16x256 ![0, 1, 0] ![0, 0, 0] ![0, 0, 0] H (sitofp (F := Ideal) .f32 (constantI S_ 32 0#32)) pads_S16x15x256_S16x16x256_000_100_000 h_S_ (ix3 b r k)
      = if h : r.val = 0 then 0 else H (ix3 b ⟨r.val - 1, by omega⟩ k) := by
  pointwise []
  by_cases h : r.val = 0
  · rw [dif_pos h, dif_neg (by omega)]
    show (((0#32 : BitVec 32).toInt : ℝ) : EReal) = 0
    simp
  · rw [dif_neg h, dif_pos (by omega)]

/-! ## The blocks -/

theorem blk0 (t : Fin (cfg0).N) (y : S4x64x1024.Idx) (b : Fin 16) (j : Fin 64) (k : Fin 1024) (hb : t.val * 4 + (y 0).val = b.val) (hj : (y 1).val = j.val)
    (hk : (y 2).val = k.val) : (iblk m c 0 t : S4x64x1024.Idx → EReal) y = argX m c (ix3 b j k) := by
  blk_simp [iblk, idx0]
  rw [V_main_arg0]
  refine Epi.Ker.at3 _ _ b j k ?_ ?_ ?_
  · blk_simp [idx0]
    omega
  · blk_simp [idx0]
    omega
  · blk_simp [idx0]
    omega

theorem blk1 (t : Fin (cfg0).N) (y : S4x64x512.Idx) (b : Fin 16) (j : Fin 64) (k : Fin 512) (hb : t.val * 4 + (y 0).val = b.val) (hj : (y 1).val = j.val)
    (hk : (y 2).val = k.val) : (iblk m c 1 t : S4x64x512.Idx → EReal) y = argO m c (ix3 b j k) := by
  blk_simp [iblk, idx1]
  rw [V_main_arg1]
  refine Epi.Ker.at3 _ _ b j k ?_ ?_ ?_
  · blk_simp [idx1]
    omega
  · blk_simp [idx1]
    omega
  · blk_simp [idx1]
    omega

theorem blk2 (t : Fin (cfg0).N) (y : S4x64x1536.Idx) (b : Fin 16) (j : Fin 64) (k : Fin 1536) (hb : t.val * 4 + (y 0).val = b.val) (hj : (y 1).val = j.val)
    (hk : (y 2).val = k.val) : (iblk m c 2 t : S4x64x1536.Idx → EReal) y = argR m c (ix3 b j k) := by
  blk_simp [iblk, idx2]
  rw [V_main_arg2]
  refine Epi.Ker.at3 _ _ b j k ?_ ?_ ?_
  · blk_simp [idx2]
    omega
  · blk_simp [idx2]
    omega
  · blk_simp [idx2]
    omega

theorem blk5 (t : Fin (cfg0).N) (y : S4x256x256.Idx) (b : Fin 16) (j : Fin 256) (k : Fin 256) (hb : t.val * 4 + (y 0).val = b.val) (hj : (y 1).val = j.val)
    (hk : (y 2).val = k.val) : (iblk m c 5 t : S4x256x256.Idx → EReal) y = argK m c (ix3 b j k) := by
  blk_simp [iblk, idx5]
  rw [V_main_arg4]
  refine Epi.Ker.at3 _ _ b j k ?_ ?_ ?_
  · blk_simp [idx5]
    omega
  · blk_simp [idx5]
    omega
  · blk_simp [idx5]
    omega

theorem blk6 (t : Fin (cfg0).N) (y : S4x256x256.Idx) (b : Fin 16) (j : Fin 256) (k : Fin 256) (hb : t.val * 4 + (y 0).val = b.val) (hj : (y 1).val = j.val)
    (hk : (y 2).val = k.val) : (iblk m c 6 t : S4x256x256.Idx → EReal) y = argV m c (ix3 b j k) := by
  blk_simp [iblk, idx6]
  rw [V_main_arg5]
  refine Epi.Ker.at3 _ _ b j k ?_ ?_ ?_
  · blk_simp [idx6]
    omega
  · blk_simp [idx6]
    omega
  · blk_simp [idx6]
    omega

theorem blk4 (t : Fin (cfg0).N) (y : S4x16x256.Idx) (b : Fin 16) (j : Fin 16) (k : Fin 256) (hb : t.val * 4 + (y 0).val = b.val) (hj : (y 1).val = j.val)
    (hk : (y 2).val = k.val) : (iblk m c 4 t : S4x16x256.Idx → EReal) y = (pad S16x16x256 ![0, 1, 0] ![0, 0, 0] ![0, 0, 0] (argH m c) (sitofp (F := Ideal) .f32 (constantI S_ 32 0#32)) pads_S16x15x256_S16x16x256_000_100_000 h_S_) (ix3 b j k) := by
  blk_simp [iblk, idx4]
  rw [V0]
  refine Epi.Ker.at3 _ _ b j k ?_ ?_ ?_
  · blk_simp [idx4]
    omega
  · blk_simp [idx4]
    omega
  · blk_simp [idx4]
    omega

theorem blk7 (t : Fin (cfg0).N) (y : S256x256.Idx) (x k : Fin 256) (hx : (y 0).val = x.val) (hk : (y 1).val = k.val) :
    (iblk m c 7 t : S256x256.Idx → EReal) y = Epi.Ker.blocks (argW m c) (ix2 x k) := by
  blk_simp [iblk, idx7]
  rw [V13]
  refine Epi.Ker.at2 (Epi.Ker.blocks (argW m c)) _ x k ?_ ?_
  · blk_simp [idx7]
    omega
  · blk_simp [idx7]
    omega

theorem blk8 (t : Fin (cfg0).N) (y : S1x256.Idx) (k : Fin 256) (hk : (y 1).val = k.val) : (iblk m c 8 t : S1x256.Idx → EReal) y = argS m c (ix1 k) := by
  have h0 : (y 0).val < 1 := (y 0).isLt
  blk_simp [iblk, idx8]
  rw [V14]
  refine (Epi.Ker.at2 _ _ 0 k ?_ ?_).trans ?_
  · blk_simp [idx8]
    omega
  · blk_simp [idx8]
    omega
  · pointwise []

theorem blk9 (t : Fin (cfg0).N) (y : S1024x1024.Idx) (k n : Fin 1024) (hk : (y 0).val = k.val) (hn : (y 1).val = n.val) :
    (iblk m c 9 t : S1024x1024.Idx → EReal) y = argP m c (ix2 k n) := by
  blk_simp [iblk, idx9]
  rw [V15]
  refine Epi.Ker.at2 (argP m c) _ k n ?_ ?_
  · blk_simp [idx9]
    omega
  · blk_simp [idx9]
    omega

theorem blk10 (t : Fin (cfg0).N) (y : S1x1024.Idx) (k : Fin 1024) (hk : (y 1).val = k.val) : (iblk m c 10 t : S1x1024.Idx → EReal) y = argG m c (ix1 k) := by
  have h0 : (y 0).val < 1 := (y 0).isLt
  blk_simp [iblk, idx10]
  rw [V16]
  refine (Epi.Ker.at2 _ _ 0 k ?_ ?_).trans ?_
  · blk_simp [idx10]
    omega
  · blk_simp [idx10]
    omega
  · pointwise []

end Cert.Proof.L.Tail.Ker

end
-- ==== Proof.L.TailKer.lean ====
/-
  The sample group's last rows: the array the run leaves.
-/
module

public import proofs.«01_k».proof.Proof.L.TailIn
public import proofs.«01_k».proof.Proof.L.EpiKer

@[expose] public section

noncomputable section

namespace Cert.Proof.L.Tail.Ker

open Idealize.ShloMosaic Idealize.SL.Sem
open Cert.Proof.L.Epi
open Cert.Kernel6Ideal Cert.Kernel6Ideal.Gen

theorem cast2 (v : Vec Ideal S1x64x512 .f32) (r : Fin 64) (k : Fin 512) : k0_pay2 v (ix2 r k) = v (ix3 0 r k) := by
  pointwise [k0_pay2]
theorem cast4 (v : Vec Ideal S1x64x256 .f32) (r : Fin 64) (k : Fin 256) : k0_pay4 v (ix2 r k) = v (ix3 0 r k) := by
  pointwise [k0_pay4]
theorem cast5 (v : Vec Ideal S1x64x256 .f32) (r : Fin 64) (k : Fin 256) : k0_pay5 v (ix2 r k) = v (ix3 0 r k) := by
  pointwise [k0_pay5]
theorem cast6 (v : Vec Ideal S1x64x256 .f32) (r : Fin 64) (k : Fin 256) : k0_pay6 v (ix2 r k) = v (ix3 0 r k) := by
  pointwise [k0_pay6]
theorem cast21 (v : Vec Ideal S1x256x256 .f32) (r k : Fin 256) : k0_pay21 v (ix2 r k) = v (ix3 0 r k) := by
  pointwise [k0_pay21]
theorem cast22 (v : Vec Ideal S1x256x256 .f32) (r k : Fin 256) : k0_pay22 v (ix2 r k) = v (ix3 0 r k) := by
  pointwise [k0_pay22]

variable (m : (ℓ : Loc nD τ sig) → Buf (Elt Ideal) ℓ) (c : Dev nD)

theorem ldg (t : Fin (cfg0).N) (d : Fin 1024) : View.ld (iblk m c 10 t) r0_38 (ix2 0 d) = argG m c (ix1 d) :=
  (congrFun (View.ld_unit_lit _ _ zeros) _).trans (blk10 m c t _ d rfl)

theorem lds (t : Fin (cfg0).N) (k : Fin 256) : View.ld (iblk m c 8 t) r0_7 (ix2 0 k) = argS m c (ix1 k) :=
  (congrFun (View.ld_unit_lit _ _ zeros) _).trans (blk8 m c t _ k rfl)

theorem ldbd (t : Fin (cfg0).N) (x k : Fin 256) : View.ld (iblk m c 7 t) r0_6 (ix2 x k) = Epi.Ker.blocks (argW m c) (ix2 x k) :=
  (congrFun (View.ld_unit_lit _ _ zeros) _).trans (blk7 m c t _ x k rfl rfl)

theorem ldp0 (t : Fin (cfg0).N) (k : Fin 512) (n : Fin 1024) : View.ld (iblk m c 9 t) r0_34 (ix2 k n) = argP m c (ix2 ⟨k.val, by omega⟩ n) :=
  (View.ld_unit_apply_of _ _ _ _ _ (ix2 ⟨k.val, by omega⟩ n : S1024x1024.Idx) (Fin.forall_fin_two.mpr ⟨(Nat.zero_add _).symm, (Nat.zero_add _).symm⟩)).trans (blk9 m c t _ _ n rfl rfl)
theorem ldp1 (t : Fin (cfg0).N) (k : Fin 256) (n : Fin 1024) : View.ld (iblk m c 9 t) r0_35 (ix2 k n) = argP m c (ix2 ⟨512 + k.val, by omega⟩ n) :=
  (View.ld_unit_apply_of _ _ _ _ _ (ix2 ⟨512 + k.val, by omega⟩ n : S1024x1024.Idx) (Fin.forall_fin_two.mpr ⟨rfl, (Nat.zero_add _).symm⟩)).trans (blk9 m c t _ _ n rfl rfl)
theorem ldp2 (t : Fin (cfg0).N) (k : Fin 256) (n : Fin 1024) : View.ld (iblk m c 9 t) r0_36 (ix2 k n) = argP m c (ix2 ⟨768 + k.val, by omega⟩ n) :=
  (View.ld_unit_apply_of _ _ _ _ _ (ix2 ⟨768 + k.val, by omega⟩ n : S1024x1024.Idx) (Fin.forall_fin_two.mpr ⟨rfl, (Nat.zero_add _).symm⟩)).trans (blk9 m c t _ _ n rfl rfl)

/-- A sum over a window whose rows lie one place further on. -/
theorem window_shift (X U : ℕ → EReal) (h : ∀ s, X (s + 1) = U s) (r w : ℕ) (hw : w ≤ 16) : window X w (16 + r) = window U w (15 + r) := by
  unfold window
  refine Finset.sum_congr rfl fun n hn => ?_
  have := Finset.mem_range.mp hn
  rw [← h]
  exact congrArg X (by omega)

section Stream

variable (t : Fin (cfg0).N) (s : Fin 4) (b : Fin 16) (hb : t.val * 4 + s.val = b.val)

include hb

theorem part2_ld {w : ℕ} (o : ℕ) (h : o + w ≤ 1536) (r : Fin 64) (k : Fin w) : part (iblk m c 2 t) o h s (ix3 0 r k) = argR m c (ix3 b r ⟨o + k.val, by omega⟩) :=
  (part_at (iblk m c 2 t) o h s r k).trans (blk2 m c t _ b r ⟨o + k.val, by omega⟩ hb rfl rfl)

theorem keys (n x : Fin 256) : k0_pay21 (part (iblk m c 5 t) 0 (by decide) s) (ix2 n x) = argK m c (ix3 b n x) :=
  (cast21 _ _ _).trans <| (part_at (iblk m c 5 t) 0 _ s n x).trans (blk5 m c t _ b n x hb rfl (Nat.zero_add _))

theorem vals (n x : Fin 256) : k0_pay22 (part (iblk m c 6 t) 0 (by decide) s) (ix2 n x) = argV m c (ix3 b n x) :=
  (cast22 _ _ _).trans <| (part_at (iblk m c 6 t) 0 _ s n x).trans (blk6 m c t _ b n x hb rfl (Nat.zero_add _))

theorem ldx (r : Fin 64) (d : Fin 1024) : part (iblk m c 0 t) 0 (by decide : 0 + 1024 ≤ 1024) s (ix3 0 r d) = argX m c (ix3 b r d) :=
  (part_at (iblk m c 0 t) 0 _ s r d).trans (blk0 m c t _ b r d hb rfl (Nat.zero_add _))

theorem ldo (r : Fin 64) (k : Fin 512) : part (iblk m c 1 t) 0 (by decide : 0 + 512 ≤ 512) s (ix3 0 r k) = argO m c (ix3 b r k) :=
  (part_at (iblk m c 1 t) 0 _ s r k).trans (blk1 m c t _ b r k hb rfl (Nat.zero_add _))

theorem ldh (r : Fin 16) (k : Fin 256) : part (iblk m c 4 t) 0 (by decide : 0 + 256 ≤ 256) s (ix3 0 r k) = if h : r.val = 0 then 0 else argH m c (ix3 b ⟨r.val - 1, by omega⟩ k) :=
  (part_at (iblk m c 4 t) 0 _ s r k).trans ((blk4 m c t _ b r k hb rfl (Nat.zero_add _)).trans (hist_at _ b r k))

/-! ## The rows behind a stream -/

/-- A pooled column behind one more row. -/
theorem rows_at (k : Fin 256) (r : Fin 80) :
    rows (part (iblk m c 2 t) 512 (by decide) s) (part (iblk m c 4 t) 0 (by decide) s) r k
      = (fun n => if n = 0 then 0 else column (argH m c) (argR m c) b k (n - 1)) r.val := by
  have hr := r.isLt
  unfold rows column
  beta_reduce
  by_cases h : r.val < 16
  · rw [dif_pos h, ldh m c t s b hb]
    by_cases h0 : r.val = 0
    · rw [dif_pos h0, if_pos h0]
    · rw [dif_neg h0, if_neg h0, dif_pos (by omega)]
  · rw [dif_neg h, part2_ld m c t s b hb, if_neg (by omega), dif_neg (by omega), dif_pos (by omega)]
    exact congr3 (fun i j k => argR m c (ix3 i j k)) rfl (by show r.val - 16 = r.val - 1 - 15; omega) rfl

/-! ## The three parts of a row -/

variable (r : Fin 64)

theorem part1_at (k : Fin 512) : partA (iblk m c 1 t) (iblk m c 2 t) s (ix2 r k) = part1 (argO m c) (argR m c) b r k := by
  unfold partA mixA
  rw [pay27_at, cast2, ldo m c t s b hb, part2_ld m c t s b hb]
  exact congrArg (fun j => argO m c (ix3 b r k) * silu (argR m c (ix3 b r j))) (Fin.ext (Nat.zero_add k.val))

theorem part2_at (k : Fin 256) : partB (grid0.coords t) (iblk m c 2 t) (iblk m c 3 t) (iblk m c 4 t) (iblk m c 7 t) (iblk m c 8 t) s (ix2 r k)
    = part2 (argH m c) (argR m c) (argW m c) (argS m c) b r k := by
  have hk := k.isLt
  unfold partB mixB poolB part2
  rw [pay28_at, cast4, part2_ld m c t s b hb]
  refine congrArg (· * silu _) ((pooled_at _ _ _ _ _ _ (fun k n => if n = 0 then 0 else column (argH m c) (argR m c) b k (n - 1)) (fun k n => rows_at m c t s b hb k n) r k).trans ?_)
  rw [lds]
  refine congrArg (· * argS m c (ix1 k)) ((sum_group _ ⟨k.val / 64, by omega⟩ fun x hx => ?_).trans (Finset.sum_congr rfl fun x _ => ?_))
  · rw [ldbd, Epi.Ker.blocks_at, if_neg hx, mul_zero]
  · have hx := x.isLt
    rw [ldbd, Epi.Ker.blocks_at, if_pos (by show (k.val / 64 * 64 + x.val) / 64 = k.val / 64; omega),
      window_shift _ (column (argH m c) (argR m c) b ⟨k.val / 64 * 64 + x.val, by omega⟩) (fun n => (if_neg (Nat.succ_ne_zero n)).trans rfl) _ _ (Epi.Ker.width_le _), coord,
      part2_ld m c t s b hb, Nat.zero_mul, Nat.zero_add]
    refine congrArg₂ (· * ·) rfl (congr3 (fun i j k => argW m c (ix3 i j k)) ?_ ?_ rfl)
    · show (k.val / 64 * 64 + x.val) / 64 = k.val / 64
      omega
    · show (k.val / 64 * 64 + x.val) % 64 = x.val
      omega

theorem part3_at (k : Fin 256) : partC (iblk m c 2 t) (iblk m c 5 t) (iblk m c 6 t) s (ix2 r k) = part3 (argR m c) (argK m c) (argV m c) b r k := by
  have hk := k.isLt
  unfold partC mixC
  rw [pay29_at, cast6, part2_ld m c t s b hb, pay26_at]
  unfold part3
  refine congrArg (· * silu _) (Finset.sum_congr rfl fun n _ => congrArg₂ (· * ·) (congrArg (fun f => soften f n) (funext fun n => ?_)) (vals m c t s b hb n k))
  refine (scores_at _ _ ⟨k.val / 64, by omega⟩ r n (by show k.val / 64 * 64 + r.val < 256; omega)).trans ?_
  unfold score
  refine congrArg (· * Ideal.ofBits .f32 0x3E000000#32) (Finset.sum_congr rfl fun x _ => congrArg₂ (· * ·) ((cast5 _ _ _).trans (part2_ld m c t s b hb _ _ _ _)) (keys m c t s b hb n _))

end Stream

/-! ## What a block's stores hold -/

section Stores

variable (t : Fin (cfg0).N)

/-- The four streams' rows before the residual, one stream below the other. -/
abbrev mixed : FVec Ideal S256x1024 .f32 :=
  k0_pay118 (k0_pay155 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t))
    (k0_pay156 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t))
    (View.ld (iblk m c 9 t) r0_36)

/-- The arrays' last rows. -/
def last : S16x64x1024.Idx → EReal := fun y =>
  result (argX m c) (argO m c) (argR m c) (argH m c) (argK m c) (argV m c) (argW m c) (argS m c) (argP m c) (argG m c) (y 0) (y 1) (y 2)

/-- The block's part of them. -/
def lastBlock : S4x64x1024.Idx → EReal := fun y =>
  result (argX m c) (argO m c) (argR m c) (argH m c) (argK m c) (argV m c) (argW m c) (argS m c) (argP m c) (argG m c)
    ⟨t.val * 4 + (y 0).val, by have h0 : (y 0).val < 4 := (y 0).isLt; have ht : t.val < 4 := t.isLt; omega⟩ (y 1) (y 2)

theorem store_at (s : Fin 4) (b : Fin 16) (hb : t.val * 4 + s.val = b.val) (z : FVec Ideal S64x1024 .f32)
    (hz : ∀ (r : Fin 64) (n : Fin 1024), z (ix2 r n) = mixed m c t (ix2 ⟨s.val * 64 + r.val, by omega⟩ n)) (r : Fin 64) (n : Fin 1024) :
    finish z (part (iblk m c 0 t) 0 (by decide : 0 + 1024 ≤ 1024) s) (View.ld (iblk m c 10 t) r0_38) (ix3 0 r n)
      = result (argX m c) (argO m c) (argR m c) (argH m c) (argK m c) (argV m c) (argW m c) (argS m c) (argP m c) (argG m c) b r n := by
  rw [finish_at]
  unfold result total
  refine congrFun (congrArg₂ normed (funext fun d => ?_) (funext fun d => ldg m c t d)) n
  refine congrArg₂ (· + ·) (ldx m c t s b hb r d) ((hz r d).trans ?_)
  unfold mixed
  rw [pay155_eq, pay156_eq]
  refine (whole_at _ _ _ _ _ _ s r _ rfl d).trans (congrArg₂ (· + ·) (congrArg₂ (· + ·) ?_ ?_) ?_)
  · exact Finset.sum_congr rfl fun k _ => congrArg₂ (· * ·) (part1_at m c t s b hb r k) (ldp0 m c t k d)
  · exact Finset.sum_congr rfl fun k _ => congrArg₂ (· * ·) (part2_at m c t s b hb r k) (ldp1 m c t k d)
  · exact Finset.sum_congr rfl fun k _ => congrArg₂ (· * ·) (part3_at m c t s b hb r k) (ldp2 m c t k d)

/-- A stream's store holds its part. -/
theorem store_eq (s : Fin 4) (z : FVec Ideal S64x1024 .f32)
    (hz : ∀ (r : Fin 64) (n : Fin 1024), z (ix2 r n) = mixed m c t (ix2 ⟨s.val * 64 + r.val, by omega⟩ n)) (x : S1x64x1024.Idx) (y : S4x64x1024.Idx)
    (h0 : (y 0).val = s.val) (h1 : (y 1).val = (x 1).val) (h2 : (y 2).val = (x 2).val) :
    finish z (part (iblk m c 0 t) 0 (by decide : 0 + 1024 ≤ 1024) s) (View.ld (iblk m c 10 t) r0_38) x = lastBlock m c t y := by
  have hx : (x 0).val < 1 := (x 0).isLt
  have ht : t.val < 4 := t.isLt
  refine (Epi.Ker.at3 _ x 0 (x 1) (x 2) (by show (x 0).val = 0; omega) rfl rfl).trans ((store_at m c t s ⟨t.val * 4 + s.val, by omega⟩ rfl z hz (x 1) (x 2)).trans ?_)
  unfold lastBlock
  exact congr3 (fun b r n => result (argX m c) (argO m c) (argR m c) (argH m c) (argK m c) (argV m c) (argW m c) (argS m c) (argP m c) (argG m c) b r n)
    (by show t.val * 4 + s.val = t.val * 4 + (y 0).val; rw [h0]) h1.symm h2.symm

theorem slice0 (w : FVec Ideal S256x1024 .f32) (r : Fin 64) (n : Fin 1024) :
    extractStridedSlice S64x1024 ![0, 0] w slices_S256x1024_o0_0_S64x1024 (ix2 r n) = w (ix2 ⟨0 * 64 + r.val, by omega⟩ n) := by
  pointwise []
theorem slice1 (w : FVec Ideal S256x1024 .f32) (r : Fin 64) (n : Fin 1024) :
    extractStridedSlice S64x1024 ![64, 0] w slices_S256x1024_o64_0_S64x1024 (ix2 r n) = w (ix2 ⟨1 * 64 + r.val, by omega⟩ n) := by
  pointwise []
theorem slice2 (w : FVec Ideal S256x1024 .f32) (r : Fin 64) (n : Fin 1024) :
    extractStridedSlice S64x1024 ![128, 0] w slices_S256x1024_o128_0_S64x1024 (ix2 r n) = w (ix2 ⟨2 * 64 + r.val, by omega⟩ n) := by
  pointwise []
theorem slice3 (w : FVec Ideal S256x1024 .f32) (r : Fin 64) (n : Fin 1024) :
    extractStridedSlice S64x1024 ![192, 0] w slices_S256x1024_o192_0_S64x1024 (ix2 r n) = w (ix2 ⟨3 * 64 + r.val, by omega⟩ n) := by
  pointwise []

theorem out_at (y : S4x64x1024.Idx) :
    out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = lastBlock m c t y := by
  unfold out0_11
  refine View.canon_apply_of_pieces (Val := Elt Ideal) (e := .f32) (lastBlock m c t) _ ?_ y (cover0_11 (F := Ideal) _ _ _ _ y)
  intro pc hpc
  rcases List.mem_cons.mp hpc with rfl | hpc
  · intro x
    refine (congrFun (store3 _ _ _) x).trans (store_eq m c t 3 _ (slice3 _) x _ ?_ ?_ ?_)
    · have hx : (x 0).val < 1 := (x 0).isLt
      show 3 + 1 * (x 0).val = 3
      omega
    · show 0 + 1 * (x 1).val = (x 1).val
      omega
    · show 0 + 1 * (x 2).val = (x 2).val
      omega
  rcases List.mem_cons.mp hpc with rfl | hpc
  · intro x
    refine (congrFun (store2 _ _ _) x).trans (store_eq m c t 2 _ (slice2 _) x _ ?_ ?_ ?_)
    · have hx : (x 0).val < 1 := (x 0).isLt
      show 2 + 1 * (x 0).val = 2
      omega
    · show 0 + 1 * (x 1).val = (x 1).val
      omega
    · show 0 + 1 * (x 2).val = (x 2).val
      omega
  rcases List.mem_cons.mp hpc with rfl | hpc
  · intro x
    refine (congrFun (store1 _ _ _ _ _) x).trans (store_eq m c t 1 _ (slice1 _) x _ ?_ ?_ ?_)
    · have hx : (x 0).val < 1 := (x 0).isLt
      show 1 + 1 * (x 0).val = 1
      omega
    · show 0 + 1 * (x 1).val = (x 1).val
      omega
    · show 0 + 1 * (x 2).val = (x 2).val
      omega
  rcases List.mem_cons.mp hpc with rfl | hpc
  · intro x
    refine (congrFun (store0 _ _ _ _ _) x).trans (store_eq m c t 0 _ (slice0 _) x _ ?_ ?_ ?_)
    · have hx : (x 0).val < 1 := (x 0).isLt
      show 0 + 1 * (x 0).val = 0
      omega
    · show 0 + 1 * (x 1).val = (x 1).val
      omega
    · show 0 + 1 * (x 2).val = (x 2).val
      omega
  nomatch hpc

end Stores

theorem final : (dats m 0 c).arrAt 11 (cfg0).N = last m c := by
  refine (dats m 0 c).arrAt_eq_of_covers 11 _ (by decide +kernel) fun t hf y => ?_
  blk_simp [idx11]
  rw [after0_11, out_at]
  unfold last lastBlock
  refine congr3 (fun b r n => result (argX m c) (argO m c) (argR m c) (argH m c) (argK m c) (argV m c) (argW m c) (argS m c) (argP m c) (argG m c) b r n) ?_ ?_ ?_
  · blk_simp [idx11]
  · blk_simp [idx11]
  · blk_simp [idx11]

end Cert.Proof.L.Tail.Ker

end
-- ==== Proof.L.TailRef.lean ====
/-
  The reference's operations for the end of the sample group's layer, named, and read at an index.
-/
module

public import proofs.«01_k».proof.Proof.Gen.Reference6Ideal.Run
public import proofs.«01_k».proof.Proof.L.EpiRef
public import proofs.«01_k».proof.Proof.L.TailSpec

@[expose] public section

noncomputable section

namespace Cert.Proof.L.Tail.Ref

open Cert.Reference6Ideal Cert.Reference6Ideal.Gen Cert.Reference6Ideal.Facts
open Idealize.ShloMosaic
open Cert.Proof.L.Epi

/-! ## The operations -/

def gateO (R : FVec Ideal S16x64x1536 .f32) : FVec Ideal S16x64x512 .f32 := extractStridedSlice S16x64x512 ![0, 0, 0] R slices_S16x64x1536_S16x64x512_0_0_0
def cols (R : FVec Ideal S16x64x1536 .f32) : FVec Ideal S16x64x256 .f32 := extractStridedSlice S16x64x256 ![0, 0, 512] R slices_S16x64x1536_S16x64x256_0_0_512
def gateP (R : FVec Ideal S16x64x1536 .f32) : FVec Ideal S16x64x256 .f32 := extractStridedSlice S16x64x256 ![0, 0, 768] R slices_S16x64x1536_S16x64x256_0_0_768
def queries (R : FVec Ideal S16x64x1536 .f32) : FVec Ideal S16x64x256 .f32 := extractStridedSlice S16x64x256 ![0, 0, 1024] R slices_S16x64x1536_S16x64x256_0_0_1024
def gateX (R : FVec Ideal S16x64x1536 .f32) : FVec Ideal S16x64x256 .f32 := extractStridedSlice S16x64x256 ![0, 0, 1280] R slices_S16x64x1536_S16x64x256_0_0_1280

/-- The pooled columns behind their history. -/
def rows (H : FVec Ideal S16x15x256 .f32) (u : FVec Ideal S16x64x256 .f32) : FVec Ideal S16x79x256 .f32 :=
  concatenate S16x79x256 1 [⟨S16x15x256, H⟩, ⟨S16x64x256, u⟩] concatenates_S16x15x256_S16x64x256_S16x79x256_d1

/-- Sums over the rows up to each. -/
def sums (x : FVec Ideal S16x79x256 .f32) : FVec Ideal S16x79x256 .f32 :=
  Host.reduceWindowAdd ![1, 79, 1] ![1, 1, 1] ![0, 78, 0] ![0, 0, 0] x (broadcastInDim S_ ![] bcast_S_S_ (constant (F := Ideal) S_ .f32 0x00000000#32))
    reduceWindows_S16x79x256_S16x79x256_w1s1p0_0_w79s1p78_0_w1s1p0_0 h_S_

/-- Sums over the rows before each. -/
def before (x : FVec Ideal S16x79x256 .f32) : FVec Ideal S16x80x256 .f32 :=
  concatenate S16x80x256 1 [⟨S16x1x256, broadcastInDim S16x1x256 ![] bcast_S_S16x1x256 (constant S_ .f32 0x00000000#32)⟩, ⟨S16x79x256, sums x⟩] concatenates_S16x1x256_S16x79x256_S16x80x256_d1

/-- How many rows a window of `w` holds. -/
def count (w : BitVec 32) : FVec Ideal S16x64x64 .f32 :=
  broadcastInDim S16x64x64 ![0, 1, 2] bcast_S1x64x1_S16x64x64_0_1_2 (broadcastInDim S1x64x1 ![1] bcast_S64_S1x64x1_1 (sitofp .f32
    (minsi (addi (addi (broadcastInDim S64 ![] bcast_S_S64 (constantI S_ 32 4096#32)) (iotaInDim S64 32 0)) (broadcastInDim S64 ![] bcast_S_S64 (constantI S_ 32 1#32)))
      (broadcastInDim S64 ![] bcast_S_S64 (constantI S_ 32 w)))))

def upto (s : FVec Ideal S16x80x256 .f32) : FVec Ideal S16x64x256 .f32 := extractStridedSlice S16x64x256 ![0, 16, 0] s slices_S16x80x256_S16x64x256_0_16_0

def mean0 (s : FVec Ideal S16x80x256 .f32) : FVec Ideal S16x64x64 .f32 :=
  Host.divf (subf (extractStridedSlice S16x64x64 ![0, 0, 0] (upto s) slices_S16x64x256_S16x64x64_0_0_0) (extractStridedSlice S16x64x64 ![0, 14, 0] s slices_S16x80x256_S16x64x64_0_14_0)) (count 2#32)
def mean1 (s : FVec Ideal S16x80x256 .f32) : FVec Ideal S16x64x64 .f32 :=
  Host.divf (subf (extractStridedSlice S16x64x64 ![0, 0, 64] (upto s) slices_S16x64x256_S16x64x64_0_0_64) (extractStridedSlice S16x64x64 ![0, 12, 64] s slices_S16x80x256_S16x64x64_0_12_64)) (count 4#32)
def mean2 (s : FVec Ideal S16x80x256 .f32) : FVec Ideal S16x64x64 .f32 :=
  Host.divf (subf (extractStridedSlice S16x64x64 ![0, 0, 128] (upto s) slices_S16x64x256_S16x64x64_0_0_128) (extractStridedSlice S16x64x64 ![0, 8, 128] s slices_S16x80x256_S16x64x64_0_8_128)) (count 8#32)
def mean3 (s : FVec Ideal S16x80x256 .f32) : FVec Ideal S16x64x64 .f32 :=
  Host.divf (subf (extractStridedSlice S16x64x64 ![0, 0, 192] (upto s) slices_S16x64x256_S16x64x64_0_0_192) (extractStridedSlice S16x64x64 ![0, 0, 192] s slices_S16x80x256_S16x64x64_0_0_192)) (count 16#32)

/-- The window means less the row itself. -/
def pooled (s : FVec Ideal S16x80x256 .f32) (u : FVec Ideal S16x64x256 .f32) : FVec Ideal S16x64x256 .f32 :=
  subf (concatenate S16x64x256 2 [⟨S16x64x64, mean0 s⟩, ⟨S16x64x64, mean1 s⟩, ⟨S16x64x64, mean2 s⟩, ⟨S16x64x64, mean3 s⟩]
    concatenates_S16x64x64_S16x64x64_S16x64x64_S16x64x64_S16x64x256_d2) u

/-- Each group times its weights, and the scale. -/
def mixPool (p : FVec Ideal S16x64x256 .f32) (W : FVec Ideal S4x64x64 .f32) (S : FVec Ideal S256 .f32) : FVec Ideal S16x64x256 .f32 :=
  mulf (shapeCast _ (transpose S16x64x4x64 [2, 3, 0, 1] (Host.dotGeneral dot_S4x64x64_S16x64x4x64_S4x64x16x64_1_3_2_01_0_2 none W
    (shapeCast _ p shapeCasts_S16x64x256_S16x64x4x64)) transposes_S4x64x16x64_S16x64x4x64_2_3_0_1) shapeCasts_S16x64x4x64_S16x64x256)
    (broadcastInDim S16x64x256 ![0, 1, 2] bcast_S1x1x256_S16x64x256_0_1_2 (broadcastInDim S1x1x256 ![2] bcast_S256_S1x1x256_2 S))

/-- The scores against the memory's keys, by head. -/
def scores (q : FVec Ideal S16x64x256 .f32) (K : FVec Ideal S16x256x256 .f32) : FVec Ideal S16x4x64x256 .f32 :=
  Host.divf (Host.dotGeneral dot_S16x64x4x64_S16x256x4x64_S16x4x64x256_3_3_1_1_02_02 none (shapeCast _ q shapeCasts_S16x64x256_S16x64x4x64)
    (shapeCast _ K shapeCasts_S16x256x256_S16x256x4x64)) (broadcastInDim S16x4x64x256 ![] bcast_S_S16x4x64x256 (constant S_ .f32 0x41000000#32))

/-- The largest score of each query. -/
def maxes (s : FVec Ideal S16x4x64x256 .f32) : FVec Ideal S16x4x64 .f32 :=
  Host.reduce FloatOps.maximumf s (constant S_ .f32 0xFF800000#32) reducesTo_S16x4x64x256_S16x4x64_d3 h_S_

/-- A number for each query, at every key. -/
def spread (x : FVec Ideal S16x4x64 .f32) : FVec Ideal S16x4x64x256 .f32 :=
  broadcastInDim S16x4x64x256 ![0, 1, 2, 3] bcast_S16x4x64x1_S16x4x64x256_0_1_2_3 (broadcastInDim S16x4x64x1 ![0, 1, 2] bcast_S16x4x64_S16x4x64x1_0_1_2 x)

def tops (x : FVec Ideal S16x4x64 .f32) : FVec Ideal S16x4x64 .f32 := maximumf (broadcastInDim S16x4x64 ![] bcast_S_S16x4x64 (constant S_ .f32 0xFF800000#32)) x

def totals (e : FVec Ideal S16x4x64x256 .f32) : FVec Ideal S16x4x64 .f32 :=
  Host.reduceAdd e (constant S_ .f32 0x00000000#32) reducesTo_S16x4x64x256_S16x4x64_d3 h_S_

def exps (s : FVec Ideal S16x4x64x256 .f32) : FVec Ideal S16x4x64x256 .f32 :=
  Host.exp (subf s (spread (tops (maxes s))))

def soft (s : FVec Ideal S16x4x64x256 .f32) : FVec Ideal S16x4x64x256 .f32 :=
  Host.divf (exps s) (spread (totals (exps s)))

/-- The weighted sums of the memory's values. -/
def attend (w : FVec Ideal S16x4x64x256 .f32) (V : FVec Ideal S16x256x256 .f32) : FVec Ideal S16x64x256 .f32 :=
  shapeCast _ (transpose S16x64x4x64 [0, 3, 1, 2] (Host.dotGeneral dot_S16x256x4x64_S16x4x64x256_S16x4x64x64_1_3_3_2_02_01 none
    (shapeCast _ V shapeCasts_S16x256x256_S16x256x4x64) w) transposes_S16x4x64x64_S16x64x4x64_0_3_1_2) shapeCasts_S16x64x4x64_S16x64x256

def wide (g : FVec Ideal S16x64x512 .f32) : FVec Ideal S16x64x512 .f32 :=
  mulf g (Host.divf (broadcastInDim S16x64x512 ![] bcast_S_S16x64x512 (constant S_ .f32 0x3F800000#32))
    (addf (broadcastInDim S16x64x512 ![] bcast_S_S16x64x512 (constant S_ .f32 0x3F800000#32)) (Host.exp (Host.negf g))))

def narrow (g : FVec Ideal S16x64x256 .f32) : FVec Ideal S16x64x256 .f32 :=
  mulf g (Host.divf (broadcastInDim S16x64x256 ![] bcast_S_S16x64x256 (constant S_ .f32 0x3F800000#32))
    (addf (broadcastInDim S16x64x256 ![] bcast_S_S16x64x256 (constant S_ .f32 0x3F800000#32)) (Host.exp (Host.negf g))))

/-- The residual row with the three parts' projection added. -/
def total (X : FVec Ideal S16x64x1024 .f32) (a : FVec Ideal S16x64x512 .f32) (b c : FVec Ideal S16x64x256 .f32) (W : FVec Ideal S1024x1024 .f32) : FVec Ideal S16x64x1024 .f32 :=
  addf X (Host.dotGeneral dot_S16x64x1024_S1024x1024_S16x64x1024_2_0_01_1_n_n none
    (concatenate S16x64x1024 2 [⟨S16x64x512, a⟩, ⟨S16x64x256, b⟩, ⟨S16x64x256, c⟩] concatenates_S16x64x512_S16x64x256_S16x64x256_S16x64x1024_d2) W)

def norm (y : FVec Ideal S16x64x1024 .f32) (G : FVec Ideal S1024 .f32) : FVec Ideal S16x64x1024 .f32 :=
  mulf (mulf y (broadcastInDim S16x64x1024 ![0, 1, 2] bcast_S16x64x1_S16x64x1024_0_1_2 (Host.rsqrt (addf (Host.divf (broadcastInDim S16x64x1 ![0, 1] bcast_S16x64_S16x64x1_0_1
    (Host.reduceAdd (mulf y y) (constant S_ .f32 0x00000000#32) reducesTo_S16x64x1024_S16x64_d2 h_S_)) (broadcastInDim S16x64x1 ![] bcast_S_S16x64x1 (constant S_ .f32 0x44800000#32)))
    (broadcastInDim S16x64x1 ![] bcast_S_S16x64x1 (constant S_ .f32 0x358637BD#32))))))
    (broadcastInDim S16x64x1024 ![0, 1, 2] bcast_S1x1x1024_S16x64x1024_0_1_2 (broadcastInDim S1x1x1024 ![2] bcast_S1024_S1x1x1024_2 G))

variable (m : (ℓ : Loc nD τ sig) → Buf (Elt Ideal) ℓ) (c : Dev nD)

theorem res_eq : Value.res_main_v107 (F := Ideal) m c
    = norm (total (m ((c.tc : Thread nD τ).loc main_arg0)) (mulf (m ((c.tc : Thread nD τ).loc main_arg1)) (wide (gateO (m ((c.tc : Thread nD τ).loc main_arg2)))))
        (mulf (mixPool (pooled (before (rows (m ((c.tc : Thread nD τ).loc main_arg3)) (cols (m ((c.tc : Thread nD τ).loc main_arg2))))) (cols (m ((c.tc : Thread nD τ).loc main_arg2)))) (m ((c.tc : Thread nD τ).loc main_arg6))
          (m ((c.tc : Thread nD τ).loc main_arg7))) (narrow (gateP (m ((c.tc : Thread nD τ).loc main_arg2)))))
        (mulf (attend (soft (scores (queries (m ((c.tc : Thread nD τ).loc main_arg2))) (m ((c.tc : Thread nD τ).loc main_arg4)))) (m ((c.tc : Thread nD τ).loc main_arg5)))
          (narrow (gateX (m ((c.tc : Thread nD τ).loc main_arg2)))))
        (m ((c.tc : Thread nD τ).loc main_arg8))) (m ((c.tc : Thread nD τ).loc main_arg9)) := by
  unfold Value.res_main_v107 norm total wide narrow attend soft exps totals tops spread maxes scores mixPool pooled mean0 mean1 mean2 mean3 upto count before sums rows gateX queries gateP cols gateO
  rfl

/-! ## Read at an index -/

section
variable (H : FVec Ideal S16x15x256 .f32) (R : FVec Ideal S16x64x1536 .f32)

theorem cols_at (b : Fin 16) (t : Fin 64) (k : Fin 256) : cols R (ix3 b t k) = R (ix3 b t ⟨512 + k.val, by omega⟩) := by
  pointwise [cols]

theorem rows_at (b : Fin 16) (s : Fin 79) (k : Fin 256) : rows H (cols R) (ix3 b s k) = column H R b k s.val := by
  pointwise [rows]
  unfold column
  by_cases h : s.val < 15
  · rw [dif_pos h, dif_pos h]
  · rw [dif_neg h, dif_neg h, dif_pos (by omega)]
    exact cols_at R _ _ _

theorem sums_at (b : Fin 16) (s : Fin 79) (k : Fin 256) : sums (rows H (cols R)) (ix3 b s k) = ∑ i ∈ Finset.range (s.val + 1), column H R b k i := by
  unfold sums
  refine (Epi.Ref.window_sum (rows H (cols R)) _ _ _ (by pointwise []) b s k).trans ?_
  rw [← Epi.Ref.sum_up (column H R b k) 79 s.val s.isLt, Finset.sum_range]
  refine Finset.sum_congr rfl fun n _ => ?_
  by_cases h : 78 ≤ s.val + n.val
  · rw [dif_pos ⟨h, by omega⟩, if_pos (by omega)]
    exact rows_at H R _ _ _
  · rw [dif_neg fun hh => h hh.1, if_neg (by omega)]

theorem before_at (b : Fin 16) (s : Fin 80) (k : Fin 256) : before (rows H (cols R)) (ix3 b s k) = ∑ i ∈ Finset.range s.val, column H R b k i := by
  pointwise [before]
  by_cases h : s.val < 1
  · rw [dif_pos h, show s.val = 0 by omega, Finset.range_zero, Finset.sum_empty]
  · rw [dif_neg h, sums_at]
    refine congrArg (fun n => ∑ i ∈ Finset.range n, column H R b k i) ?_
    show s.val - 1 + 1 = s.val
    omega

variable (hH : ∀ (b : Fin 16) (s : Fin 15) (k : Fin 256), H (ix3 b s k) = ((H (ix3 b s k)).toReal : EReal))
variable (hR : ∀ (b : Fin 16) (t : Fin 64) (k : Fin 256), R (ix3 b t ⟨512 + k.val, by omega⟩) = ((R (ix3 b t ⟨512 + k.val, by omega⟩)).toReal : EReal))
include hH hR

theorem column_real (b : Fin 16) (k : Fin 256) (s : ℕ) : column H R b k s = ((column H R b k s).toReal : EReal) := by
  unfold column
  split
  · exact hH _ _ _
  · split
    · exact hR _ _ _
    · simp

theorem diff_at (b : Fin 16) (t : Fin 64) (k k' : Fin 256) (w : ℕ) (hw : 0 < w) (i j : Fin 80) (hi : i.val = 16 + t.val) (hj : j.val + w = 16 + t.val) (hk : k'.val = k.val) :
    before (rows H (cols R)) (ix3 b i k') - before (rows H (cols R)) (ix3 b j k') = window (column H R b k) w (15 + t.val) := by
  rw [show k' = k from Fin.ext hk, before_at, before_at, hi, ← hj, window_eq _ (column_real H R hH hR b k) _ _ hw]
  congr 1
  omega

omit hH hR in
theorem count_at (w : BitVec 32) (b : Fin 16) (t : Fin 64) (x : Fin 64) : count w (ix3 b t x) = Tail.count t.val w := by
  pointwise [count]
  rfl

theorem mean0_at (b : Fin 16) (t : Fin 64) (x : Fin 64) (k : Fin 256) (hk : x.val = k.val) :
    mean0 (before (rows H (cols R))) (ix3 b t x) = Ideal.div (window (column H R b k) 2 (15 + t.val)) (Tail.count t.val 2#32) := by
  pointwise [mean0, upto]
  rw [count_at]
  exact congrArg (fun z => Ideal.div z _) (diff_at H R hH hR b t k _ 2 (by decide) _ _ rfl (by show 14 + t.val + 2 = _; omega) hk)

theorem mean1_at (b : Fin 16) (t : Fin 64) (x : Fin 64) (k : Fin 256) (hk : 64 + x.val = k.val) :
    mean1 (before (rows H (cols R))) (ix3 b t x) = Ideal.div (window (column H R b k) 4 (15 + t.val)) (Tail.count t.val 4#32) := by
  pointwise [mean1, upto]
  rw [count_at]
  exact congrArg (fun z => Ideal.div z _) (diff_at H R hH hR b t k _ 4 (by decide) _ _ rfl (by show 12 + t.val + 4 = _; omega) hk)

theorem mean2_at (b : Fin 16) (t : Fin 64) (x : Fin 64) (k : Fin 256) (hk : 128 + x.val = k.val) :
    mean2 (before (rows H (cols R))) (ix3 b t x) = Ideal.div (window (column H R b k) 8 (15 + t.val)) (Tail.count t.val 8#32) := by
  pointwise [mean2, upto]
  rw [count_at]
  exact congrArg (fun z => Ideal.div z _) (diff_at H R hH hR b t k _ 8 (by decide) _ _ rfl (by show 8 + t.val + 8 = _; omega) hk)

theorem mean3_at (b : Fin 16) (t : Fin 64) (x : Fin 64) (k : Fin 256) (hk : 192 + x.val = k.val) :
    mean3 (before (rows H (cols R))) (ix3 b t x) = Ideal.div (window (column H R b k) 16 (15 + t.val)) (Tail.count t.val 16#32) := by
  pointwise [mean3, upto]
  rw [count_at]
  exact congrArg (fun z => Ideal.div z _) (diff_at H R hH hR b t k _ 16 (by decide) _ _ rfl (by show t.val + 16 = _; omega) hk)

theorem pooled_at (b : Fin 16) (t : Fin 64) (k : Fin 256) :
    pooled (before (rows H (cols R))) (cols R) (ix3 b t k) = Tail.pooled H R b t k := by
  have hk := k.isLt
  pointwise [pooled]
  rw [cols_at]
  unfold Tail.pooled
  refine congrArg₂ HSub.hSub ?_ rfl
  by_cases h0 : k.val < 64
  · rw [dif_pos h0, show k.val / 64 = 0 by omega]
    exact mean0_at H R hH hR b t _ k rfl
  rw [dif_neg h0]
  by_cases h1 : k.val - 64 < 64
  · rw [dif_pos h1, show k.val / 64 = 1 by omega]
    exact mean1_at H R hH hR b t _ k (by show 64 + (k.val - 64) = _; omega)
  rw [dif_neg h1]
  by_cases h2 : k.val - 64 - 64 < 64
  · rw [dif_pos h2, show k.val / 64 = 2 by omega]
    exact mean2_at H R hH hR b t _ k (by show 128 + (k.val - 64 - 64) = _; omega)
  · rw [dif_neg h2, show k.val / 64 = 3 by omega]
    exact mean3_at H R hH hR b t _ k (by show 192 + (k.val - 64 - 64 - 64) = _; omega)

theorem part2_at (W : FVec Ideal S4x64x64 .f32) (S : FVec Ideal S256 .f32) (b : Fin 16) (t : Fin 64) (k : Fin 256) :
    mulf (mixPool (pooled (before (rows H (cols R))) (cols R)) W S) (narrow (gateP R)) (ix3 b t k) = part2 H R W S b t k := by
  pointwise [mixPool, narrow, gateP]
  unfold part2
  rw [silu_eq]
  refine congrArg (fun z : EReal => z * S (ix1 k) * silu (R (ix3 b t ⟨768 + k.val, by omega⟩))) (Finset.sum_congr rfl fun x _ => ?_)
  rw [mul_comm, pooled_at H R hH hR]

end

theorem part1_at (R : FVec Ideal S16x64x1536 .f32) (O : FVec Ideal S16x64x512 .f32) (b : Fin 16) (t : Fin 64) (k : Fin 512) :
    mulf O (wide (gateO R)) (ix3 b t k) = part1 O R b t k := by
  pointwise [wide, gateO]
  unfold part1
  rw [silu_eq]

theorem maxes_at (s : FVec Ideal S16x4x64x256 .f32) (b : Fin 16) (h : Fin 4) (t : Fin 64) : maxes s (ix3 b h t) = top (fun n => s (ix4 b h t n)) :=
  Epi.Ref.last_max s _ _ _ b h t

theorem spread_at (x : FVec Ideal S16x4x64 .f32) (b : Fin 16) (h : Fin 4) (t : Fin 64) (n : Fin 256) : spread x (ix4 b h t n) = x (ix3 b h t) := by
  pointwise [spread]

theorem tops_gen (x : FVec Ideal S16x4x64 .f32) (b : Fin 16) (h : Fin 4) (t : Fin 64) : tops x (ix3 b h t) = max (Ideal.ofBits .f32 0xFF800000#32) (x (ix3 b h t)) := by
  pointwise [tops]

theorem tops_at (s : FVec Ideal S16x4x64x256 .f32) (b : Fin 16) (h : Fin 4) (t : Fin 64) : tops (maxes s) (ix3 b h t) = top (fun n => s (ix4 b h t n)) := by
  rw [tops_gen, maxes_at, max_top]

theorem totals_at (e : FVec Ideal S16x4x64x256 .f32) (b : Fin 16) (h : Fin 4) (t : Fin 64) : totals e (ix3 b h t) = ∑ n, e (ix4 b h t n) := by
  refine (Epi.Ref.last_sum e _ _ _ b h t).trans ?_
  pointwise []

theorem exps_at (s : FVec Ideal S16x4x64x256 .f32) (b : Fin 16) (h : Fin 4) (t : Fin 64) (n : Fin 256) :
    exps s (ix4 b h t n) = Ideal.exp (s (ix4 b h t n) - top (fun n => s (ix4 b h t n))) :=
  congrArg (fun z => Ideal.exp (s (ix4 b h t n) - z)) ((spread_at _ b h t n).trans (tops_at s b h t))

theorem over (e : FVec Ideal S16x4x64x256 .f32) (x : FVec Ideal S16x4x64 .f32) (b : Fin 16) (h : Fin 4) (t : Fin 64) (n : Fin 256) :
    Host.divf e (spread x) (ix4 b h t n) = Ideal.div (e (ix4 b h t n)) (x (ix3 b h t)) := by
  pointwise [spread]

theorem soft_at (s : FVec Ideal S16x4x64x256 .f32) (b : Fin 16) (h : Fin 4) (t : Fin 64) (n : Fin 256) :
    soft s (ix4 b h t n) = soften (fun n => s (ix4 b h t n)) n := by
  unfold soft soften
  rw [over, totals_at]
  simp only [exps_at]

theorem scores_at (R : FVec Ideal S16x64x1536 .f32) (K : FVec Ideal S16x256x256 .f32) (b : Fin 16) (h : Fin 4) (t : Fin 64) (n : Fin 256) :
    scores (queries R) K (ix4 b h t n) = score R K b t h n := by
  pointwise [scores, queries]
  exact div_eight _

theorem part3_at (R : FVec Ideal S16x64x1536 .f32) (K V : FVec Ideal S16x256x256 .f32) (b : Fin 16) (t : Fin 64) (k : Fin 256) :
    mulf (attend (soft (scores (queries R) K)) V) (narrow (gateX R)) (ix3 b t k) = part3 R K V b t k := by
  pointwise [attend, narrow, gateX]
  unfold part3
  rw [silu_eq]
  refine congrArg (fun z : EReal => z * silu (R (ix3 b t ⟨1280 + k.val, by omega⟩))) (Finset.sum_congr rfl fun x _ => ?_)
  rw [mul_comm, soft_at]
  simp only [scores_at]

theorem total_at (X : FVec Ideal S16x64x1024 .f32) (a : FVec Ideal S16x64x512 .f32) (p q : FVec Ideal S16x64x256 .f32) (W : FVec Ideal S1024x1024 .f32)
    (b : Fin 16) (t : Fin 64) (n : Fin 1024) : total X a p q W (ix3 b t n)
      = Epi.total (X (ix3 b t n)) (fun k => a (ix3 b t k)) (fun k => p (ix3 b t k)) (fun k => q (ix3 b t k)) (fun k => W (ix2 k n)) := by
  pointwise [total]
  unfold Epi.total
  rw [sum_1024]
  refine congrArg (fun z : EReal => X (ix3 b t n) + z) (congrArg₂ (· + ·) (congrArg₂ (· + ·) ?_ ?_) ?_)
  · exact Finset.sum_congr rfl fun k _ => congrArg (fun z : EReal => z * _) (dif_pos k.isLt)
  · refine Finset.sum_congr rfl fun k _ => congrArg (fun z : EReal => z * _) ((dif_neg (by show ¬ 512 + k.val < 512; omega)).trans ((dif_pos (by show 512 + k.val - 512 < 256; omega)).trans ?_))
    exact congr3 (fun i j d => p (ix3 i j d)) rfl rfl (by show 512 + k.val - 512 = k.val; omega)
  · refine Finset.sum_congr rfl fun k _ => congrArg (fun z : EReal => z * _) ((dif_neg (by show ¬ 768 + k.val < 512; omega)).trans ((dif_neg (by show ¬ 768 + k.val - 512 < 256; omega)).trans ?_))
    exact congr3 (fun i j d => q (ix3 i j d)) rfl rfl (by show 768 + k.val - 512 - 256 = k.val; omega)

theorem norm_at (y : FVec Ideal S16x64x1024 .f32) (G : FVec Ideal S1024 .f32) (b : Fin 16) (t : Fin 64) (n : Fin 1024) :
    norm y G (ix3 b t n) = normed (fun d => y (ix3 b t d)) (fun d => G (ix1 d)) n := by
  pointwise [norm]
  rfl

theorem res_at (hH : ∀ (b : Fin 16) (s : Fin 15) (k : Fin 256), (m ((c.tc : Thread nD τ).loc main_arg3) : S16x15x256.Idx → EReal) (ix3 b s k)
      = (((m ((c.tc : Thread nD τ).loc main_arg3) : S16x15x256.Idx → EReal) (ix3 b s k)).toReal : EReal))
    (hR : ∀ (b : Fin 16) (t : Fin 64) (k : Fin 256), (m ((c.tc : Thread nD τ).loc main_arg2) : S16x64x1536.Idx → EReal) (ix3 b t ⟨512 + k.val, by omega⟩)
      = (((m ((c.tc : Thread nD τ).loc main_arg2) : S16x64x1536.Idx → EReal) (ix3 b t ⟨512 + k.val, by omega⟩)).toReal : EReal))
    (b : Fin 16) (t : Fin 64) (n : Fin 1024) :
    (Value.res_main_v107 (F := Ideal) m c : S16x64x1024.Idx → EReal) (ix3 b t n)
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8))
        (m ((c.tc : Thread nD τ).loc main_arg9)) b t n := by
  refine (congrFun (res_eq m c) _).trans ((norm_at _ _ b t n).trans ?_)
  unfold result
  refine congrArg (fun x => normed x _ n) (funext fun d => (total_at _ _ _ _ _ b t d).trans ?_)
  rw [funext fun k => part1_at _ _ b t k, funext fun k => part2_at _ _ hH hR _ _ b t k, funext fun k => part3_at _ _ _ b t k]

end Cert.Proof.L.Tail.Ref

end
-- ==== Proof.L.Tail.lean ====
/-
  The sample's last rows: the value claim, where the pooled columns and their history are finite.
-/
module

public import proofs.«01_k».proof.Proof.V.Value
public import proofs.«01_k».proof.Proof.L.TailKer
public import proofs.«01_k».proof.Proof.L.TailRef

@[expose] public section

noncomputable section

namespace Cert.Proof.L.Tail

open Idealize.ShloMosaic Idealize.SL.Sem

theorem pre_facts : Cert.Pre_finite_rows.Facts := ⟨by decide, by decide, by decide⟩

section Pre

variable [Cert.Pre_finite_rows.Facts] (X : FVec Ideal Cert.Pre_finite_rows.S16x64x1024 .f32) (O : FVec Ideal Cert.Pre_finite_rows.S16x64x512 .f32)
  (R : FVec Ideal Cert.Pre_finite_rows.S16x64x1536 .f32) (H : FVec Ideal Cert.Pre_finite_rows.S16x15x256 .f32) (K V : FVec Ideal Cert.Pre_finite_rows.S16x256x256 .f32)
  (W : FVec Ideal Cert.Pre_finite_rows.S4x64x64 .f32) (S : FVec Ideal Cert.Pre_finite_rows.S256 .f32) (P : FVec Ideal Cert.Pre_finite_rows.S1024x1024 .f32)
  (G : FVec Ideal Cert.Pre_finite_rows.S1024 .f32) (h : Cert.Pre_finite_rows.fn (F := Ideal) X O R H K V W S P G = fun _ => 1#1)
include h

/-- Where the flag is up everywhere, the pooled columns' rows behind their history are real. -/
theorem row_real (b : Fin 16) (s : Fin 79) (k : Fin 256) :
    (if h : s.val < 15 then H (ix3 b ⟨s.val, h⟩ k) else R (ix3 b ⟨s.val - 15, by omega⟩ ⟨512 + k.val, by omega⟩))
      = ((if h : s.val < 15 then H (ix3 b ⟨s.val, h⟩ k) else R (ix3 b ⟨s.val - 15, by omega⟩ ⟨512 + k.val, by omega⟩) : EReal).toReal : EReal) := by
  have e := congrFun h (ix3 b s k)
  pointwise [Cert.Pre_finite_rows.fn] at e
  exact Cert.Proof.V.real_of_abs _ _ (Cert.Proof.V.lt_of_flag _ _ e)

theorem hist_real (b : Fin 16) (s : Fin 15) (k : Fin 256) : H (ix3 b s k) = ((H (ix3 b s k)).toReal : EReal) := by
  have e := row_real X O R H K V W S P G h b ⟨s.val, by omega⟩ k
  rwa [dif_pos s.isLt] at e

theorem cols_real (b : Fin 16) (t : Fin 64) (k : Fin 256) : R (ix3 b t ⟨512 + k.val, by omega⟩) = ((R (ix3 b t ⟨512 + k.val, by omega⟩)).toReal : EReal) := by
  have e := row_real X O R H K V W S P G h b ⟨15 + t.val, by omega⟩ k
  rw [dif_neg (by show ¬ 15 + t.val < 15; omega)] at e
  have i : (⟨15 + t.val - 15, by omega⟩ : Fin 64) = t := Fin.ext (by show 15 + t.val - 15 = t.val; omega)
  exact i ▸ e

end Pre

theorem algebraic [hK : Cert.Kernel6Ideal.Facts] [hR : Cert.Reference6Ideal.Facts] [hPre : Cert.Pre_finite_rows.Facts] :
    Cert.algebraic_Kernel6Ideal_Reference6Ideal_pre_finite_rows := by
  intro m g m' g' hpre hagree
  refine ⟨_, Cert.Kernel6Ideal.Value.run_blocks m g, ?_⟩
  refine (θ_run Cert.Reference6Ideal.defs _ _).mono (fun _ h c => ⟨(h c).1.trans ?_, (h c).2⟩) (Cert.Reference6Ideal.Value.run (F := Ideal) m' g')
  obtain ⟨e0, e1, e2, e3, e4, e5, e6, e7, e8, e9⟩ := hagree c
  refine Eq.trans (funext fun y => ?_) (Ker.final m c).symm
  refine (congrArg _ (ValueIdx.eq_ix3 y)).trans ((Ref.res_at m' c (fun b s k => ?_) (fun b t k => ?_) (y 0) (y 1) (y 2)).trans ?_)
  · rw [e3]
    exact hist_real _ _ _ _ _ _ _ _ _ _ (hpre c) b s k
  · rw [e2]
    exact cols_real _ _ _ _ _ _ _ _ _ _ (hpre c) b t k
  · rw [e0, e1, e2, e3, e4, e5, e6, e7, e8, e9]
    rfl

end Cert.Proof.L.Tail

end
-- ==== Proof.L.Prompt.lean ====
/-
  The prompt's projection: the arrays the kernel's run leaves.
-/
module

public import proofs.«01_k».proof.Proof.Gen.Kernel2Ideal.Value
public import proofs.«01_k».proof.Proof.L.Norm

@[expose] public section

noncomputable section

namespace Cert.Proof.L.Prompt

open Idealize.ShloMosaic Idealize.SL.Sem
open Cert.Kernel2Ideal Cert.Kernel2Ideal.Gen

/-- The projection of row `i`, `j` at column `k`. -/
def entry (X : S2x8192x1024.Idx → EReal) (G : S1024.Idx → EReal) (W : S1024x3072.Idx → EReal) (i : Fin 2) (j : Fin 8192) (k : Fin 3072) : EReal :=
  product (fun d => X (ix3 i j d)) (fun d => G (ix1 d)) (fun d => W (ix2 d k))

/-- 512 columns from `o` on, time minor. -/
def columns (o : ℕ) (ho : o + 512 ≤ 3072) (X : S2x8192x1024.Idx → EReal) (G : S1024.Idx → EReal) (W : S1024x3072.Idx → EReal) : S2x512x8192.Idx → EReal := fun y =>
  entry X G W (y 0) (y 2) ⟨o + (y 1).val, lt_of_lt_of_le (Nat.add_lt_add_left (y 1).isLt o) ho⟩

/-- The batch and the position of a row. -/
abbrev batch (r : Fin 16384) : Fin 2 := ⟨r.val / 8192, Nat.div_lt_of_lt_mul r.isLt⟩
abbrev place (r : Fin 16384) : Fin 8192 := ⟨r.val % 8192, Nat.mod_lt _ (by decide)⟩

/-- The queries over the root of the width, the keys and the values, by rows. -/
def qkv (X : S2x8192x1024.Idx → EReal) (G : S1024.Idx → EReal) (W : S1024x3072.Idx → EReal) : S16384x1536.Idx → EReal := fun y =>
  if (y 1).val < 512 then entry X G W (batch (y 0)) (place (y 0)) ⟨(y 1).val, lt_trans (y 1).isLt (by decide)⟩ * Ideal.ofBits .f32 0x3E000000#32
  else entry X G W (batch (y 0)) (place (y 0)) ⟨(y 1).val, lt_trans (y 1).isLt (by decide)⟩

/-- The other columns, by rows. -/
def rest (X : S2x8192x1024.Idx → EReal) (G : S1024.Idx → EReal) (W : S1024x3072.Idx → EReal) : S16384x1536.Idx → EReal := fun y =>
  entry X G W (batch (y 0)) (place (y 0)) ⟨1536 + (y 1).val, lt_of_lt_of_eq (Nat.add_lt_add_left (y 1).isLt 1536) rfl⟩

section Payloads

variable (P0 : Vec Ideal S512x1024 .f32) (P1 : Vec Ideal S1x1024 .f32)

theorem pay5 (r : Fin 512) (d : Fin 1024) : k0_pay5 P0 P1 (ix2 r d) = normed (fun d => P0 (ix2 r d)) (fun d => P1 (ix2 0 d)) d := by
  pointwise [k0_pay5]
  rfl

theorem pay6 (P2 : Vec Ideal S1024x512 .bf16) (r k : Fin 512) :
    k0_pay6 P0 P1 P2 (ix2 r k) = product (fun d => P0 (ix2 r d)) (fun d => P1 (ix2 0 d)) (fun d => P2 (ix2 d k)) * Ideal.ofBits .f32 0x3E000000#32 := by
  pointwise [k0_pay6]
  simp only [pay5]
  rfl

theorem pay7 (P2 : Vec Ideal S512x1024 .bf16) (k r : Fin 512) :
    k0_pay7 P0 P1 P2 (ix2 k r) = product (fun d => P0 (ix2 r d)) (fun d => P1 (ix2 0 d)) (fun d => P2 (ix2 k d)) := by
  pointwise [k0_pay7]
  simp only [pay5]
  exact product_comm _ _ _

theorem pay8 (P2 : Vec Ideal S512x1024 .bf16) (k r : Fin 512) :
    k0_pay8 P0 P1 P2 (ix2 k r) = product (fun d => P0 (ix2 r d)) (fun d => P1 (ix2 0 d)) (fun d => P2 (ix2 k d)) := by
  pointwise [k0_pay8]
  simp only [pay5]
  exact product_comm _ _ _

theorem pay4 (P2 : Vec Ideal S1024x1536 .bf16) (r : Fin 512) (k : Fin 1536) :
    k0_pay4 (k0_pay5 P0 P1) P2 (ix2 r k) = product (fun d => P0 (ix2 r d)) (fun d => P1 (ix2 0 d)) (fun d => P2 (ix2 d k)) := by
  pointwise [k0_pay4]
  simp only [pay5]
  rfl

theorem pay2 (A : FVec Ideal S512x512 .f32) (r k : Fin 512) : k0_pay2 A (ix2 r k) = A (ix2 k r) := by
  pointwise [k0_pay2]

theorem pay3 (A : FVec Ideal S512x512 .f32) (r k : Fin 512) : k0_pay3 A (ix2 r k) = A (ix2 k r) := by
  pointwise [k0_pay3]

end Payloads

variable (m : (ℓ : Loc nD τ sig) → Buf (Elt Ideal) ℓ) (c : Dev nD)

/-- The rows, the gain and the weights. -/
abbrev argX : S2x8192x1024.Idx → EReal := m ((c.tc : Thread nD τ).loc main_arg0)
abbrev argG : S1024.Idx → EReal := m ((c.tc : Thread nD τ).loc main_arg1)
abbrev argW : S1024x3072.Idx → EReal := m ((c.tc : Thread nD τ).loc main_arg2)

theorem idx0 : ∀ t : Fin (cfg0).N, win0_0.index t = ![t.val, 0] := (by decide +kernel : ∀ t : Fin grid0.N, _)
theorem idx1 : ∀ t : Fin (cfg0).N, win0_1.index t = ![0, 0] := (by decide +kernel : ∀ t : Fin grid0.N, _)
theorem idx2 : ∀ t : Fin (cfg0).N, win0_2.index t = ![0, 0] := (by decide +kernel : ∀ t : Fin grid0.N, _)
theorem idx3 : ∀ t : Fin (cfg0).N, win0_3.index t = ![0, 0] := (by decide +kernel : ∀ t : Fin grid0.N, _)
theorem idx4 : ∀ t : Fin (cfg0).N, win0_4.index t = ![t.val / 16, 0, t.val % 16] := (by decide +kernel : ∀ t : Fin grid0.N, _)
theorem idx5 : ∀ t : Fin (cfg0).N, win0_5.index t = ![t.val / 16, 0, t.val % 16] := (by decide +kernel : ∀ t : Fin grid0.N, _)
theorem idx6 : ∀ t : Fin (cfg0).N, win0_6.index t = ![t.val, 0] := (by decide +kernel : ∀ t : Fin grid0.N, _)
theorem idx7 : ∀ t : Fin (cfg0).N, win0_7.index t = ![t.val, 0] := (by decide +kernel : ∀ t : Fin grid0.N, _)

theorem V3 : (V m c main_v3 : S16384x1024.Idx → EReal) = shapeCast S16384x1024 (argX m c) shapeCasts_S2x8192x1024_S16384x1024 := by
  simp only [V, hostOps0]
  after_results <;> rfl
theorem V4 : (V m c main_v4 : S1x1024.Idx → EReal) = shapeCast S1x1024 (argG m c) shapeCasts_S1024_S1x1024 := by
  simp only [V, hostOps0]
  after_results <;> rfl
theorem V5 : (V m c main_v5 : S1024x3072.Idx → EReal) = argW m c := by
  simp only [V, hostOps0]
  after_results <;> rfl
theorem V2 : (V m c main_v2 : S1024x1024.Idx → EReal)
    = transpose S1024x1024 [1, 0] (extractStridedSlice S1024x1024 ![0, 512] (argW m c) slices_S1024x3072_S1024x1024_0_512) transposes_S1024x1024_S1024x1024_1_0 := by
  simp only [V, hostOps0]
  after_results <;> rfl

theorem V3_apply (y : S16384x1024.Idx) (i : Fin 2) (j : Fin 8192) (d : Fin 1024) (hi : (y 0).val / 8192 = i.val) (hj : (y 0).val % 8192 = j.val)
    (hd : (y 1).val = d.val) : (V m c main_v3 : S16384x1024.Idx → EReal) y = argX m c (ix3 i j d) := by
  rw [V3, ValueIdx.eq_ix2 y]
  pointwise []
  exact congr3 (fun i j d => argX m c (ix3 i j d)) hi hj hd

theorem V4_apply (y : S1x1024.Idx) (d : Fin 1024) (hd : (y 1).val = d.val) :
    (V m c main_v4 : S1x1024.Idx → EReal) y = argG m c (ix1 d) := by
  rw [V4, ValueIdx.eq_ix2 y]
  pointwise []
  exact congrArg (argG m c) (congrArg ix1 (Fin.ext hd))

theorem V2_apply (y : S1024x1024.Idx) (d : Fin 1024) (k : Fin 3072) (hk : (y 0).val + 512 = k.val) (hd : (y 1).val = d.val) :
    (V m c main_v2 : S1024x1024.Idx → EReal) y = argW m c (ix2 d k) := by
  rw [V2, ValueIdx.eq_ix2 y]
  pointwise []
  refine congr2 (fun d k => argW m c (ix2 d k)) hd ((Nat.add_comm _ _).trans hk)

theorem blk0 (t : Fin (cfg0).N) (r : Fin 512) (d : Fin 1024) (i : Fin 2) (j : Fin 8192) (hi : (t.val * 512 + r.val) / 8192 = i.val)
    (hj : (t.val * 512 + r.val) % 8192 = j.val) : View.ld (iblk m c 0 t) r0_0 (ix2 r d) = argX m c (ix3 i j d) := by
  refine (congrFun (View.ld_unit_lit _ _ zeros) _).trans ?_
  blk_simp [iblk, idx0]
  refine V3_apply m c _ i j d ?_ ?_ ?_
  · blk_simp [idx0]
    exact hi
  · blk_simp [idx0]
    exact hj
  · blk_simp [idx0]

theorem blk1 (t : Fin (cfg0).N) (d : Fin 1024) : View.ld (iblk m c 1 t) r0_1 (ix2 0 d) = argG m c (ix1 d) := by
  refine (congrFun (View.ld_unit_lit _ _ zeros) _).trans ?_
  blk_simp [iblk, idx1]
  refine V4_apply m c _ d ?_
  blk_simp [idx1]

theorem blk2 (t : Fin (cfg0).N) (y : S1024x3072.Idx) : (iblk m c 2 t : S1024x3072.Idx → EReal) y = argW m c y := by
  blk_simp [iblk, idx2]
  rw [V5]
  refine congrArg (argW m c) (funext (Fin.forall_fin_two.mpr ⟨Fin.ext ?_, Fin.ext ?_⟩))
  · blk_simp [idx2]
  · blk_simp [idx2]

theorem blk3 (t : Fin (cfg0).N) (y : S1024x1024.Idx) (d : Fin 1024) (k : Fin 3072) (hk : (y 0).val + 512 = k.val) (hd : (y 1).val = d.val) :
    (iblk m c 3 t : S1024x1024.Idx → EReal) y = argW m c (ix2 d k) := by
  blk_simp [iblk, idx3]
  refine V2_apply m c _ d k ?_ ?_
  · blk_simp [idx3]
    exact hk
  · blk_simp [idx3]
    exact hd

theorem ldq (t : Fin (cfg0).N) (d : Fin 1024) (k : Fin 512) (k' : Fin 3072) (hk : k.val = k'.val) : View.ld (iblk m c 2 t) r0_2 (ix2 d k) = argW m c (ix2 d k') :=
  (View.ld_unit_apply_of _ _ _ _ _ (ix2 d k' : S1024x3072.Idx) (Fin.forall_fin_two.mpr ⟨(Nat.zero_add _).symm, hk.symm.trans (Nat.zero_add _).symm⟩)).trans (blk2 m c t _)

theorem ldr (t : Fin (cfg0).N) (d : Fin 1024) (k : Fin 1536) (k' : Fin 3072) (hk : 1536 + k.val = k'.val) : View.ld (iblk m c 2 t) r0_9 (ix2 d k) = argW m c (ix2 d k') := by
  refine (View.ld_unit_apply_of _ _ _ _ _ (ix2 d k' : S1024x3072.Idx) ?_).trans (blk2 m c t _)
  exact Fin.forall_fin_two.mpr ⟨(Nat.zero_add _).symm, hk.symm⟩

theorem ldk (t : Fin (cfg0).N) (k : Fin 512) (d : Fin 1024) (k' : Fin 3072) (hk : 512 + k.val = k'.val) : View.ld (iblk m c 3 t) r0_4 (ix2 k d) = argW m c (ix2 d k') :=
  (View.ld_unit_apply_of _ _ _ _ _ (ix2 ⟨k.val, by omega⟩ d : S1024x1024.Idx) (Fin.forall_fin_two.mpr ⟨(Nat.zero_add _).symm, (Nat.zero_add _).symm⟩)).trans
    (blk3 m c t _ d k' ((Nat.add_comm _ _).trans hk) rfl)

theorem ldv (t : Fin (cfg0).N) (k : Fin 512) (d : Fin 1024) (k' : Fin 3072) (hk : 1024 + k.val = k'.val) : View.ld (iblk m c 3 t) r0_5 (ix2 k d) = argW m c (ix2 d k') :=
  (View.ld_unit_apply_of _ _ _ _ _ (ix2 ⟨512 + k.val, by omega⟩ d : S1024x1024.Idx) (Fin.forall_fin_two.mpr ⟨rfl, (Nat.zero_add _).symm⟩)).trans
    (blk3 m c t _ d k' (by rw [← hk]; show 512 + k.val + 512 = 1024 + k.val; omega) rfl)

theorem emb6_0 (t : Fin (cfg0).N) (y : S512x1536.Idx) : ((win0_6.blk t).view.emb y 0).val = t.val * 512 + (y 0).val := by
  blk_simp [idx6]
theorem emb6_1 (t : Fin (cfg0).N) (y : S512x1536.Idx) : ((win0_6.blk t).view.emb y 1).val = (y 1).val := by
  blk_simp [idx6]

theorem emb7_0 (t : Fin (cfg0).N) (y : S512x1536.Idx) : ((win0_7.blk t).view.emb y 0).val = t.val * 512 + (y 0).val := by
  blk_simp [idx7]
theorem emb7_1 (t : Fin (cfg0).N) (y : S512x1536.Idx) : ((win0_7.blk t).view.emb y 1).val = (y 1).val := by
  blk_simp [idx7]

/-- The projection of the arguments. -/
abbrev ent (i : Fin 2) (j : Fin 8192) (k : Fin 3072) : EReal := entry (argX m c) (argG m c) (argW m c) i j k

section Blocks

variable (t : Fin (cfg0).N) (r : Fin 512) (i : Fin 2) (j : Fin 8192) (k' : Fin 3072)
  (hi : (t.val * 512 + r.val) / 8192 = i.val) (hj : (t.val * 512 + r.val) % 8192 = j.val)

include hi hj

theorem at_q (k : Fin 512) (hk : k.val = k'.val) :
    k0_pay6 (View.ld (iblk m c 0 t) r0_0) (View.ld (iblk m c 1 t) r0_1) (View.ld (iblk m c 2 t) r0_2) (ix2 r k) = ent m c i j k' * Ideal.ofBits .f32 0x3E000000#32 :=
  (pay6 _ _ _ r k).trans (congrArg (· * Ideal.ofBits .f32 0x3E000000#32)
    (product_congr (fun d => blk0 m c t r d i j hi hj) (blk1 m c t) (fun d => ldq m c t d k k' hk)))

theorem at_k (k : Fin 512) (hk : 512 + k.val = k'.val) :
    k0_pay7 (View.ld (iblk m c 0 t) r0_0) (View.ld (iblk m c 1 t) r0_1) (View.ld (iblk m c 3 t) r0_4) (ix2 k r) = ent m c i j k' :=
  (pay7 _ _ _ k r).trans (product_congr (fun d => blk0 m c t r d i j hi hj) (blk1 m c t) (fun d => ldk m c t k d k' hk))

theorem at_v (k : Fin 512) (hk : 1024 + k.val = k'.val) :
    k0_pay8 (View.ld (iblk m c 0 t) r0_0) (View.ld (iblk m c 1 t) r0_1) (View.ld (iblk m c 3 t) r0_5) (ix2 k r) = ent m c i j k' :=
  (pay8 _ _ _ k r).trans (product_congr (fun d => blk0 m c t r d i j hi hj) (blk1 m c t) (fun d => ldv m c t k d k' hk))

theorem at_r (k : Fin 1536) (hk : 1536 + k.val = k'.val) :
    k0_pay4 (k0_pay5 (View.ld (iblk m c 0 t) r0_0) (View.ld (iblk m c 1 t) r0_1)) (View.ld (iblk m c 2 t) r0_9) (ix2 r k) = ent m c i j k' :=
  (pay4 _ _ _ r k).trans (product_congr (fun d => blk0 m c t r d i j hi hj) (blk1 m c t) (fun d => ldr m c t d k k' hk))

end Blocks

theorem final4 : (dats m 0 c).arrAt 4 (cfg0).N = columns 512 (by decide) (argX m c) (argG m c) (argW m c) := by
  refine (dats m 0 c).arrAt_eq_of_covers 4 _ (by decide +kernel) fun t hf y => ?_
  blk_simp [idx4]
  rw [after0_4]
  unfold columns
  have h0 : (y 0).val < 1 := (y 0).isLt
  have h1 : (y 1).val < 512 := (y 1).isLt
  have h2 : (y 2).val < 512 := (y 2).isLt
  have e : (Cert.Kernel2Ideal.Value.ix4_0 y 1).val = (y 2).val := rfl
  refine (Cert.Kernel2Ideal.Value.canon4_eq _ _ _ y).trans ((congrArg (k0_pay7 _ _ _) (ValueIdx.eq_ix2 _)).trans (at_k m c t _ _ _ _ ?_ ?_ _ ?_))
  · blk_simp [idx4]
    omega
  · blk_simp [idx4]
    omega
  · blk_simp [idx4]

theorem final5 : (dats m 0 c).arrAt 5 (cfg0).N = columns 1024 (by decide) (argX m c) (argG m c) (argW m c) := by
  refine (dats m 0 c).arrAt_eq_of_covers 5 _ (by decide +kernel) fun t hf y => ?_
  blk_simp [idx5]
  rw [after0_5]
  unfold columns
  have h0 : (y 0).val < 1 := (y 0).isLt
  have h1 : (y 1).val < 512 := (y 1).isLt
  have h2 : (y 2).val < 512 := (y 2).isLt
  have e : (Cert.Kernel2Ideal.Value.ix5_0 y 1).val = (y 2).val := rfl
  refine (Cert.Kernel2Ideal.Value.canon5_eq _ _ _ y).trans ((congrArg (k0_pay8 _ _ _) (ValueIdx.eq_ix2 _)).trans (at_v m c t _ _ _ _ ?_ ?_ _ ?_))
  · blk_simp [idx5]
    omega
  · blk_simp [idx5]
    omega
  · blk_simp [idx5]

theorem final7 : (dats m 0 c).arrAt 7 (cfg0).N = rest (argX m c) (argG m c) (argW m c) := by
  refine (dats m 0 c).arrAt_eq_of_covers 7 _ (by decide +kernel) fun t hf y => ?_
  blk_simp [idx7]
  rw [after0_7]
  unfold rest out0_7
  refine (congrFun (View.canon_cons_unit_lit _ _ _ zeros) y).trans ((congrArg (k0_pay4 _ _) (ValueIdx.eq_ix2 y)).trans (at_r m c t _ _ _ _ ?_ ?_ _ ?_))
  · exact congrArg (· / 8192) (emb7_0 t y).symm
  · exact congrArg (· % 8192) (emb7_0 t y).symm
  · exact congrArg (1536 + ·) (emb7_1 t y).symm

/-- The block of `qkv` at a point. -/
def qkvBlock (t : Fin (cfg0).N) : Vec Ideal S512x1536 .bf16 := fun y => qkv (argX m c) (argG m c) (argW m c) ((win0_6.blk t).view.emb y)

theorem qkvBlock_q (t : Fin (cfg0).N) (y : S512x1536.Idx) (r k : Fin 512) (hr : (y 0).val = r.val) (hk : (y 1).val = k.val) :
    k0_pay6 (View.ld (iblk m c 0 t) r0_0) (View.ld (iblk m c 1 t) r0_1) (View.ld (iblk m c 2 t) r0_2) (ix2 r k) = qkvBlock m c t y := by
  unfold qkvBlock qkv
  blk_simp [idx6]
  rw [if_pos (hk ▸ k.isLt)]
  refine at_q m c t r _ _ _ ?_ ?_ k ?_
  · exact congrArg (· / 8192) ((emb6_0 t y).trans (congrArg (t.val * 512 + ·) hr)).symm
  · exact congrArg (· % 8192) ((emb6_0 t y).trans (congrArg (t.val * 512 + ·) hr)).symm
  · exact hk.symm

theorem qkvBlock_k (t : Fin (cfg0).N) (y : S512x1536.Idx) (r k : Fin 512) (hr : (y 0).val = r.val) (hk : (y 1).val = 512 + k.val) :
    k0_pay7 (View.ld (iblk m c 0 t) r0_0) (View.ld (iblk m c 1 t) r0_1) (View.ld (iblk m c 3 t) r0_4) (ix2 k r) = qkvBlock m c t y := by
  unfold qkvBlock qkv
  blk_simp [idx6]
  rw [if_neg (by omega)]
  refine at_k m c t r _ _ _ ?_ ?_ k ?_
  · exact congrArg (· / 8192) ((emb6_0 t y).trans (congrArg (t.val * 512 + ·) hr)).symm
  · exact congrArg (· % 8192) ((emb6_0 t y).trans (congrArg (t.val * 512 + ·) hr)).symm
  · exact hk.symm

theorem qkvBlock_v (t : Fin (cfg0).N) (y : S512x1536.Idx) (r k : Fin 512) (hr : (y 0).val = r.val) (hk : (y 1).val = 1024 + k.val) :
    k0_pay8 (View.ld (iblk m c 0 t) r0_0) (View.ld (iblk m c 1 t) r0_1) (View.ld (iblk m c 3 t) r0_5) (ix2 k r) = qkvBlock m c t y := by
  unfold qkvBlock qkv
  blk_simp [idx6]
  rw [if_neg (by omega)]
  refine at_v m c t r _ _ _ ?_ ?_ k ?_
  · exact congrArg (· / 8192) ((emb6_0 t y).trans (congrArg (t.val * 512 + ·) hr)).symm
  · exact congrArg (· % 8192) ((emb6_0 t y).trans (congrArg (t.val * 512 + ·) hr)).symm
  · exact hk.symm

theorem final6 : (dats m 0 c).arrAt 6 (cfg0).N = qkv (argX m c) (argG m c) (argW m c) := by
  refine (dats m 0 c).arrAt_eq_of_covers 6 _ (by decide +kernel) fun t hf y => ?_
  blk_simp [idx6]
  rw [after0_6]
  unfold out0_6
  refine (View.canon_apply_of_pieces (qkvBlock m c t) _ ?_ y (cover0_6 _ _ _ y))
  intro pc hpc
  rcases List.mem_cons.mp hpc with rfl | hpc
  · intro x
    refine (congrArg (k0_pay3 _) (ValueIdx.eq_ix2 x)).trans ((pay3 _ _ _).trans (qkvBlock_v m c t _ _ _ ?_ ?_))
    · show 0 + 1 * (x 0).val = (x 0).val
      omega
    · show 1024 + 1 * (x 1).val = 1024 + (x 1).val
      omega
  rcases List.mem_cons.mp hpc with rfl | hpc
  · intro x
    refine (congrArg (k0_pay2 _) (ValueIdx.eq_ix2 x)).trans ((pay2 _ _ _).trans (qkvBlock_k m c t _ _ _ ?_ ?_))
    · show 0 + 1 * (x 0).val = (x 0).val
      omega
    · show 512 + 1 * (x 1).val = 512 + (x 1).val
      omega
  rcases List.mem_cons.mp hpc with rfl | hpc
  · intro x
    refine (congrArg (k0_pay6 _ _ _) (ValueIdx.eq_ix2 x)).trans (qkvBlock_q m c t _ _ _ ?_ ?_)
    · show 0 + 1 * (x 0).val = (x 0).val
      omega
    · show 0 + 1 * (x 1).val = (x 1).val
      omega
  nomatch hpc

end Cert.Proof.L.Prompt

end
-- ==== Proof.L.PromptRef.lean ====
/-
  The prompt's projection: the reference's results, and the value claim.
-/
module

public import proofs.«01_k».proof.Proof.L.Prompt
public import proofs.«01_k».proof.Proof.Gen.Reference2Ideal.Run
public import proofs.«01_k».proof.Defs

@[expose] public section

noncomputable section

namespace Cert.Proof.L.Prompt

open Idealize.ShloMosaic Idealize.SL.Sem

section Reference

open Cert.Reference2Ideal Cert.Reference2Ideal.Gen Cert.Reference2Ideal.Facts

variable (X : FVec Ideal S2x8192x1024 .f32) (G : FVec Ideal S1024 .f32) (W : FVec Ideal S1024x3072 .f32)

/-- The normalised rows. -/
def rows : FVec Ideal S2x8192x1024 .f32 := (mulf (mulf X (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf X X) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 G)))

/-- Their product with the weights. -/
def full : FVec Ideal S2x8192x3072 .f32 := Host.dotGeneral dot_S2x8192x1024_S1024x3072_S2x8192x3072_2_0_01_1_n_n none (rows X G) W

theorem rows_apply (b : Fin 2) (t : Fin 8192) (d : Fin 1024) : rows X G (ix3 b t d) = normed (fun d => X (ix3 b t d)) (fun d => G (ix1 d)) d := by
  pointwise [rows]
  rfl

theorem full_apply (b : Fin 2) (t : Fin 8192) (k : Fin 3072) : full X G W (ix3 b t k) = entry X G W b t k := by
  pointwise [full]
  simp only [rows_apply]
  rfl

def keysT : FVec Ideal S2x512x8192 .f32 :=
  transpose S2x512x8192 [0, 2, 1] (extractStridedSlice S2x8192x512 ![0, 0, 512] (full X G W) slices_S2x8192x3072_S2x8192x512_0_0_512) transposes_S2x8192x512_S2x512x8192_0_2_1

def valuesT : FVec Ideal S2x512x8192 .f32 :=
  transpose S2x512x8192 [0, 2, 1] (extractStridedSlice S2x8192x512 ![0, 0, 1024] (full X G W) slices_S2x8192x3072_S2x8192x512_0_0_1024) transposes_S2x8192x512_S2x512x8192_0_2_1

def others : FVec Ideal S16384x1536 .f32 :=
  shapeCast _ (extractStridedSlice S2x8192x1536 ![0, 0, 1536] (full X G W) slices_S2x8192x3072_S2x8192x1536_0_0_1536) shapeCasts_S2x8192x1536_S16384x1536

def joined : FVec Ideal S2x8192x1536 .f32 :=
  concatenate S2x8192x1536 2 [⟨S2x8192x512, ((Host.divf (extractStridedSlice S2x8192x512 ![0, 0, 0] (full X G W) slices_S2x8192x3072_S2x8192x512_0_0_0) (broadcastInDim S2x8192x512 ![] bcast_S_S2x8192x512 (constant S_ .f32 0x41000000#32))) : FVec Ideal S2x8192x512 .f32)⟩,
    ⟨S2x8192x512, (extractStridedSlice S2x8192x512 ![0, 0, 512] (full X G W) slices_S2x8192x3072_S2x8192x512_0_0_512 : FVec Ideal S2x8192x512 .f32)⟩,
    ⟨S2x8192x512, (extractStridedSlice S2x8192x512 ![0, 0, 1024] (full X G W) slices_S2x8192x3072_S2x8192x512_0_0_1024 : FVec Ideal S2x8192x512 .f32)⟩] concatenates_S2x8192x512_S2x8192x512_S2x8192x512_S2x8192x1536_d2

def joinedRows : FVec Ideal S16384x1536 .bf16 := shapeCast _ (truncf .bf16 (joined X G W) bitsLt_bf16_f32) shapeCasts_S2x8192x1536_S16384x1536

theorem keysT_apply (b : Fin 2) (k : Fin 512) (t : Fin 8192) : keysT X G W (ix3 b k t) = columns 512 (by decide) X G W (ix3 b k t) := by
  pointwise [keysT]
  exact full_apply X G W _ _ _

theorem valuesT_apply (b : Fin 2) (k : Fin 512) (t : Fin 8192) : valuesT X G W (ix3 b k t) = columns 1024 (by decide) X G W (ix3 b k t) := by
  pointwise [valuesT]
  exact full_apply X G W _ _ _

theorem others_apply (r : Fin 16384) (k : Fin 1536) : others X G W (ix2 r k) = rest X G W (ix2 r k) := by
  pointwise [others]
  exact full_apply X G W _ _ _

theorem joined_apply (b : Fin 2) (t : Fin 8192) (k : Fin 1536) : joined X G W (ix3 b t k)
    = if k.val < 512 then entry X G W b t ⟨k.val, lt_trans k.isLt (by decide)⟩ * Ideal.ofBits .f32 0x3E000000#32
      else entry X G W b t ⟨k.val, lt_trans k.isLt (by decide)⟩ := by
  pointwise [joined]
  simp only [full_apply]
  split
  · exact div_eight _
  · split
    · exact congrArg (entry X G W b t) (Fin.ext (by show 512 + (k.val - 512) = k.val; omega))
    · exact congrArg (entry X G W b t) (Fin.ext (by show 1024 + (k.val - 512 - 512) = k.val; omega))

theorem joinedRows_apply (r : Fin 16384) (k : Fin 1536) : joinedRows X G W (ix2 r k) = qkv X G W (ix2 r k) := by
  pointwise [joinedRows]
  exact joined_apply X G W _ _ _

end Reference

theorem algebraic [hK : Cert.Kernel2Ideal.Facts] [hR : Cert.Reference2Ideal.Facts] : Cert.algebraic_Kernel2Ideal_Reference2Ideal := by
  intro m g m' g' _ hagree
  refine ⟨_, _, _, _, Cert.Kernel2Ideal.Value.run_blocks m g, ?_⟩
  refine (θ_run Cert.Reference2Ideal.defs _ _).mono
    (fun _ h c => ⟨(h c).1.trans ?_, (h c).2.1.trans ?_, (h c).2.2.1.trans ?_, (h c).2.2.2.1.trans ?_, (h c).2.2.2.2⟩) (Cert.Reference2Ideal.Value.run (F := Ideal) m' g')
  · obtain ⟨e0, e1, e2⟩ := hagree c
    rw [e0, e1, e2]
    exact (funext fun y => (congrArg _ (ValueIdx.eq_ix3 y)).trans ((keysT_apply _ _ _ _ _ _).trans (congrArg _ (ValueIdx.eq_ix3 y).symm))).trans (final4 m c).symm
  · obtain ⟨e0, e1, e2⟩ := hagree c
    rw [e0, e1, e2]
    exact (funext fun y => (congrArg _ (ValueIdx.eq_ix3 y)).trans ((valuesT_apply _ _ _ _ _ _).trans (congrArg _ (ValueIdx.eq_ix3 y).symm))).trans (final5 m c).symm
  · obtain ⟨e0, e1, e2⟩ := hagree c
    rw [e0, e1, e2]
    exact (funext fun y => (congrArg _ (ValueIdx.eq_ix2 y)).trans ((joinedRows_apply _ _ _ _ _).trans (congrArg _ (ValueIdx.eq_ix2 y).symm))).trans (final6 m c).symm
  · obtain ⟨e0, e1, e2⟩ := hagree c
    rw [e0, e1, e2]
    exact (funext fun y => (congrArg _ (ValueIdx.eq_ix2 y)).trans ((others_apply _ _ _ _ _).trans (congrArg _ (ValueIdx.eq_ix2 y).symm))).trans (final7 m c).symm

end Cert.Proof.L.Prompt

end
-- ==== Proof.L.Sample.lean ====
/-
  The sample's projection: the arrays the kernel's run leaves.
-/
module

public import proofs.«01_k».proof.Proof.Gen.Kernel3Ideal.Value
public import proofs.«01_k».proof.Proof.L.Norm

@[expose] public section

noncomputable section

namespace Cert.Proof.L.Sample

open Idealize.ShloMosaic Idealize.SL.Sem
open Cert.Kernel3Ideal Cert.Kernel3Ideal.Gen

/-- The projection of row `i`, `j` at column `k`. -/
def entry (X : S16x64x1024.Idx → EReal) (G : S1024.Idx → EReal) (W : S1024x3072.Idx → EReal) (i : Fin 16) (j : Fin 64) (k : Fin 3072) : EReal :=
  product (fun d => X (ix3 i j d)) (fun d => G (ix1 d)) (fun d => W (ix2 d k))

/-- The batch and the position of a row. -/
abbrev batch (r : Fin 1024) : Fin 16 := ⟨r.val / 64, Nat.div_lt_of_lt_mul r.isLt⟩
abbrev place (r : Fin 1024) : Fin 64 := ⟨r.val % 64, Nat.mod_lt _ (by decide)⟩

/-- 512 columns from `o` on, by rows. -/
def columns (o : ℕ) (ho : o + 512 ≤ 3072) (X : S16x64x1024.Idx → EReal) (G : S1024.Idx → EReal) (W : S1024x3072.Idx → EReal) : S1024x512.Idx → EReal := fun y =>
  entry X G W (batch (y 0)) (place (y 0)) ⟨o + (y 1).val, lt_of_lt_of_le (Nat.add_lt_add_left (y 1).isLt o) ho⟩

/-- The queries over the root of the width, the keys and the values, by rows. -/
def qkv (X : S16x64x1024.Idx → EReal) (G : S1024.Idx → EReal) (W : S1024x3072.Idx → EReal) : S1024x1536.Idx → EReal := fun y =>
  if (y 1).val < 512 then entry X G W (batch (y 0)) (place (y 0)) ⟨(y 1).val, lt_trans (y 1).isLt (by decide)⟩ * Ideal.ofBits .f32 0x3E000000#32
  else entry X G W (batch (y 0)) (place (y 0)) ⟨(y 1).val, lt_trans (y 1).isLt (by decide)⟩

/-- The other columns, by rows. -/
def rest (X : S16x64x1024.Idx → EReal) (G : S1024.Idx → EReal) (W : S1024x3072.Idx → EReal) : S1024x1536.Idx → EReal := fun y =>
  entry X G W (batch (y 0)) (place (y 0)) ⟨1536 + (y 1).val, lt_of_lt_of_eq (Nat.add_lt_add_left (y 1).isLt 1536) rfl⟩

section Payloads

variable (P0 : Vec Ideal S512x1024 .f32) (P1 : Vec Ideal S1x1024 .f32)

theorem pay3 (r : Fin 512) (d : Fin 1024) : k0_pay3 P0 P1 (ix2 r d) = normed (fun d => P0 (ix2 r d)) (fun d => P1 (ix2 0 d)) d := by
  pointwise [k0_pay3]
  rfl

theorem pay4 (P2 : Vec Ideal S1024x512 .bf16) (r k : Fin 512) :
    k0_pay4 P0 P1 P2 (ix2 r k) = product (fun d => P0 (ix2 r d)) (fun d => P1 (ix2 0 d)) (fun d => P2 (ix2 d k)) * Ideal.ofBits .f32 0x3E000000#32 := by
  pointwise [k0_pay4]
  simp only [pay3]
  rfl

theorem pay5 (P2 : Vec Ideal S1024x512 .bf16) (r k : Fin 512) :
    k0_pay5 P0 P1 P2 (ix2 r k) = product (fun d => P0 (ix2 r d)) (fun d => P1 (ix2 0 d)) (fun d => P2 (ix2 d k)) := by
  pointwise [k0_pay5]
  simp only [pay3]
  rfl

theorem pay6 (P2 : Vec Ideal S1024x512 .bf16) (r k : Fin 512) :
    k0_pay6 P0 P1 P2 (ix2 r k) = product (fun d => P0 (ix2 r d)) (fun d => P1 (ix2 0 d)) (fun d => P2 (ix2 d k)) := by
  pointwise [k0_pay6]
  simp only [pay3]
  rfl

theorem pay2 (P2 : Vec Ideal S1024x1536 .bf16) (r : Fin 512) (k : Fin 1536) :
    k0_pay2 (k0_pay3 P0 P1) P2 (ix2 r k) = product (fun d => P0 (ix2 r d)) (fun d => P1 (ix2 0 d)) (fun d => P2 (ix2 d k)) := by
  pointwise [k0_pay2]
  simp only [pay3]
  rfl

theorem pay7 (P2 : Vec Ideal S1024x512 .bf16) (r k : Fin 512) : k0_pay7 P0 P1 P2 (ix2 r k) = k0_pay5 P0 P1 P2 (ix2 r k) := by
  pointwise [k0_pay7]

theorem pay1 (A : FVec Ideal S512x512 .f32) (r k : Fin 512) : k0_pay1 A (ix2 r k) = A (ix2 r k) := by
  pointwise [k0_pay1]

end Payloads

variable (m : (ℓ : Loc nD τ sig) → Buf (Elt Ideal) ℓ) (c : Dev nD)

/-- The rows, the gain and the weights. -/
abbrev argX : S16x64x1024.Idx → EReal := m ((c.tc : Thread nD τ).loc main_arg0)
abbrev argG : S1024.Idx → EReal := m ((c.tc : Thread nD τ).loc main_arg1)
abbrev argW : S1024x3072.Idx → EReal := m ((c.tc : Thread nD τ).loc main_arg2)

theorem idx0 : ∀ t : Fin (cfg0).N, win0_0.index t = ![t.val, 0] := (by decide +kernel : ∀ t : Fin grid0.N, _)
theorem idx1 : ∀ t : Fin (cfg0).N, win0_1.index t = ![0, 0] := (by decide +kernel : ∀ t : Fin grid0.N, _)
theorem idx2 : ∀ t : Fin (cfg0).N, win0_2.index t = ![0, 0] := (by decide +kernel : ∀ t : Fin grid0.N, _)
theorem idx4 : ∀ t : Fin (cfg0).N, win0_4.index t = ![t.val, 0] := (by decide +kernel : ∀ t : Fin grid0.N, _)
theorem idx5 : ∀ t : Fin (cfg0).N, win0_5.index t = ![t.val, 0] := (by decide +kernel : ∀ t : Fin grid0.N, _)
theorem idx6 : ∀ t : Fin (cfg0).N, win0_6.index t = ![t.val, 0] := (by decide +kernel : ∀ t : Fin grid0.N, _)
theorem idx7 : ∀ t : Fin (cfg0).N, win0_7.index t = ![t.val, 0] := (by decide +kernel : ∀ t : Fin grid0.N, _)

theorem V3 : (V m c main_v3 : S1024x1024.Idx → EReal) = shapeCast S1024x1024 (argX m c) shapeCasts_S16x64x1024_S1024x1024 := by
  simp only [V, hostOps0]
  after_results <;> rfl
theorem V4 : (V m c main_v4 : S1x1024.Idx → EReal) = shapeCast S1x1024 (argG m c) shapeCasts_S1024_S1x1024 := by
  simp only [V, hostOps0]
  after_results <;> rfl
theorem V5 : (V m c main_v5 : S1024x3072.Idx → EReal) = argW m c := by
  simp only [V, hostOps0]
  after_results <;> rfl

theorem V3_apply (y : S1024x1024.Idx) (i : Fin 16) (j : Fin 64) (d : Fin 1024) (hi : (y 0).val / 64 = i.val) (hj : (y 0).val % 64 = j.val)
    (hd : (y 1).val = d.val) : (V m c main_v3 : S1024x1024.Idx → EReal) y = argX m c (ix3 i j d) := by
  rw [V3, ValueIdx.eq_ix2 y]
  pointwise []
  exact congr3 (fun i j d => argX m c (ix3 i j d)) hi hj hd

theorem V4_apply (y : S1x1024.Idx) (d : Fin 1024) (hd : (y 1).val = d.val) :
    (V m c main_v4 : S1x1024.Idx → EReal) y = argG m c (ix1 d) := by
  rw [V4, ValueIdx.eq_ix2 y]
  pointwise []
  exact congrArg (argG m c) (congrArg ix1 (Fin.ext hd))

theorem blk0 (t : Fin (cfg0).N) (r : Fin 512) (d : Fin 1024) (i : Fin 16) (j : Fin 64) (hi : (t.val * 512 + r.val) / 64 = i.val)
    (hj : (t.val * 512 + r.val) % 64 = j.val) : View.ld (iblk m c 0 t) r0_0 (ix2 r d) = argX m c (ix3 i j d) := by
  refine (congrFun (View.ld_unit_lit _ _ zeros) _).trans ?_
  blk_simp [iblk, idx0]
  refine V3_apply m c _ i j d ?_ ?_ ?_
  · blk_simp [idx0]
    exact hi
  · blk_simp [idx0]
    exact hj
  · blk_simp [idx0]

theorem blk1 (t : Fin (cfg0).N) (d : Fin 1024) : View.ld (iblk m c 1 t) r0_1 (ix2 0 d) = argG m c (ix1 d) := by
  refine (congrFun (View.ld_unit_lit _ _ zeros) _).trans ?_
  blk_simp [iblk, idx1]
  refine V4_apply m c _ d ?_
  blk_simp [idx1]

theorem blk2 (t : Fin (cfg0).N) (y : S1024x3072.Idx) : (iblk m c 2 t : S1024x3072.Idx → EReal) y = argW m c y := by
  blk_simp [iblk, idx2]
  rw [V5]
  refine congrArg (argW m c) (funext (Fin.forall_fin_two.mpr ⟨Fin.ext ?_, Fin.ext ?_⟩))
  · blk_simp [idx2]
  · blk_simp [idx2]

theorem ldq (t : Fin (cfg0).N) (d : Fin 1024) (k : Fin 512) (k' : Fin 3072) (hk : k.val = k'.val) : View.ld (iblk m c 2 t) r0_2 (ix2 d k) = argW m c (ix2 d k') :=
  (View.ld_unit_apply_of _ _ _ _ _ (ix2 d k' : S1024x3072.Idx) (Fin.forall_fin_two.mpr ⟨(Nat.zero_add _).symm, hk.symm.trans (Nat.zero_add _).symm⟩)).trans (blk2 m c t _)

theorem ldr (t : Fin (cfg0).N) (d : Fin 1024) (k : Fin 1536) (k' : Fin 3072) (hk : 1536 + k.val = k'.val) : View.ld (iblk m c 2 t) r0_9 (ix2 d k) = argW m c (ix2 d k') := by
  refine (View.ld_unit_apply_of _ _ _ _ _ (ix2 d k' : S1024x3072.Idx) ?_).trans (blk2 m c t _)
  exact Fin.forall_fin_two.mpr ⟨(Nat.zero_add _).symm, hk.symm⟩

theorem ldk (t : Fin (cfg0).N) (d : Fin 1024) (k : Fin 512) (k' : Fin 3072) (hk : 512 + k.val = k'.val) : View.ld (iblk m c 2 t) r0_4 (ix2 d k) = argW m c (ix2 d k') := by
  refine (View.ld_unit_apply_of _ _ _ _ _ (ix2 d k' : S1024x3072.Idx) ?_).trans (blk2 m c t _)
  exact Fin.forall_fin_two.mpr ⟨(Nat.zero_add _).symm, hk.symm⟩

theorem ldv (t : Fin (cfg0).N) (d : Fin 1024) (k : Fin 512) (k' : Fin 3072) (hk : 1024 + k.val = k'.val) : View.ld (iblk m c 2 t) r0_5 (ix2 d k) = argW m c (ix2 d k') := by
  refine (View.ld_unit_apply_of _ _ _ _ _ (ix2 d k' : S1024x3072.Idx) ?_).trans (blk2 m c t _)
  exact Fin.forall_fin_two.mpr ⟨(Nat.zero_add _).symm, hk.symm⟩

theorem emb4_0 (t : Fin (cfg0).N) (y : S512x512.Idx) : ((win0_4.blk t).view.emb y 0).val = t.val * 512 + (y 0).val := by
  blk_simp [idx4]
theorem emb4_1 (t : Fin (cfg0).N) (y : S512x512.Idx) : ((win0_4.blk t).view.emb y 1).val = (y 1).val := by
  blk_simp [idx4]

theorem emb5_0 (t : Fin (cfg0).N) (y : S512x512.Idx) : ((win0_5.blk t).view.emb y 0).val = t.val * 512 + (y 0).val := by
  blk_simp [idx5]
theorem emb5_1 (t : Fin (cfg0).N) (y : S512x512.Idx) : ((win0_5.blk t).view.emb y 1).val = (y 1).val := by
  blk_simp [idx5]

theorem emb6_0 (t : Fin (cfg0).N) (y : S512x1536.Idx) : ((win0_6.blk t).view.emb y 0).val = t.val * 512 + (y 0).val := by
  blk_simp [idx6]
theorem emb6_1 (t : Fin (cfg0).N) (y : S512x1536.Idx) : ((win0_6.blk t).view.emb y 1).val = (y 1).val := by
  blk_simp [idx6]

theorem emb7_0 (t : Fin (cfg0).N) (y : S512x1536.Idx) : ((win0_7.blk t).view.emb y 0).val = t.val * 512 + (y 0).val := by
  blk_simp [idx7]
theorem emb7_1 (t : Fin (cfg0).N) (y : S512x1536.Idx) : ((win0_7.blk t).view.emb y 1).val = (y 1).val := by
  blk_simp [idx7]

/-- The projection of the arguments. -/
abbrev ent (i : Fin 16) (j : Fin 64) (k : Fin 3072) : EReal := entry (argX m c) (argG m c) (argW m c) i j k

section Blocks

variable (t : Fin (cfg0).N) (r : Fin 512) (i : Fin 16) (j : Fin 64) (k' : Fin 3072)
  (hi : (t.val * 512 + r.val) / 64 = i.val) (hj : (t.val * 512 + r.val) % 64 = j.val)

include hi hj

theorem at_q (k : Fin 512) (hk : k.val = k'.val) :
    k0_pay4 (View.ld (iblk m c 0 t) r0_0) (View.ld (iblk m c 1 t) r0_1) (View.ld (iblk m c 2 t) r0_2) (ix2 r k) = ent m c i j k' * Ideal.ofBits .f32 0x3E000000#32 :=
  (pay4 _ _ _ r k).trans (congrArg (· * Ideal.ofBits .f32 0x3E000000#32)
    (product_congr (fun d => blk0 m c t r d i j hi hj) (blk1 m c t) (fun d => ldq m c t d k k' hk)))

theorem at_k (k : Fin 512) (hk : 512 + k.val = k'.val) :
    k0_pay5 (View.ld (iblk m c 0 t) r0_0) (View.ld (iblk m c 1 t) r0_1) (View.ld (iblk m c 2 t) r0_4) (ix2 r k) = ent m c i j k' :=
  (pay5 _ _ _ r k).trans (product_congr (fun d => blk0 m c t r d i j hi hj) (blk1 m c t) (fun d => ldk m c t d k k' hk))

theorem at_v (k : Fin 512) (hk : 1024 + k.val = k'.val) :
    k0_pay6 (View.ld (iblk m c 0 t) r0_0) (View.ld (iblk m c 1 t) r0_1) (View.ld (iblk m c 2 t) r0_5) (ix2 r k) = ent m c i j k' :=
  (pay6 _ _ _ r k).trans (product_congr (fun d => blk0 m c t r d i j hi hj) (blk1 m c t) (fun d => ldv m c t d k k' hk))

theorem at_r (k : Fin 1536) (hk : 1536 + k.val = k'.val) :
    k0_pay2 (k0_pay3 (View.ld (iblk m c 0 t) r0_0) (View.ld (iblk m c 1 t) r0_1)) (View.ld (iblk m c 2 t) r0_9) (ix2 r k) = ent m c i j k' :=
  (pay2 _ _ _ r k).trans (product_congr (fun d => blk0 m c t r d i j hi hj) (blk1 m c t) (fun d => ldr m c t d k k' hk))

end Blocks

theorem final4 : (dats m 0 c).arrAt 4 (cfg0).N = columns 512 (by decide) (argX m c) (argG m c) (argW m c) := by
  refine (dats m 0 c).arrAt_eq_of_covers 4 _ (by decide +kernel) fun t hf y => ?_
  blk_simp [idx4]
  rw [after0_4]
  unfold columns out0_4
  refine (congrFun (View.canon_cons_unit_lit _ _ _ zeros) y).trans ((congrArg (k0_pay5 _ _ _) (ValueIdx.eq_ix2 y)).trans (at_k m c t _ _ _ _ ?_ ?_ _ ?_))
  · exact congrArg (· / 64) (emb4_0 t y).symm
  · exact congrArg (· % 64) (emb4_0 t y).symm
  · exact congrArg (512 + ·) (emb4_1 t y).symm

theorem final5 : (dats m 0 c).arrAt 5 (cfg0).N = columns 1024 (by decide) (argX m c) (argG m c) (argW m c) := by
  refine (dats m 0 c).arrAt_eq_of_covers 5 _ (by decide +kernel) fun t hf y => ?_
  blk_simp [idx5]
  rw [after0_5]
  unfold columns out0_5
  refine (congrFun (View.canon_cons_unit_lit _ _ _ zeros) y).trans ((congrArg (k0_pay6 _ _ _) (ValueIdx.eq_ix2 y)).trans (at_v m c t _ _ _ _ ?_ ?_ _ ?_))
  · exact congrArg (· / 64) (emb5_0 t y).symm
  · exact congrArg (· % 64) (emb5_0 t y).symm
  · exact congrArg (1024 + ·) (emb5_1 t y).symm

theorem final7 : (dats m 0 c).arrAt 7 (cfg0).N = rest (argX m c) (argG m c) (argW m c) := by
  refine (dats m 0 c).arrAt_eq_of_covers 7 _ (by decide +kernel) fun t hf y => ?_
  blk_simp [idx7]
  rw [after0_7]
  unfold rest out0_7
  refine (congrFun (View.canon_cons_unit_lit _ _ _ zeros) y).trans ((congrArg (k0_pay2 _ _) (ValueIdx.eq_ix2 y)).trans (at_r m c t _ _ _ _ ?_ ?_ _ ?_))
  · exact congrArg (· / 64) (emb7_0 t y).symm
  · exact congrArg (· % 64) (emb7_0 t y).symm
  · exact congrArg (1536 + ·) (emb7_1 t y).symm

/-- The block of `qkv` at a point. -/
def qkvBlock (t : Fin (cfg0).N) : Vec Ideal S512x1536 .bf16 := fun y => qkv (argX m c) (argG m c) (argW m c) ((win0_6.blk t).view.emb y)

theorem qkvBlock_q (t : Fin (cfg0).N) (y : S512x1536.Idx) (r k : Fin 512) (hr : (y 0).val = r.val) (hk : (y 1).val = k.val) :
    k0_pay4 (View.ld (iblk m c 0 t) r0_0) (View.ld (iblk m c 1 t) r0_1) (View.ld (iblk m c 2 t) r0_2) (ix2 r k) = qkvBlock m c t y := by
  unfold qkvBlock qkv
  blk_simp [idx6]
  rw [if_pos (hk ▸ k.isLt)]
  refine at_q m c t r _ _ _ ?_ ?_ k ?_
  · exact congrArg (· / 64) ((emb6_0 t y).trans (congrArg (t.val * 512 + ·) hr)).symm
  · exact congrArg (· % 64) ((emb6_0 t y).trans (congrArg (t.val * 512 + ·) hr)).symm
  · exact hk.symm

theorem qkvBlock_k (t : Fin (cfg0).N) (y : S512x1536.Idx) (r k : Fin 512) (hr : (y 0).val = r.val) (hk : (y 1).val = 512 + k.val) :
    k0_pay5 (View.ld (iblk m c 0 t) r0_0) (View.ld (iblk m c 1 t) r0_1) (View.ld (iblk m c 2 t) r0_4) (ix2 r k) = qkvBlock m c t y := by
  unfold qkvBlock qkv
  blk_simp [idx6]
  rw [if_neg (by omega)]
  refine at_k m c t r _ _ _ ?_ ?_ k ?_
  · exact congrArg (· / 64) ((emb6_0 t y).trans (congrArg (t.val * 512 + ·) hr)).symm
  · exact congrArg (· % 64) ((emb6_0 t y).trans (congrArg (t.val * 512 + ·) hr)).symm
  · exact hk.symm

theorem qkvBlock_v (t : Fin (cfg0).N) (y : S512x1536.Idx) (r k : Fin 512) (hr : (y 0).val = r.val) (hk : (y 1).val = 1024 + k.val) :
    k0_pay6 (View.ld (iblk m c 0 t) r0_0) (View.ld (iblk m c 1 t) r0_1) (View.ld (iblk m c 2 t) r0_5) (ix2 r k) = qkvBlock m c t y := by
  unfold qkvBlock qkv
  blk_simp [idx6]
  rw [if_neg (by omega)]
  refine at_v m c t r _ _ _ ?_ ?_ k ?_
  · exact congrArg (· / 64) ((emb6_0 t y).trans (congrArg (t.val * 512 + ·) hr)).symm
  · exact congrArg (· % 64) ((emb6_0 t y).trans (congrArg (t.val * 512 + ·) hr)).symm
  · exact hk.symm

theorem final6 : (dats m 0 c).arrAt 6 (cfg0).N = qkv (argX m c) (argG m c) (argW m c) := by
  refine (dats m 0 c).arrAt_eq_of_covers 6 _ (by decide +kernel) fun t hf y => ?_
  blk_simp [idx6]
  rw [after0_6]
  unfold out0_6
  refine (View.canon_apply_of_pieces (qkvBlock m c t) _ ?_ y (cover0_6 _ _ _ y))
  intro pc hpc
  rcases List.mem_cons.mp hpc with rfl | hpc
  · intro x
    refine (congrArg (k0_pay1 _) (ValueIdx.eq_ix2 x)).trans ((pay1 _ _ _).trans (qkvBlock_v m c t _ _ _ ?_ ?_))
    · show 0 + 1 * (x 0).val = (x 0).val
      omega
    · show 1024 + 1 * (x 1).val = 1024 + (x 1).val
      omega
  rcases List.mem_cons.mp hpc with rfl | hpc
  · intro x
    refine (congrArg (k0_pay7 _ _ _) (ValueIdx.eq_ix2 x)).trans ((pay7 _ _ _ _ _).trans (qkvBlock_k m c t _ _ _ ?_ ?_))
    · show 0 + 1 * (x 0).val = (x 0).val
      omega
    · show 512 + 1 * (x 1).val = 512 + (x 1).val
      omega
  rcases List.mem_cons.mp hpc with rfl | hpc
  · intro x
    refine (congrArg (k0_pay4 _ _ _) (ValueIdx.eq_ix2 x)).trans (qkvBlock_q m c t _ _ _ ?_ ?_)
    · show 0 + 1 * (x 0).val = (x 0).val
      omega
    · show 0 + 1 * (x 1).val = (x 1).val
      omega
  nomatch hpc

end Cert.Proof.L.Sample

end
-- ==== Proof.L.SampleRef.lean ====
/-
  The sample's projection: the reference's results, and the value claim.
-/
module

public import proofs.«01_k».proof.Proof.L.Sample
public import proofs.«01_k».proof.Proof.Gen.Reference3Ideal.Run
public import proofs.«01_k».proof.Defs

@[expose] public section

noncomputable section

namespace Cert.Proof.L.Sample

open Idealize.ShloMosaic Idealize.SL.Sem

section Reference

open Cert.Reference3Ideal Cert.Reference3Ideal.Gen Cert.Reference3Ideal.Facts

variable (X : FVec Ideal S16x64x1024 .f32) (G : FVec Ideal S1024 .f32) (W : FVec Ideal S1024x3072 .f32)

/-- The normalised rows. -/
def rows : FVec Ideal S16x64x1024 .f32 := (mulf (mulf X (broadcastInDim S16x64x1024 ![0, 1, 2] bcast_S16x64x1_S16x64x1024_0_1_2 (Host.rsqrt (addf (Host.divf (broadcastInDim S16x64x1 ![0, 1] bcast_S16x64_S16x64x1_0_1 (Host.reduceAdd (mulf X X) (constant S_ .f32 0x00000000#32) reducesTo_S16x64x1024_S16x64_d2 h_S_)) (broadcastInDim S16x64x1 ![] bcast_S_S16x64x1 (constant S_ .f32 0x44800000#32))) (broadcastInDim S16x64x1 ![] bcast_S_S16x64x1 (constant S_ .f32 0x358637BD#32)))))) (broadcastInDim S16x64x1024 ![0, 1, 2] bcast_S1x1x1024_S16x64x1024_0_1_2 (broadcastInDim S1x1x1024 ![2] bcast_S1024_S1x1x1024_2 G)))

/-- Their product with the weights. -/
def full : FVec Ideal S16x64x3072 .f32 := Host.dotGeneral dot_S16x64x1024_S1024x3072_S16x64x3072_2_0_01_1_n_n none (rows X G) W

theorem rows_apply (b : Fin 16) (t : Fin 64) (d : Fin 1024) : rows X G (ix3 b t d) = normed (fun d => X (ix3 b t d)) (fun d => G (ix1 d)) d := by
  pointwise [rows]
  rfl

theorem full_apply (b : Fin 16) (t : Fin 64) (k : Fin 3072) : full X G W (ix3 b t k) = entry X G W b t k := by
  pointwise [full]
  simp only [rows_apply]
  rfl

def keys : FVec Ideal S1024x512 .f32 :=
  shapeCast _ (extractStridedSlice S16x64x512 ![0, 0, 512] (full X G W) slices_S16x64x3072_S16x64x512_0_0_512) shapeCasts_S16x64x512_S1024x512

def values : FVec Ideal S1024x512 .f32 :=
  shapeCast _ (extractStridedSlice S16x64x512 ![0, 0, 1024] (full X G W) slices_S16x64x3072_S16x64x512_0_0_1024) shapeCasts_S16x64x512_S1024x512

def others : FVec Ideal S1024x1536 .f32 :=
  shapeCast _ (extractStridedSlice S16x64x1536 ![0, 0, 1536] (full X G W) slices_S16x64x3072_S16x64x1536_0_0_1536) shapeCasts_S16x64x1536_S1024x1536

def joined : FVec Ideal S16x64x1536 .f32 :=
  concatenate S16x64x1536 2 [⟨S16x64x512, ((Host.divf (extractStridedSlice S16x64x512 ![0, 0, 0] (full X G W) slices_S16x64x3072_S16x64x512_0_0_0) (broadcastInDim S16x64x512 ![] bcast_S_S16x64x512 (constant S_ .f32 0x41000000#32))) : FVec Ideal S16x64x512 .f32)⟩,
    ⟨S16x64x512, (extractStridedSlice S16x64x512 ![0, 0, 512] (full X G W) slices_S16x64x3072_S16x64x512_0_0_512 : FVec Ideal S16x64x512 .f32)⟩,
    ⟨S16x64x512, (extractStridedSlice S16x64x512 ![0, 0, 1024] (full X G W) slices_S16x64x3072_S16x64x512_0_0_1024 : FVec Ideal S16x64x512 .f32)⟩] concatenates_S16x64x512_S16x64x512_S16x64x512_S16x64x1536_d2

def joinedRows : FVec Ideal S1024x1536 .bf16 := shapeCast _ (truncf .bf16 (joined X G W) bitsLt_bf16_f32) shapeCasts_S16x64x1536_S1024x1536

theorem keys_apply (r : Fin 1024) (k : Fin 512) : keys X G W (ix2 r k) = columns 512 (by decide) X G W (ix2 r k) := by
  pointwise [keys]
  exact full_apply X G W _ _ _

theorem values_apply (r : Fin 1024) (k : Fin 512) : values X G W (ix2 r k) = columns 1024 (by decide) X G W (ix2 r k) := by
  pointwise [values]
  exact full_apply X G W _ _ _

theorem others_apply (r : Fin 1024) (k : Fin 1536) : others X G W (ix2 r k) = rest X G W (ix2 r k) := by
  pointwise [others]
  exact full_apply X G W _ _ _

theorem joined_apply (b : Fin 16) (t : Fin 64) (k : Fin 1536) : joined X G W (ix3 b t k)
    = if k.val < 512 then entry X G W b t ⟨k.val, lt_trans k.isLt (by decide)⟩ * Ideal.ofBits .f32 0x3E000000#32
      else entry X G W b t ⟨k.val, lt_trans k.isLt (by decide)⟩ := by
  pointwise [joined]
  simp only [full_apply]
  split
  · exact div_eight _
  · split
    · exact congrArg (entry X G W b t) (Fin.ext (by show 512 + (k.val - 512) = k.val; omega))
    · exact congrArg (entry X G W b t) (Fin.ext (by show 1024 + (k.val - 512 - 512) = k.val; omega))

theorem joinedRows_apply (r : Fin 1024) (k : Fin 1536) : joinedRows X G W (ix2 r k) = qkv X G W (ix2 r k) := by
  pointwise [joinedRows]
  exact joined_apply X G W _ _ _

end Reference

theorem algebraic [hK : Cert.Kernel3Ideal.Facts] [hR : Cert.Reference3Ideal.Facts] : Cert.algebraic_Kernel3Ideal_Reference3Ideal := by
  intro m g m' g' _ hagree
  refine ⟨_, _, _, _, Cert.Kernel3Ideal.Value.run_blocks m g, ?_⟩
  refine (θ_run Cert.Reference3Ideal.defs _ _).mono
    (fun _ h c => ⟨(h c).1.trans ?_, (h c).2.1.trans ?_, (h c).2.2.1.trans ?_, (h c).2.2.2.1.trans ?_, (h c).2.2.2.2⟩) (Cert.Reference3Ideal.Value.run (F := Ideal) m' g')
  · obtain ⟨e0, e1, e2⟩ := hagree c
    rw [e0, e1, e2]
    exact (funext fun y => (congrArg _ (ValueIdx.eq_ix2 y)).trans ((keys_apply _ _ _ _ _).trans (congrArg _ (ValueIdx.eq_ix2 y).symm))).trans (final4 m c).symm
  · obtain ⟨e0, e1, e2⟩ := hagree c
    rw [e0, e1, e2]
    exact (funext fun y => (congrArg _ (ValueIdx.eq_ix2 y)).trans ((values_apply _ _ _ _ _).trans (congrArg _ (ValueIdx.eq_ix2 y).symm))).trans (final5 m c).symm
  · obtain ⟨e0, e1, e2⟩ := hagree c
    rw [e0, e1, e2]
    exact (funext fun y => (congrArg _ (ValueIdx.eq_ix2 y)).trans ((joinedRows_apply _ _ _ _ _).trans (congrArg _ (ValueIdx.eq_ix2 y).symm))).trans (final6 m c).symm
  · obtain ⟨e0, e1, e2⟩ := hagree c
    rw [e0, e1, e2]
    exact (funext fun y => (congrArg _ (ValueIdx.eq_ix2 y)).trans ((others_apply _ _ _ _ _).trans (congrArg _ (ValueIdx.eq_ix2 y).symm))).trans (final7 m c).symm

end Cert.Proof.L.Sample

end
-- ==== Proof.lean ====
module

public import proofs.«01_k».proof.Defs
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal
public import proofs.«01_k».proof.Proof.Gen.Reference6Ideal.Run
public import proofs.«01_k».proof.Proof.Claims
public import proofs.«01_k».proof.Proof.V.Value
public import proofs.«01_k».proof.Proof.L.Frames
public import proofs.«01_k».proof.Proof.L.Mem
public import proofs.«01_k».proof.Proof.L.Epi
public import proofs.«01_k».proof.Proof.L.Tail
public import proofs.«01_k».proof.Proof.L.PromptRef
public import proofs.«01_k».proof.Proof.L.SampleRef

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, V.pre_facts, L.Epi.pre_facts, L.Tail.pre_facts,
    frame_p, frame_pi, fun m g _ => PI.run_frame m g, frame_ri, fun m g _ => run_ri m g,
    L.frame_p2, L.frame_pi2, L.frame_ri2, L.frame_p3, L.frame_pi3, L.frame_ri3, L.frame_p4, L.frame_pi4, L.frame_ri4,
    L.frame_p5, L.frame_pi5, fun m g _ => L.frame_pi5 m g True.intro, L.frame_ri5, fun m g _ => L.frame_ri5 m g True.intro,
    L.frame_p6, L.frame_pi6, fun m g _ => L.frame_pi6 m g True.intro, L.frame_ri6, fun m g _ => L.frame_ri6 m g True.intro,
    preserves, V.algebraic (hPre := V.pre_facts), trivial, L.Prompt.algebraic, trivial, L.Sample.algebraic, trivial, L.Mem.algebraic, trivial, L.Epi.algebraic (hPre := L.Epi.pre_facts), trivial,
    L.Tail.algebraic (hPre := L.Tail.pre_facts)⟩

end Cert.Proof

end
